-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)) (v8 : (c : Dev Cert.Kernel3Ideal.nD) → Buf (Elt Ideal) ((c.tc : Thread Cert.Kernel3Ideal.nD Cert.Kernel3Ideal.τ).loc Cert.Kernel3Ideal.main_v6_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_v6_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_v26) = v4 c
          ∧ r.2.mem ((c.tc : Thread Cert.Reference3Ideal.nD Cert.Reference3Ideal.τ).loc Cert.Reference3Ideal.main_v27) = v5 c
          ∧ r.2.mem ((c.tc : Thread Cert.Reference3Ideal.nD Cert.Reference3Ideal.τ).loc Cert.Reference3Ideal.main_v28) = v6 c
          ∧ r.2.mem ((c.tc : Thread Cert.Reference3Ideal.nD Cert.Reference3Ideal.τ).loc Cert.Reference3Ideal.main_v29) = v7 c
          ∧ r.2.mem ((c.tc : Thread Cert.Reference3Ideal.nD Cert.Reference3Ideal.τ).loc Cert.Reference3Ideal.main_v30) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)) (v5 : (c : Dev Cert.Kernel6Ideal.nD) → Buf (Elt Ideal) ((c.tc : Thread Cert.Kernel6Ideal.nD Cert.Kernel6Ideal.τ).loc Cert.Kernel6Ideal.main_v18_5)) (v6 : (c : Dev Cert.Kernel6Ideal.nD) → Buf (Elt Ideal) ((c.tc : Thread Cert.Kernel6Ideal.nD Cert.Kernel6Ideal.τ).loc Cert.Kernel6Ideal.main_v18_6)) (v7 : (c : Dev Cert.Kernel6Ideal.nD) → Buf (Elt Ideal) ((c.tc : Thread Cert.Kernel6Ideal.nD Cert.Kernel6Ideal.τ).loc Cert.Kernel6Ideal.main_v18_7)) (v8 : (c : Dev Cert.Kernel6Ideal.nD) → Buf (Elt Ideal) ((c.tc : Thread Cert.Kernel6Ideal.nD Cert.Kernel6Ideal.τ).loc Cert.Kernel6Ideal.main_v18_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_v18_5) = v5 c
          ∧ r.2.mem ((c.tc : Thread Cert.Kernel6Ideal.nD Cert.Kernel6Ideal.τ).loc Cert.Kernel6Ideal.main_v18_6) = v6 c
          ∧ r.2.mem ((c.tc : Thread Cert.Kernel6Ideal.nD Cert.Kernel6Ideal.τ).loc Cert.Kernel6Ideal.main_v18_7) = v7 c
          ∧ r.2.mem ((c.tc : Thread Cert.Kernel6Ideal.nD Cert.Kernel6Ideal.τ).loc Cert.Kernel6Ideal.main_v18_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_v41) = v4 c
          ∧ r.2.mem ((c.tc : Thread Cert.Reference6Ideal.nD Cert.Reference6Ideal.τ).loc Cert.Reference6Ideal.main_v42) = v5 c
          ∧ r.2.mem ((c.tc : Thread Cert.Reference6Ideal.nD Cert.Reference6Ideal.τ).loc Cert.Reference6Ideal.main_v43) = v6 c
          ∧ r.2.mem ((c.tc : Thread Cert.Reference6Ideal.nD Cert.Reference6Ideal.τ).loc Cert.Reference6Ideal.main_v44) = v7 c
          ∧ r.2.mem ((c.tc : Thread Cert.Reference6Ideal.nD Cert.Reference6Ideal.τ).loc Cert.Reference6Ideal.main_v45) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)) →
    ∃ (v0 : (c : Dev Cert.Kernel8Ideal.nD) → Buf (Elt Ideal) ((c.tc : Thread Cert.Kernel8Ideal.nD Cert.Kernel8Ideal.τ).loc Cert.Kernel8Ideal.main_v1_1)) (v1 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_1) = v0 c
          ∧ r.2.mem ((c.tc : Thread Cert.Kernel8Ideal.nD Cert.Kernel8Ideal.τ).loc Cert.Kernel8Ideal.main_v1_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v68) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)) (v3 : (c : Dev Cert.Kernel9Ideal.nD) → Buf (Elt Ideal) ((c.tc : Thread Cert.Kernel9Ideal.nD Cert.Kernel9Ideal.τ).loc Cert.Kernel9Ideal.main_v18_3)) (v4 : (c : Dev Cert.Kernel9Ideal.nD) → Buf (Elt Ideal) ((c.tc : Thread Cert.Kernel9Ideal.nD Cert.Kernel9Ideal.τ).loc Cert.Kernel9Ideal.main_v18_4)) (v5 : (c : Dev Cert.Kernel9Ideal.nD) → Buf (Elt Ideal) ((c.tc : Thread Cert.Kernel9Ideal.nD Cert.Kernel9Ideal.τ).loc Cert.Kernel9Ideal.main_v18_5)) (v6 : (c : Dev Cert.Kernel9Ideal.nD) → Buf (Elt Ideal) ((c.tc : Thread Cert.Kernel9Ideal.nD Cert.Kernel9Ideal.τ).loc Cert.Kernel9Ideal.main_v18_6)) (v7 : (c : Dev Cert.Kernel9Ideal.nD) → Buf (Elt Ideal) ((c.tc : Thread Cert.Kernel9Ideal.nD Cert.Kernel9Ideal.τ).loc Cert.Kernel9Ideal.main_v18_7)) (v8 : (c : Dev Cert.Kernel9Ideal.nD) → Buf (Elt Ideal) ((c.tc : Thread Cert.Kernel9Ideal.nD Cert.Kernel9Ideal.τ).loc Cert.Kernel9Ideal.main_v18_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_v18_3) = v3 c
          ∧ r.2.mem ((c.tc : Thread Cert.Kernel9Ideal.nD Cert.Kernel9Ideal.τ).loc Cert.Kernel9Ideal.main_v18_4) = v4 c
          ∧ r.2.mem ((c.tc : Thread Cert.Kernel9Ideal.nD Cert.Kernel9Ideal.τ).loc Cert.Kernel9Ideal.main_v18_5) = v5 c
          ∧ r.2.mem ((c.tc : Thread Cert.Kernel9Ideal.nD Cert.Kernel9Ideal.τ).loc Cert.Kernel9Ideal.main_v18_6) = v6 c
          ∧ r.2.mem ((c.tc : Thread Cert.Kernel9Ideal.nD Cert.Kernel9Ideal.τ).loc Cert.Kernel9Ideal.main_v18_7) = v7 c
          ∧ r.2.mem ((c.tc : Thread Cert.Kernel9Ideal.nD Cert.Kernel9Ideal.τ).loc Cert.Kernel9Ideal.main_v18_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_v40) = v3 c
          ∧ r.2.mem ((c.tc : Thread Cert.Reference9Ideal.nD Cert.Reference9Ideal.τ).loc Cert.Reference9Ideal.main_v41) = v4 c
          ∧ r.2.mem ((c.tc : Thread Cert.Reference9Ideal.nD Cert.Reference9Ideal.τ).loc Cert.Reference9Ideal.main_v42) = v5 c
          ∧ r.2.mem ((c.tc : Thread Cert.Reference9Ideal.nD Cert.Reference9Ideal.τ).loc Cert.Reference9Ideal.main_v43) = v6 c
          ∧ r.2.mem ((c.tc : Thread Cert.Reference9Ideal.nD Cert.Reference9Ideal.τ).loc Cert.Reference9Ideal.main_v44) = v7 c
          ∧ r.2.mem ((c.tc : Thread Cert.Reference9Ideal.nD Cert.Reference9Ideal.τ).loc Cert.Reference9Ideal.main_v45) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_tables_in_range.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  bcast_S_S1 : S_.BroadcastsInDim S1 (![] : Fin 0 → Fin S1.rank)

variable [Facts]

def fn {F : FTy → Type} [FloatOps F] (main_arg0 : IVec S136 32) (main_arg1 : IVec S1 32) (main_arg2 : FVec F S69632x1024 .f32) (main_arg3 : FVec F S8x1024x3584 .f32) (main_arg4 : FVec F S8x1024x3584 .f32) (main_arg5 : FVec F S8x3584x1024 .f32) : IVec S136 1 × IVec S1 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 7#32
  let main_v2 : IVec S136 32 := broadcastInDim S136 ![] bcast_S_S136 main_c_0
  let main_v3 : IVec S136 1 := cmpi .sle main_arg0 main_v2
  let main_v4 : IVec S136 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 12
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32_21 : BitVec 32 := 1#32
  let v32 : BitVec 1 := Scalar.cmpi .eq arg1 c1_i32_21
  let v33 : BitVec 32 := Scalar.extui v32
  let c0_i32_22 : BitVec 32 := 0#32
  let v34 : BitVec 1 := Scalar.cmpi .ne v33 c0_i32_22
  v34

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c1_i32 : BitVec 32 := 1#32
  let v6 : BitVec 1 := Scalar.cmpi .eq arg1 c1_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩
abbrev S136x1 : Shape := ⟨2, ![136, 1]⟩
abbrev S136x512 : Shape := ⟨2, ![136, 512]⟩
abbrev S69632 : Shape := ⟨1, ![69632]⟩
abbrev S69632x1 : Shape := ⟨2, ![69632, 1]⟩
abbrev S1x8 : Shape := ⟨2, ![1, 8]⟩
abbrev S69632x8 : Shape := ⟨2, ![69632, 8]⟩
abbrev S1x1024x3584 : Shape := ⟨3, ![1, 1024, 3584]⟩
abbrev S1024x3584 : Shape := ⟨2, ![1024, 3584]⟩
abbrev S69632x3584 : Shape := ⟨2, ![69632, 3584]⟩
abbrev S1x3584x1024 : Shape := ⟨3, ![1, 3584, 1024]⟩
abbrev S3584x1024 : Shape := ⟨2, ![3584, 1024]⟩

abbrev nBuf : Space → Nat
  | .hbm => 209
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x3584, .f32⟩
  | 4 => ⟨S8x1024x3584, .f32⟩
  | 5 => ⟨S8x3584x1024, .f32⟩
  | 6 => ⟨S136, .i32⟩
  | 7 => ⟨S_, .i32⟩
  | 8 => ⟨S136, .i32⟩
  | 9 => ⟨S136, .i1⟩
  | 10 => ⟨S_, .i32⟩
  | 11 => ⟨S_, .i32⟩
  | 12 => ⟨S136, .i32⟩
  | 13 => ⟨S136, .i32⟩
  | 14 => ⟨S136x1, .i32⟩
  | 15 => ⟨S136x512, .i32⟩
  | 16 => ⟨S69632, .i32⟩
  | 17 => ⟨S69632x1, .i32⟩
  | 18 => ⟨S1x8, .i32⟩
  | 19 => ⟨S69632x8, .i32⟩
  | 20 => ⟨S69632x8, .i32⟩
  | 21 => ⟨S69632x8, .i1⟩
  | 22 => ⟨S69632x8, .f32⟩
  | 23 => ⟨S_, .f32⟩
  | 24 => ⟨S69632x1024, .f32⟩
  | 25 => ⟨S1x1024x3584, .f32⟩
  | 26 => ⟨S1024x3584, .f32⟩
  | 27 => ⟨S69632x3584, .f32⟩
  | 28 => ⟨S69632x3584, .f32⟩
  | 29 => ⟨S69632x3584, .f32⟩
  | 30 => ⟨S_, .f32⟩
  | 31 => ⟨S69632x3584, .f32⟩
  | 32 => ⟨S69632x3584, .f32⟩
  | 33 => ⟨S_, .f32⟩
  | 34 => ⟨S69632x3584, .f32⟩
  | 35 => ⟨S69632x3584, .f32⟩
  | 36 => ⟨S69632x3584, .f32⟩
  | 37 => ⟨S1x1024x3584, .f32⟩
  | 38 => ⟨S1024x3584, .f32⟩
  | 39 => ⟨S69632x3584, .f32⟩
  | 40 => ⟨S69632x3584, .f32⟩
  | 41 => ⟨S1x3584x1024, .f32⟩
  | 42 => ⟨S3584x1024, .f32⟩
  | 43 => ⟨S69632x1024, .f32⟩
  | 44 => ⟨S69632x1, .f32⟩
  | 45 => ⟨S69632x1024, .f32⟩
  | 46 => ⟨S69632x1024, .f32⟩
  | 47 => ⟨S69632x1024, .f32⟩
  | 48 => ⟨S1x1024x3584, .f32⟩
  | 49 => ⟨S1024x3584, .f32⟩
  | 50 => ⟨S69632x3584, .f32⟩
  | 51 => ⟨S69632x3584, .f32⟩
  | 52 => ⟨S69632x3584, .f32⟩
  | 53 => ⟨S_, .f32⟩
  | 54 => ⟨S69632x3584, .f32⟩
  | 55 => ⟨S69632x3584, .f32⟩
  | 56 => ⟨S_, .f32⟩
  | 57 => ⟨S69632x3584, .f32⟩
  | 58 => ⟨S69632x3584, .f32⟩
  | 59 => ⟨S69632x3584, .f32⟩
  | 60 => ⟨S1x1024x3584, .f32⟩
  | 61 => ⟨S1024x3584, .f32⟩
  | 62 => ⟨S69632x3584, .f32⟩
  | 63 => ⟨S69632x3584, .f32⟩
  | 64 => ⟨S1x3584x1024, .f32⟩
  | 65 => ⟨S3584x1024, .f32⟩
  | 66 => ⟨S69632x1024, .f32⟩
  | 67 => ⟨S69632x1, .f32⟩
  | 68 => ⟨S69632x1024, .f32⟩
  | 69 => ⟨S69632x1024, .f32⟩
  | 70 => ⟨S69632x1024, .f32⟩
  | 71 => ⟨S1x1024x3584, .f32⟩
  | 72 => ⟨S1024x3584, .f32⟩
  | 73 => ⟨S69632x3584, .f32⟩
  | 74 => ⟨S69632x3584, .f32⟩
  | 75 => ⟨S69632x3584, .f32⟩
  | 76 => ⟨S_, .f32⟩
  | 77 => ⟨S69632x3584, .f32⟩
  | 78 => ⟨S69632x3584, .f32⟩
  | 79 => ⟨S_, .f32⟩
  | 80 => ⟨S69632x3584, .f32⟩
  | 81 => ⟨S69632x3584, .f32⟩
  | 82 => ⟨S69632x3584, .f32⟩
  | 83 => ⟨S1x1024x3584, .f32⟩
  | 84 => ⟨S1024x3584, .f32⟩
  | 85 => ⟨S69632x3584, .f32⟩
  | 86 => ⟨S69632x3584, .f32⟩
  | 87 => ⟨S1x3584x1024, .f32⟩
  | 88 => ⟨S3584x1024, .f32⟩
  | 89 => ⟨S69632x1024, .f32⟩
  | 90 => ⟨S69632x1, .f32⟩
  | 91 => ⟨S69632x1024, .f32⟩
  | 92 => ⟨S69632x1024, .f32⟩
  | 93 => ⟨S69632x1024, .f32⟩
  | 94 => ⟨S1x1024x3584, .f32⟩
  | 95 => ⟨S1024x3584, .f32⟩
  | 96 => ⟨S69632x3584, .f32⟩
  | 97 => ⟨S69632x3584, .f32⟩
  | 98 => ⟨S69632x3584, .f32⟩
  | 99 => ⟨S_, .f32⟩
  | 100 => ⟨S69632x3584, .f32⟩
  | 101 => ⟨S69632x3584, .f32⟩
  | 102 => ⟨S_, .f32⟩
  | 103 => ⟨S69632x3584, .f32⟩
  | 104 => ⟨S69632x3584, .f32⟩
  | 105 => ⟨S69632x3584, .f32⟩
  | 106 => ⟨S1x1024x3584, .f32⟩
  | 107 => ⟨S1024x3584, .f32⟩
  | 108 => ⟨S69632x3584, .f32⟩
  | 109 => ⟨S69632x3584, .f32⟩
  | 110 => ⟨S1x3584x1024, .f32⟩
  | 111 => ⟨S3584x1024, .f32⟩
  | 112 => ⟨S69632x1024, .f32⟩
  | 113 => ⟨S69632x1, .f32⟩
  | 114 => ⟨S69632x1024, .f32⟩
  | 115 => ⟨S69632x1024, .f32⟩
  | 116 => ⟨S69632x1024, .f32⟩
  | 117 => ⟨S1x1024x3584, .f32⟩
  | 118 => ⟨S1024x3584, .f32⟩
  | 119 => ⟨S69632x3584, .f32⟩
  | 120 => ⟨S69632x3584, .f32⟩
  | 121 => ⟨S69632x3584, .f32⟩
  | 122 => ⟨S_, .f32⟩
  | 123 => ⟨S69632x3584, .f32⟩
  | 124 => ⟨S69632x3584, .f32⟩
  | 125 => ⟨S_, .f32⟩
  | 126 => ⟨S69632x3584, .f32⟩
  | 127 => ⟨S69632x3584, .f32⟩
  | _ => ⟨S136, .i32⟩

abbrev hbmTy0_1 (i : Nat) : BufTy := match i % 128 with
  | 0 => ⟨S69632x3584, .f32⟩
  | 1 => ⟨S1x1024x3584, .f32⟩
  | 2 => ⟨S1024x3584, .f32⟩
  | 3 => ⟨S69632x3584, .f32⟩
  | 4 => ⟨S69632x3584, .f32⟩
  | 5 => ⟨S1x3584x1024, .f32⟩
  | 6 => ⟨S3584x1024, .f32⟩
  | 7 => ⟨S69632x1024, .f32⟩
  | 8 => ⟨S69632x1, .f32⟩
  | 9 => ⟨S69632x1024, .f32⟩
  | 10 => ⟨S69632x1024, .f32⟩
  | 11 => ⟨S69632x1024, .f32⟩
  | 12 => ⟨S1x1024x3584, .f32⟩
  | 13 => ⟨S1024x3584, .f32⟩
  | 14 => ⟨S69632x3584, .f32⟩
  | 15 => ⟨S69632x3584, .f32⟩
  | 16 => ⟨S69632x3584, .f32⟩
  | 17 => ⟨S_, .f32⟩
  | 18 => ⟨S69632x3584, .f32⟩
  | 19 => ⟨S69632x3584, .f32⟩
  | 20 => ⟨S_, .f32⟩
  | 21 => ⟨S69632x3584, .f32⟩
  | 22 => ⟨S69632x3584, .f32⟩
  | 23 => ⟨S69632x3584, .f32⟩
  | 24 => ⟨S1x1024x3584, .f32⟩
  | 25 => ⟨S1024x3584, .f32⟩
  | 26 => ⟨S69632x3584, .f32⟩
  | 27 => ⟨S69632x3584, .f32⟩
  | 28 => ⟨S1x3584x1024, .f32⟩
  | 29 => ⟨S3584x1024, .f32⟩
  | 30 => ⟨S69632x1024, .f32⟩
  | 31 => ⟨S69632x1, .f32⟩
  | 32 => ⟨S69632x1024, .f32⟩
  | 33 => ⟨S69632x1024, .f32⟩
  | 34 => ⟨S69632x1024, .f32⟩
  | 35 => ⟨S1x1024x3584, .f32⟩
  | 36 => ⟨S1024x3584, .f32⟩
  | 37 => ⟨S69632x3584, .f32⟩
  | 38 => ⟨S69632x3584, .f32⟩
  | 39 => ⟨S69632x3584, .f32⟩
  | 40 => ⟨S_, .f32⟩
  | 41 => ⟨S69632x3584, .f32⟩
  | 42 => ⟨S69632x3584, .f32⟩
  | 43 => ⟨S_, .f32⟩
  | 44 => ⟨S69632x3584, .f32⟩
  | 45 => ⟨S69632x3584, .f32⟩
  | 46 => ⟨S69632x3584, .f32⟩
  | 47 => ⟨S1x1024x3584, .f32⟩
  | 48 => ⟨S1024x3584, .f32⟩
  | 49 => ⟨S69632x3584, .f32⟩
  | 50 => ⟨S69632x3584, .f32⟩
  | 51 => ⟨S1x3584x1024, .f32⟩
  | 52 => ⟨S3584x1024, .f32⟩
  | 53 => ⟨S69632x1024, .f32⟩
  | 54 => ⟨S69632x1, .f32⟩
  | 55 => ⟨S69632x1024, .f32⟩
  | 56 => ⟨S69632x1024, .f32⟩
  | 57 => ⟨S69632x1024, .f32⟩
  | 58 => ⟨S1x1024x3584, .f32⟩
  | 59 => ⟨S1024x3584, .f32⟩
  | 60 => ⟨S69632x3584, .f32⟩
  | 61 => ⟨S69632x3584, .f32⟩
  | 62 => ⟨S69632x3584, .f32⟩
  | 63 => ⟨S_, .f32⟩
  | 64 => ⟨S69632x3584, .f32⟩
  | 65 => ⟨S69632x3584, .f32⟩
  | 66 => ⟨S_, .f32⟩
  | 67 => ⟨S69632x3584, .f32⟩
  | 68 => ⟨S69632x3584, .f32⟩
  | 69 => ⟨S69632x3584, .f32⟩
  | 70 => ⟨S1x1024x3584, .f32⟩
  | 71 => ⟨S1024x3584, .f32⟩
  | 72 => ⟨S69632x3584, .f32⟩
  | 73 => ⟨S69632x3584, .f32⟩
  | 74 => ⟨S1x3584x1024, .f32⟩
  | 75 => ⟨S3584x1024, .f32⟩
  | 76 => ⟨S69632x1024, .f32⟩
  | 77 => ⟨S69632x1, .f32⟩
  | 78 => ⟨S69632x1024, .f32⟩
  | 79 => ⟨S69632x1024, .f32⟩
  | 80 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call4_v0 : Ref sig .tc := ⟨.hbm, 74, rfl⟩
abbrev main_call4_v1 : Ref sig .tc := ⟨.hbm, 75, rfl⟩
abbrev main_call4_cst : Ref sig .tc := ⟨.hbm, 76, rfl⟩
abbrev main_call4_v2 : Ref sig .tc := ⟨.hbm, 77, rfl⟩
abbrev main_call4_v3 : Ref sig .tc := ⟨.hbm, 78, rfl⟩
abbrev main_call4_cst_0 : Ref sig .tc := ⟨.hbm, 79, rfl⟩
abbrev main_call4_v4 : Ref sig .tc := ⟨.hbm, 80, rfl⟩
abbrev main_call4_v5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call5_v0 : Ref sig .tc := ⟨.hbm, 97, rfl⟩
abbrev main_call5_v1 : Ref sig .tc := ⟨.hbm, 98, rfl⟩
abbrev main_call5_cst : Ref sig .tc := ⟨.hbm, 99, rfl⟩
abbrev main_call5_v2 : Ref sig .tc := ⟨.hbm, 100, rfl⟩
abbrev main_call5_v3 : Ref sig .tc := ⟨.hbm, 101, rfl⟩
abbrev main_call5_cst_0 : Ref sig .tc := ⟨.hbm, 102, rfl⟩
abbrev main_call5_v4 : Ref sig .tc := ⟨.hbm, 103, rfl⟩
abbrev main_call5_v5 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_call6_v0 : Ref sig .tc := ⟨.hbm, 120, rfl⟩
abbrev main_call6_v1 : Ref sig .tc := ⟨.hbm, 121, rfl⟩
abbrev main_call6_cst : Ref sig .tc := ⟨.hbm, 122, rfl⟩
abbrev main_call6_v2 : Ref sig .tc := ⟨.hbm, 123, rfl⟩
abbrev main_call6_v3 : Ref sig .tc := ⟨.hbm, 124, rfl⟩
abbrev main_call6_cst_0 : Ref sig .tc := ⟨.hbm, 125, rfl⟩
abbrev main_call6_v4 : Ref sig .tc := ⟨.hbm, 126, rfl⟩
abbrev main_call6_v5 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_call8_v0 : Ref sig .tc := ⟨.hbm, 166, rfl⟩
abbrev main_call8_v1 : Ref sig .tc := ⟨.hbm, 167, rfl⟩
abbrev main_call8_cst : Ref sig .tc := ⟨.hbm, 168, rfl⟩
abbrev main_call8_v2 : Ref sig .tc := ⟨.hbm, 169, rfl⟩
abbrev main_call8_v3 : Ref sig .tc := ⟨.hbm, 170, rfl⟩
abbrev main_call8_cst_0 : Ref sig .tc := ⟨.hbm, 171, rfl⟩
abbrev main_call8_v4 : Ref sig .tc := ⟨.hbm, 172, rfl⟩
abbrev main_call8_v5 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_call9_v0 : Ref sig .tc := ⟨.hbm, 189, rfl⟩
abbrev main_call9_v1 : Ref sig .tc := ⟨.hbm, 190, rfl⟩
abbrev main_call9_cst : Ref sig .tc := ⟨.hbm, 191, rfl⟩
abbrev main_call9_v2 : Ref sig .tc := ⟨.hbm, 192, rfl⟩
abbrev main_call9_v3 : Ref sig .tc := ⟨.hbm, 193, rfl⟩
abbrev main_call9_cst_0 : Ref sig .tc := ⟨.hbm, 194, rfl⟩
abbrev main_call9_v4 : Ref sig .tc := ⟨.hbm, 195, rfl⟩
abbrev main_call9_v5 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩

abbrev nD : Nat := 1
abbrev τ : Topo := Topo.v7x

variable {F : FTy → Type} [FloatOps F]
-- ==== Kernel2.lean ====
abbrev S32x1x1024 : Shape := ⟨3, ![32, 1, 1024]⟩
abbrev S1024 : Shape := ⟨1, ![1024]⟩
abbrev S1024x3072 : Shape := ⟨2, ![1024, 3072]⟩
abbrev S32x1024 : Shape := ⟨2, ![32, 1024]⟩
abbrev S1x1024 : Shape := ⟨2, ![1, 1024]⟩
abbrev S32x512 : Shape := ⟨2, ![32, 512]⟩
abbrev S32 : Shape := ⟨1, ![32]⟩
abbrev S32x1 : Shape := ⟨2, ![32, 1]⟩
abbrev S1024x512 : Shape := ⟨2, ![1024, 512]⟩

abbrev nBuf : Space → Nat
  | .hbm => 12
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S1x1024, .f32⟩
  | .hbm, ⟨5, _⟩ => ⟨S1024x3072, .bf16⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512, .f32⟩
  | .hbm, ⟨10, _⟩ => ⟨S32x512, .f32⟩
  | .hbm, ⟨11, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference2Ideal.lean ====
abbrev S32x1x1024 : Shape := ⟨3, ![32, 1, 1024]⟩
abbrev S1024 : Shape := ⟨1, ![1024]⟩
abbrev S1024x3072 : Shape := ⟨2, ![1024, 3072]⟩
abbrev S32x1024 : Shape := ⟨2, ![32, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3072 : Shape := ⟨2, ![32, 3072]⟩
abbrev S32x512 : Shape := ⟨2, ![32, 512]⟩

abbrev nBuf : Space → Nat
  | .hbm => 27
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x3072, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3072 : Shape := ⟨2, ![1024, 3072]⟩
abbrev S32768x1024 : Shape := ⟨2, ![32768, 1024]⟩
abbrev S1024x512 : Shape := ⟨2, ![1024, 512]⟩
abbrev S512x1024 : Shape := ⟨2, ![512, 1024]⟩
abbrev S1x1024 : Shape := ⟨2, ![1, 1024]⟩
abbrev S32768x512 : Shape := ⟨2, ![32768, 512]⟩
abbrev S16x4x2x64x2048 : Shape := ⟨5, ![16, 4, 2, 64, 2048]⟩
abbrev S16x2048x4x128 : Shape := ⟨4, ![16, 2048, 4, 128]⟩
abbrev S512x512 : Shape := ⟨2, ![512, 512]⟩
abbrev S1x4x2x64x512 : Shape := ⟨5, ![1, 4, 2, 64, 512]⟩
abbrev S1x512x4x128 : Shape := ⟨4, ![1, 512, 4, 128]⟩
abbrev S512 : Shape := ⟨1, ![512]⟩
abbrev S512x1 : Shape := ⟨2, ![512, 1]⟩
abbrev S4x2x64x512 : Shape := ⟨4, ![4, 2, 64, 512]⟩
abbrev S512x128 : Shape := ⟨2, ![512, 128]⟩
abbrev S1x512x1x128 : Shape := ⟨4, ![1, 512, 1, 128]⟩

abbrev nBuf : Space → Nat
  | .hbm => 18
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1x1024, .f32⟩
  | .hbm, ⟨8, _⟩ => ⟨S1024x3072, .bf16⟩
  | .hbm, ⟨9, _⟩ => ⟨S32768x512, .bf16⟩
  | .hbm, ⟨10, _⟩ => ⟨S16x4x2x64x2048, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S16x2048x4x128, .f32⟩
  | .hbm, ⟨16, _⟩ => ⟨S16x2048x4x128, .f32⟩
  | .hbm, ⟨17, _⟩ => ⟨S16x2048x4x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S1x4x2x64x512, .f32⟩
  | .local _ .vmem, ⟨8, _⟩ => ⟨S1x4x2x64x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1x512x4x128, .f32⟩
  | .local _ .vmem, ⟨18, _⟩ => ⟨S1x512x4x128, .f32⟩
  | .local _ .vmem, ⟨19, _⟩ => ⟨S1x512x4x128, .f32⟩
  | .local _ .vmem, ⟨20, _⟩ => ⟨S1x512x4x128, .f32⟩
  | .local _ .vmem, ⟨21, _⟩ => ⟨S1x512x4x128, .f32⟩
  | .local _ .vmem, ⟨22, _⟩ => ⟨S1x512x4x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v6_6 : Ref sig .tc := ⟨.hbm, 15, rfl⟩
abbrev main_v6_7 : Ref sig .tc := ⟨.hbm, 16, rfl⟩
abbrev main_v6_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16x2048x1024 : Shape := ⟨3, ![16, 2048, 1024]⟩
abbrev S1024 : Shape := ⟨1, ![1024]⟩
abbrev S1024x3072 : Shape := ⟨2, ![1024, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x512 : Shape := ⟨3, ![16, 2048, 512]⟩
abbrev S32768x512 : Shape := ⟨2, ![32768, 512]⟩
abbrev S16x2048x4x2x64 : Shape := ⟨5, ![16, 2048, 4, 2, 64]⟩
abbrev S16x4x2x64x2048 : Shape := ⟨5, ![16, 4, 2, 64, 2048]⟩
abbrev S16x2048x4x128 : Shape := ⟨4, ![16, 2048, 4, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3072, .f32⟩
  | .hbm, ⟨20, _⟩ => ⟨S16x2048x512, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S32768x512, .f32⟩
  | .hbm, ⟨27, _⟩ => ⟨S32768x512, .bf16⟩
  | .hbm, ⟨28, _⟩ => ⟨S16x2048x4x2x64, .f32⟩
  | .hbm, ⟨29, _⟩ => ⟨S16x4x2x64x2048, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S16x2048x4x128, .f32⟩
  | .hbm, ⟨35, _⟩ => ⟨S16x2048x4x128, .f32⟩
  | .hbm, ⟨36, _⟩ => ⟨S16x2048x4x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 14
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x3744 : Shape := ⟨2, ![1024, 3744]⟩
abbrev S1696 : Shape := ⟨1, ![1696]⟩
abbrev S1024x2048 : Shape := ⟨2, ![1024, 2048]⟩
abbrev S1024x512 : Shape := ⟨2, ![1024, 512]⟩
abbrev S1024x32 : Shape := ⟨2, ![1024, 32]⟩
abbrev S1024x128 : Shape := ⟨2, ![1024, 128]⟩
abbrev S_ : Shape := ⟨0, ![]⟩
abbrev S1024x96 : Shape := ⟨2, ![1024, 96]⟩
abbrev S1024x3840 : Shape := ⟨2, ![1024, 3840]⟩
abbrev S512 : Shape := ⟨1, ![512]⟩
abbrev S32 : Shape := ⟨1, ![32]⟩
abbrev S128 : Shape := ⟨1, ![128]⟩
abbrev S96 : Shape := ⟨1, ![96]⟩
abbrev S1792 : Shape := ⟨1, ![1792]⟩
abbrev S1x1024 : Shape := ⟨2, ![1, 1024]⟩
abbrev S1x1792 : Shape := ⟨2, ![1, 1792]⟩
abbrev S32768x512 : Shape := ⟨2, ![32768, 512]⟩
abbrev S32768x256 : Shape := ⟨2, ![32768, 256]⟩
abbrev S16x1x1024 : Shape := ⟨3, ![16, 1, 1024]⟩
abbrev S512x1024 : Shape := ⟨2, ![512, 1024]⟩
abbrev S512x512 : Shape := ⟨2, ![512, 512]⟩
abbrev S512x256 : Shape := ⟨2, ![512, 256]⟩
abbrev S1x1x1024 : Shape := ⟨3, ![1, 1, 1024]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 33
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3744, .f32⟩
  | .hbm, ⟨3, _⟩ => ⟨S1696, .f32⟩
  | .hbm, ⟨4, _⟩ => ⟨S1024x2048, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x32, .f32⟩
  | .hbm, ⟨9, _⟩ => ⟨S1024x128, .f32⟩
  | .hbm, ⟨10, _⟩ => ⟨S_, .f32⟩
  | .hbm, ⟨11, _⟩ => ⟨S1024x96, .f32⟩
  | .hbm, ⟨12, _⟩ => ⟨S1024x3840, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S32, .f32⟩
  | .hbm, ⟨17, _⟩ => ⟨S128, .f32⟩
  | .hbm, ⟨18, _⟩ => ⟨S_, .f32⟩
  | .hbm, ⟨19, _⟩ => ⟨S96, .f32⟩
  | .hbm, ⟨20, _⟩ => ⟨S1792, .f32⟩
  | .hbm, ⟨21, _⟩ => ⟨S1x1024, .f32⟩
  | .hbm, ⟨22, _⟩ => ⟨S1024x3840, .bf16⟩
  | .hbm, ⟨23, _⟩ => ⟨S1x1792, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x256, .f32⟩
  | .hbm, ⟨32, _⟩ => ⟨S16x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S1x1792, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x256, .f32⟩
  | .local _ .vmem, ⟨20, _⟩ => ⟨S512x256, .f32⟩
  | .local _ .vmem, ⟨21, _⟩ => ⟨S1x1x1024, .f32⟩
  | .local _ .vmem, ⟨22, _⟩ => ⟨S1x1x1024, .f32⟩
  | .local _ .vmem, ⟨23, _⟩ => ⟨S1x1792, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_v18_6 : Ref sig .tc := ⟨.hbm, 30, rfl⟩
abbrev main_v18_7 : Ref sig .tc := ⟨.hbm, 31, rfl⟩
abbrev main_v18_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32768x1024 : Shape := ⟨2, ![32768, 1024]⟩
abbrev S1024 : Shape := ⟨1, ![1024]⟩
abbrev S1024x3744 : Shape := ⟨2, ![1024, 3744]⟩
abbrev S1696 : Shape := ⟨1, ![1696]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2049x1024 : Shape := ⟨3, ![16, 2049, 1024]⟩
abbrev S16x2049x3744 : Shape := ⟨3, ![16, 2049, 3744]⟩
abbrev S16x2048x2048 : Shape := ⟨3, ![16, 2048, 2048]⟩
abbrev S16x2048x1696 : Shape := ⟨3, ![16, 2048, 1696]⟩
abbrev S1x1x1696 : Shape := ⟨3, ![1, 1, 1696]⟩
abbrev S16x2048x512 : Shape := ⟨3, ![16, 2048, 512]⟩
abbrev S16x2048x32 : Shape := ⟨3, ![16, 2048, 32]⟩
abbrev S16x2048x96 : Shape := ⟨3, ![16, 2048, 96]⟩
abbrev S16x2048x256 : Shape := ⟨3, ![16, 2048, 256]⟩
abbrev S32768x512 : Shape := ⟨2, ![32768, 512]⟩
abbrev S32768x256 : Shape := ⟨2, ![32768, 256]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3744, .f32⟩
  | .hbm, ⟨3, _⟩ => ⟨S1696, .f32⟩
  | .hbm, ⟨4, _⟩ => ⟨S16x2048x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x1x1024, .f32⟩
  | .hbm, ⟨23, _⟩ => ⟨S16x2049x1024, .f32⟩
  | .hbm, ⟨24, _⟩ => ⟨S16x2049x3744, .f32⟩
  | .hbm, ⟨25, _⟩ => ⟨S16x2048x2048, .f32⟩
  | .hbm, ⟨26, _⟩ => ⟨S16x2048x1696, .f32⟩
  | .hbm, ⟨27, _⟩ => ⟨S16x2048x1696, .f32⟩
  | .hbm, ⟨28, _⟩ => ⟨S16x2048x1696, .f32⟩
  | .hbm, ⟨29, _⟩ => ⟨S1x1x1696, .f32⟩
  | .hbm, ⟨30, _⟩ => ⟨S16x2048x1696, .f32⟩
  | .hbm, ⟨31, _⟩ => ⟨S16x2048x1696, .f32⟩
  | .hbm, ⟨32, _⟩ => ⟨S16x2048x1696, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x32, .f32⟩
  | .hbm, ⟨39, _⟩ => ⟨S16x2048x512, .f32⟩
  | .hbm, ⟨40, _⟩ => ⟨S16x2048x512, .f32⟩
  | .hbm, ⟨41, _⟩ => ⟨S16x2048x32, .f32⟩
  | .hbm, ⟨42, _⟩ => ⟨S16x2048x96, .f32⟩
  | .hbm, ⟨43, _⟩ => ⟨S_, .f32⟩
  | .hbm, ⟨44, _⟩ => ⟨S16x2048x96, .f32⟩
  | .hbm, ⟨45, _⟩ => ⟨S16x2048x256, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x256, .f32⟩
  | .hbm, ⟨54, _⟩ => ⟨S16x1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel7.lean ====
abbrev S32x8 : Shape := ⟨2, ![32, 8]⟩
abbrev S2x256x256 : Shape := ⟨3, ![2, 256, 256]⟩
abbrev S8x2x256x256 : Shape := ⟨4, ![8, 2, 256, 256]⟩
abbrev S1x2x256x256 : Shape := ⟨4, ![1, 2, 256, 256]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S8x2x256x256, .f32⟩
  | .local _ .vmem, ⟨0, _⟩ => ⟨S2x256x256, .i32⟩
  | .local _ .vmem, ⟨1, _⟩ => ⟨S1x2x256x256, .f32⟩
  | .local _ .vmem, ⟨2, _⟩ => ⟨S1x2x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_2 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32x8 : Shape := ⟨2, ![32, 8]⟩
abbrev S2x256x256 : Shape := ⟨3, ![2, 256, 256]⟩
abbrev S2x256x256x1 : Shape := ⟨4, ![2, 256, 256, 1]⟩
abbrev S1x1x1x32 : Shape := ⟨4, ![1, 1, 1, 32]⟩
abbrev S2x256x256x32 : Shape := ⟨4, ![2, 256, 256, 32]⟩
abbrev S2x256x256x8 : Shape := ⟨4, ![2, 256, 256, 8]⟩
abbrev S8x2x256x256 : Shape := ⟨4, ![8, 2, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S2x256x256x1, .i32⟩
  | .hbm, ⟨3, _⟩ => ⟨S1x1x1x32, .i32⟩
  | .hbm, ⟨4, _⟩ => ⟨S2x256x256x32, .i32⟩
  | .hbm, ⟨5, _⟩ => ⟨S2x256x256x32, .i32⟩
  | .hbm, ⟨6, _⟩ => ⟨S2x256x256x32, .i1⟩
  | .hbm, ⟨7, _⟩ => ⟨S2x256x256x32, .f32⟩
  | .hbm, ⟨8, _⟩ => ⟨S2x256x256x8, .f32⟩
  | .hbm, ⟨9, _⟩ => ⟨S8x2x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]
-- ==== Kernel8.lean ====
abbrev S32x1x512 : Shape := ⟨3, ![32, 1, 512]⟩
abbrev S32x4x128x128 : Shape := ⟨4, ![32, 4, 128, 128]⟩
abbrev S32x8x64x64 : Shape := ⟨4, ![32, 8, 64, 64]⟩
abbrev S2x512 : Shape := ⟨2, ![2, 512]⟩
abbrev S128 : Shape := ⟨1, ![128]⟩
abbrev S8x512 : Shape := ⟨2, ![8, 512]⟩
abbrev S1x128 : Shape := ⟨2, ![1, 128]⟩
abbrev S32x1x1024 : Shape := ⟨3, ![32, 1, 1024]⟩
abbrev S1x1x512 : Shape := ⟨3, ![1, 1, 512]⟩
abbrev S1x4x128x128 : Shape := ⟨4, ![1, 4, 128, 128]⟩
abbrev S1x8x64x64 : Shape := ⟨4, ![1, 8, 64, 64]⟩
abbrev S1x1x1024 : Shape := ⟨3, ![1, 1, 1024]⟩
abbrev S1x512 : Shape := ⟨2, ![1, 512]⟩
abbrev S1x1x128x128 : Shape := ⟨4, ![1, 1, 128, 128]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S1x1x64x64 : Shape := ⟨4, ![1, 1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S512x512 : Shape := ⟨2, ![512, 512]⟩
abbrev S1x1024 : Shape := ⟨2, ![1, 1024]⟩

abbrev nBuf : Space → Nat
  | .hbm => 21
  | .vmem => 37
  | .smem => 0
  | _ => 0

abbrev bufTy : (tb : Table) → Fin (tcTables nBuf tb) → BufTy
  | .hbm, ⟨0, _⟩ => ⟨S32x1x512, .f32⟩
  | .hbm, ⟨1, _⟩ => ⟨S32x1x512, .f32⟩
  | .hbm, ⟨2, _⟩ => ⟨S32x1x512, .f32⟩
  | .hbm, ⟨3, _⟩ => ⟨S32x1x512, .f32⟩
  | .hbm, ⟨4, _⟩ => ⟨S32x1x512, .f32⟩
  | .hbm, ⟨5, _⟩ => ⟨S32x1x512, .f32⟩
  | .hbm, ⟨6, _⟩ => ⟨S32x1x512, .f32⟩
  | .hbm, ⟨7, _⟩ => ⟨S32x1x512, .f32⟩
  | .hbm, ⟨8, _⟩ => ⟨S32x1x512, .f32⟩
  | .hbm, ⟨9, _⟩ => ⟨S32x1x512, .f32⟩
  | .hbm, ⟨10, _⟩ => ⟨S32x1x512, .f32⟩
  | .hbm, ⟨11, _⟩ => ⟨S32x1x512, .f32⟩
  | .hbm, ⟨12, _⟩ => ⟨S32x4x128x128, .f32⟩
  | .hbm, ⟨13, _⟩ => ⟨S32x8x64x64, .f32⟩
  | .hbm, ⟨14, _⟩ => ⟨S2x512, .f32⟩
  | .hbm, ⟨15, _⟩ => ⟨S128, .f32⟩
  | .hbm, ⟨16, _⟩ => ⟨S8x512, .f32⟩
  | .hbm, ⟨17, _⟩ => ⟨S1x128, .f32⟩
  | .hbm, ⟨18, _⟩ => ⟨S32x1x1024, .f32⟩
  | .hbm, ⟨19, _⟩ => ⟨S32x4x128x128, .f32⟩
  | .hbm, ⟨20, _⟩ => ⟨S32x8x64x64, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x4x128x128, .f32⟩
  | .local _ .vmem, ⟨25, _⟩ => ⟨S1x4x128x128, .f32⟩
  | .local _ .vmem, ⟨26, _⟩ => ⟨S1x8x64x64, .f32⟩
  | .local _ .vmem, ⟨27, _⟩ => ⟨S1x8x64x64, .f32⟩
  | .local _ .vmem, ⟨28, _⟩ => ⟨S2x512, .f32⟩
  | .local _ .vmem, ⟨29, _⟩ => ⟨S1x128, .f32⟩
  | .local _ .vmem, ⟨30, _⟩ => ⟨S8x512, .f32⟩
  | .local _ .vmem, ⟨31, _⟩ => ⟨S1x1x1024, .f32⟩
  | .local _ .vmem, ⟨32, _⟩ => ⟨S1x1x1024, .f32⟩
  | .local _ .vmem, ⟨33, _⟩ => ⟨S1x4x128x128, .f32⟩
  | .local _ .vmem, ⟨34, _⟩ => ⟨S1x4x128x128, .f32⟩
  | .local _ .vmem, ⟨35, _⟩ => ⟨S1x8x64x64, .f32⟩
  | .local _ .vmem, ⟨36, _⟩ => ⟨S1x8x64x64, .f32⟩
  | _, _ => ⟨S32x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x64x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference8Ideal.lean ====
abbrev S32x1x512 : Shape := ⟨3, ![32, 1, 512]⟩
abbrev S32x4x128x128 : Shape := ⟨4, ![32, 4, 128, 128]⟩
abbrev S32x8x64x64 : Shape := ⟨4, ![32, 8, 64, 64]⟩
abbrev S2x512 : Shape := ⟨2, ![2, 512]⟩
abbrev S128 : Shape := ⟨1, ![128]⟩
abbrev S8x512 : Shape := ⟨2, ![8, 512]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S32x4x128 : Shape := ⟨3, ![32, 4, 128]⟩
abbrev S32x4x128x1 : Shape := ⟨4, ![32, 4, 128, 1]⟩
abbrev S32x4x1x128 : Shape := ⟨4, ![32, 4, 1, 128]⟩
abbrev S32x8x64 : Shape := ⟨3, ![32, 8, 64]⟩
abbrev S32x8x1x64 : Shape := ⟨4, ![32, 8, 1, 64]⟩
abbrev S32x8x64x1 : Shape := ⟨4, ![32, 8, 64, 1]⟩

abbrev nBuf : Space → Nat
  | .hbm => 95
  | .vmem => 0
  | .smem => 0
  | _ => 0

abbrev bufTy : (tb : Table) → Fin (tcTables nBuf tb) → BufTy
  | .hbm, ⟨0, _⟩ => ⟨S32x1x512, .f32⟩
  | .hbm, ⟨1, _⟩ => ⟨S32x1x512, .f32⟩
  | .hbm, ⟨2, _⟩ => ⟨S32x1x512, .f32⟩
  | .hbm, ⟨3, _⟩ => ⟨S32x1x512, .f32⟩
  | .hbm, ⟨4, _⟩ => ⟨S32x1x512, .f32⟩
  | .hbm, ⟨5, _⟩ => ⟨S32x1x512, .f32⟩
  | .hbm, ⟨6, _⟩ => ⟨S32x1x512, .f32⟩
  | .hbm, ⟨7, _⟩ => ⟨S32x1x512, .f32⟩
  | .hbm, ⟨8, _⟩ => ⟨S32x1x512, .f32⟩
  | .hbm, ⟨9, _⟩ => ⟨S32x1x512, .f32⟩
  | .hbm, ⟨10, _⟩ => ⟨S32x1x512, .f32⟩
  | .hbm, ⟨11, _⟩ => ⟨S32x1x512, .f32⟩
  | .hbm, ⟨12, _⟩ => ⟨S32x4x128x128, .f32⟩
  | .hbm, ⟨13, _⟩ => ⟨S32x8x64x64, .f32⟩
  | .hbm, ⟨14, _⟩ => ⟨S2x512, .f32⟩
  | .hbm, ⟨15, _⟩ => ⟨S128, .f32⟩
  | .hbm, ⟨16, _⟩ => ⟨S8x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S_, .f32⟩
  | .hbm, ⟨33, _⟩ => ⟨S2x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S2x512, .f32⟩
  | .hbm, ⟨38, _⟩ => ⟨S2x512, .f32⟩
  | .hbm, ⟨39, _⟩ => ⟨S1x512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S32x1x512, .f32⟩
  | .hbm, ⟨45, _⟩ => ⟨S32x1x512, .f32⟩
  | .hbm, ⟨46, _⟩ => ⟨S_, .f32⟩
  | .hbm, ⟨47, _⟩ => ⟨S32x1x512, .f32⟩
  | .hbm, ⟨48, _⟩ => ⟨S32x1x512, .f32⟩
  | .hbm, ⟨49, _⟩ => ⟨S_, .f32⟩
  | .hbm, ⟨50, _⟩ => ⟨S32x1x512, .f32⟩
  | .hbm, ⟨51, _⟩ => ⟨S32x1x512, .f32⟩
  | .hbm, ⟨52, _⟩ => ⟨S1x1x512, .f32⟩
  | .hbm, ⟨53, _⟩ => ⟨S32x1x512, .f32⟩
  | .hbm, ⟨54, _⟩ => ⟨S32x1x512, .f32⟩
  | .hbm, ⟨55, _⟩ => ⟨S1x1x512, .f32⟩
  | .hbm, ⟨56, _⟩ => ⟨S32x1x512, .f32⟩
  | .hbm, ⟨57, _⟩ => ⟨S32x1x512, .f32⟩
  | .hbm, ⟨58, _⟩ => ⟨S32x4x128, .f32⟩
  | .hbm, ⟨59, _⟩ => ⟨S32x4x128, .f32⟩
  | .hbm, ⟨60, _⟩ => ⟨S32x4x128x1, .f32⟩
  | .hbm, ⟨61, _⟩ => ⟨S32x4x128x128, .f32⟩
  | .hbm, ⟨62, _⟩ => ⟨S32x4x128x128, .f32⟩
  | .hbm, ⟨63, _⟩ => ⟨S_, .f32⟩
  | .hbm, ⟨64, _⟩ => ⟨S32x4x128, .f32⟩
  | .hbm, ⟨65, _⟩ => ⟨S32x4x128, .f32⟩
  | .hbm, ⟨66, _⟩ => ⟨S32x4x128x1, .f32⟩
  | .hbm, ⟨67, _⟩ => ⟨S32x4x1x128, .f32⟩
  | .hbm, ⟨68, _⟩ => ⟨S32x4x128x128, .f32⟩
  | .hbm, ⟨69, _⟩ => ⟨S32x4x128x128, .f32⟩
  | .hbm, ⟨70, _⟩ => ⟨S32x4x128x128, .f32⟩
  | .hbm, ⟨71, _⟩ => ⟨S32x4x128x128, .f32⟩
  | .hbm, ⟨72, _⟩ => ⟨S32x1x512, .f32⟩
  | .hbm, ⟨73, _⟩ => ⟨S32x8x64, .f32⟩
  | .hbm, ⟨74, _⟩ => ⟨S32x8x64, .f32⟩
  | .hbm, ⟨75, _⟩ => ⟨S32x8x64, .f32⟩
  | .hbm, ⟨76, _⟩ => ⟨S32x8x64, .f32⟩
  | .hbm, ⟨77, _⟩ => ⟨S32x8x64, .f32⟩
  | .hbm, ⟨78, _⟩ => ⟨S32x8x64, .f32⟩
  | .hbm, ⟨79, _⟩ => ⟨S32x8x64, .f32⟩
  | .hbm, ⟨80, _⟩ => ⟨S32x8x1x64, .f32⟩
  | .hbm, ⟨81, _⟩ => ⟨S32x8x64x64, .f32⟩
  | .hbm, ⟨82, _⟩ => ⟨S32x8x64x64, .f32⟩
  | .hbm, ⟨83, _⟩ => ⟨S32x8x64x1, .f32⟩
  | .hbm, ⟨84, _⟩ => ⟨S32x8x1x64, .f32⟩
  | .hbm, ⟨85, _⟩ => ⟨S32x8x64x64, .f32⟩
  | .hbm, ⟨86, _⟩ => ⟨S32x8x64x64, .f32⟩
  | .hbm, ⟨87, _⟩ => ⟨S32x8x64x64, .f32⟩
  | .hbm, ⟨88, _⟩ => ⟨S32x8x64x64, .f32⟩
  | .hbm, ⟨89, _⟩ => ⟨S32x8x64x1, .f32⟩
  | .hbm, ⟨90, _⟩ => ⟨S32x8x1x64, .f32⟩
  | .hbm, ⟨91, _⟩ => ⟨S32x8x64x64, .f32⟩
  | .hbm, ⟨92, _⟩ => ⟨S32x8x64x64, .f32⟩
  | .hbm, ⟨93, _⟩ => ⟨S32x8x64x64, .f32⟩
  | .hbm, ⟨94, _⟩ => ⟨S32x8x64x64, .f32⟩
  | _, _ => ⟨S32x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call0_call0_cst : Ref sig .tc := ⟨.hbm, 31, rfl⟩
abbrev main_call0_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel9.lean ====
abbrev S32x1024 : Shape := ⟨2, ![32, 1024]⟩
abbrev S1024 : Shape := ⟨1, ![1024]⟩
abbrev S1024x3744 : Shape := ⟨2, ![1024, 3744]⟩
abbrev S1696 : Shape := ⟨1, ![1696]⟩
abbrev S1024x2048 : Shape := ⟨2, ![1024, 2048]⟩
abbrev S1024x512 : Shape := ⟨2, ![1024, 512]⟩
abbrev S1024x32 : Shape := ⟨2, ![1024, 32]⟩
abbrev S1024x128 : Shape := ⟨2, ![1024, 128]⟩
abbrev S_ : Shape := ⟨0, ![]⟩
abbrev S1024x96 : Shape := ⟨2, ![1024, 96]⟩
abbrev S1024x3840 : Shape := ⟨2, ![1024, 3840]⟩
abbrev S512 : Shape := ⟨1, ![512]⟩
abbrev S32 : Shape := ⟨1, ![32]⟩
abbrev S128 : Shape := ⟨1, ![128]⟩
abbrev S96 : Shape := ⟨1, ![96]⟩
abbrev S1792 : Shape := ⟨1, ![1792]⟩
abbrev S1x1024 : Shape := ⟨2, ![1, 1024]⟩
abbrev S1x1792 : Shape := ⟨2, ![1, 1792]⟩
abbrev S32x512 : Shape := ⟨2, ![32, 512]⟩
abbrev S32x256 : Shape := ⟨2, ![32, 256]⟩
abbrev S32x1 : Shape := ⟨2, ![32, 1]⟩
abbrev S1024x1792 : Shape := ⟨2, ![1024, 1792]⟩
abbrev S32x1792 : Shape := ⟨2, ![32, 1792]⟩

abbrev nBuf : Space → Nat
  | .hbm => 34
  | .vmem => 14
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3744, .f32⟩
  | .hbm, ⟨3, _⟩ => ⟨S1696, .f32⟩
  | .hbm, ⟨4, _⟩ => ⟨S32x1024, .f32⟩
  | .hbm, ⟨5, _⟩ => ⟨S1024x2048, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x32, .f32⟩
  | .hbm, ⟨10, _⟩ => ⟨S1024x128, .f32⟩
  | .hbm, ⟨11, _⟩ => ⟨S_, .f32⟩
  | .hbm, ⟨12, _⟩ => ⟨S1024x96, .f32⟩
  | .hbm, ⟨13, _⟩ => ⟨S1024x3840, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S32, .f32⟩
  | .hbm, ⟨18, _⟩ => ⟨S128, .f32⟩
  | .hbm, ⟨19, _⟩ => ⟨S_, .f32⟩
  | .hbm, ⟨20, _⟩ => ⟨S96, .f32⟩
  | .hbm, ⟨21, _⟩ => ⟨S1792, .f32⟩
  | .hbm, ⟨22, _⟩ => ⟨S1x1024, .f32⟩
  | .hbm, ⟨23, _⟩ => ⟨S1024x3840, .bf16⟩
  | .hbm, ⟨24, _⟩ => ⟨S1x1792, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S32x256, .f32⟩
  | .hbm, ⟨33, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x3840, .bf16⟩
  | .local _ .vmem, ⟨3, _⟩ => ⟨S1x1792, .f32⟩
  | .local _ .vmem, ⟨4, _⟩ => ⟨S32x1024, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x256, .f32⟩
  | .local _ .vmem, ⟨13, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev main_v18_8 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference9Ideal.lean ====
abbrev S32x1024 : Shape := ⟨2, ![32, 1024]⟩
abbrev S1024 : Shape := ⟨1, ![1024]⟩
abbrev S1024x3744 : Shape := ⟨2, ![1024, 3744]⟩
abbrev S1696 : Shape := ⟨1, ![1696]⟩
abbrev S32x1x1024 : Shape := ⟨3, ![32, 1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x2x1024 : Shape := ⟨3, ![32, 2, 1024]⟩
abbrev S32x2x3744 : Shape := ⟨3, ![32, 2, 3744]⟩
abbrev S32x1x2048 : Shape := ⟨3, ![32, 1, 2048]⟩
abbrev S32x1x1696 : Shape := ⟨3, ![32, 1, 1696]⟩
abbrev S1x1x1696 : Shape := ⟨3, ![1, 1, 1696]⟩
abbrev S32x1x512 : Shape := ⟨3, ![32, 1, 512]⟩
abbrev S32x1x32 : Shape := ⟨3, ![32, 1, 32]⟩
abbrev S32x1x96 : Shape := ⟨3, ![32, 1, 96]⟩
abbrev S32x1x256 : Shape := ⟨3, ![32, 1, 256]⟩
abbrev S32x512 : Shape := ⟨2, ![32, 512]⟩
abbrev S32x256 : Shape := ⟨2, ![32, 256]⟩

abbrev nBuf : Space → Nat
  | .hbm => 55
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3744, .f32⟩
  | .hbm, ⟨3, _⟩ => ⟨S1696, .f32⟩
  | .hbm, ⟨4, _⟩ => ⟨S32x1024, .f32⟩
  | .hbm, ⟨5, _⟩ => ⟨S32x1x1024, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x2x1024, .f32⟩
  | .hbm, ⟨24, _⟩ => ⟨S32x2x3744, .f32⟩
  | .hbm, ⟨25, _⟩ => ⟨S32x1x2048, .f32⟩
  | .hbm, ⟨26, _⟩ => ⟨S32x1x1696, .f32⟩
  | .hbm, ⟨27, _⟩ => ⟨S32x1x1696, .f32⟩
  | .hbm, ⟨28, _⟩ => ⟨S32x1x1696, .f32⟩
  | .hbm, ⟨29, _⟩ => ⟨S1x1x1696, .f32⟩
  | .hbm, ⟨30, _⟩ => ⟨S32x1x1696, .f32⟩
  | .hbm, ⟨31, _⟩ => ⟨S32x1x1696, .f32⟩
  | .hbm, ⟨32, _⟩ => ⟨S32x1x1696, .f32⟩
  | .hbm, ⟨33, _⟩ => ⟨S32x1x512, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S32x1x32, .f32⟩
  | .hbm, ⟨39, _⟩ => ⟨S32x1x512, .f32⟩
  | .hbm, ⟨40, _⟩ => ⟨S32x1x512, .f32⟩
  | .hbm, ⟨41, _⟩ => ⟨S32x1x32, .f32⟩
  | .hbm, ⟨42, _⟩ => ⟨S32x1x96, .f32⟩
  | .hbm, ⟨43, _⟩ => ⟨S_, .f32⟩
  | .hbm, ⟨44, _⟩ => ⟨S32x1x96, .f32⟩
  | .hbm, ⟨45, _⟩ => ⟨S32x1x256, .f32⟩
  | .hbm, ⟨46, _⟩ => ⟨S32x512, .f32⟩
  | .hbm, ⟨47, _⟩ => ⟨S32x512, .f32⟩
  | .hbm, ⟨48, _⟩ => ⟨S32x512, .f32⟩
  | .hbm, ⟨49, _⟩ => ⟨S32x512, .f32⟩
  | .hbm, ⟨50, _⟩ => ⟨S32x512, .f32⟩
  | .hbm, ⟨51, _⟩ => ⟨S32x512, .f32⟩
  | .hbm, ⟨52, _⟩ => ⟨S32x512, .f32⟩
  | .hbm, ⟨53, _⟩ => ⟨S32x256, .f32⟩
  | .hbm, ⟨54, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Proof.Experts.Setup.lean ====
/- The setting of the experts kernel: what the arrays hold when it starts, which branch runs at which point of the grid. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel: three weight arrays rounded to bf16 -/

/-- The buffers of core `c` when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program runs the host operations and then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host writes no argument array: the region finds argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-- The host writes no argument array: the region finds argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-- The host writes no argument array: the region finds argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-- The host writes no argument array: the region finds argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-- The host writes no argument array: the region finds argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-- The host writes no argument array: the region finds argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.unary_writes, Finset.mem_singleton]
    repeat' apply And.intro
    all_goals exact StableHlo.devRef_ne_of_ne (by decide)))

/-! ## The two tables: each tile's expert, and how many tiles are in use -/

/-- What the tables hold when the kernel starts (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S136 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _

/-- A table's contents on core `c`, and the half of it the body may read. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body loads from the second table: the number of tiles in use. -/
abbrev usedAt {c : Dev nD} (x : TbBuf (F := F) c tbM1) : BitVec 32 :=
  tbM1.view.readAt (Elt F) (Rect.unit (s := S1) ![0] S1.size inb_S1_S1_0).toLoadRect x (Shape.Idx.first (numel1_S1.symm ▸ Nat.one_pos))

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer of input 0 holds that input's block at every point. -/
theorem before_0_of (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 1 holds that input's block at every point. -/
theorem before_1_of (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 2 holds that input's block at every point. -/
theorem before_2_of (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 3 holds that input's block at every point. -/
theorem before_3_of (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t) (t : Fin (cfgM m hO).N) (d) :
    dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From a run of the kernel's pipeline: the argument arrays end unchanged. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats 0 c).arrAt_in 0 rfl _).trans ((hA c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c),
      ((h c).2 main_arg5 (by decide : main_arg5 ∈ Pipeline.restRefs sig spec0)).trans (V_arg5 m c)⟩) h

/-! ## The kernel's conditions -/

/-- The first half of the hidden columns. -/
abbrev firstHalf (i : grid0.Coords) : Prop := (Scalar.cmpi .ne (Scalar.extui (Scalar.cmpi .eq (BitVec.ofNat 32 (i 1).val) 0#32)) 0#32) = 1#1
/-- The tile is in use. -/
abbrev live (i : grid0.Coords) (v : BitVec 32) : Prop := k0_cond1 i v = 1#1
/-- The second half of the hidden columns. -/
abbrev lastHalf (i : grid0.Coords) : Prop := k0_cond3 i = 1#1
/-- The second half of the hidden columns of a tile that is not in use. -/
abbrev fill (i : grid0.Coords) (v : BitVec 32) : Prop := k0_cond4 i v = 1#1

theorem coord0 (t : Fin grid0.N) : (grid0.coords t 0).val = t.val / 2 % 136 := Pipeline.Grid.coords_val t 0 (by decide) rfl
theorem coord1 (t : Fin grid0.N) : (grid0.coords t 1).val = t.val / 1 % 2 := Pipeline.Grid.coords_val t 1 (by decide) rfl

theorem firstHalf_iff (t : Fin grid0.N) : firstHalf (grid0.coords t) ↔ t.val % 2 = 0 := by
  have ht : t.val < 272 := Nat.lt_of_lt_of_eq t.isLt N_0
  simp only [firstHalf, coord0, coord1]
  word_cmp

theorem lastHalf_iff (t : Fin grid0.N) : lastHalf (grid0.coords t) ↔ t.val % 2 = 1 := by
  have ht : t.val < 272 := Nat.lt_of_lt_of_eq t.isLt N_0
  simp only [lastHalf, k0_cond3, coord0, coord1]
  word_cmp

/-- One bit widened and compared with zero is that bit. -/
theorem bit_ne_zero (b : BitVec 1) : (Scalar.cmpi .ne (Scalar.extui b : BitVec 32) 0#32 = 1#1) ↔ b = 1#1 := by
  revert b; decide

theorem and_eq_one (a b : BitVec 1) : (Scalar.andi a b = 1#1) ↔ a = 1#1 ∧ b = 1#1 := by
  revert a b; decide

theorem sge_iff (a v : BitVec 32) : (Scalar.cmpi .sge a v = 1#1) ↔ ¬ (Scalar.cmpi .slt a v = 1#1) := by
  show BitVec.ofBool (v.sle a) = 1#1 ↔ ¬ (BitVec.ofBool (a.slt v) = 1#1)
  rw [show v.sle a = !(a.slt v) from by simp only [BitVec.sle, BitVec.slt, ← decide_not, not_lt]]
  cases a.slt v <;> decide

/-- The filling branch is taken on the second half of the tiles the first branch leaves out. -/
theorem fill_iff (i : grid0.Coords) (v : BitVec 32) : fill i v ↔ ¬ live i v ∧ lastHalf i := by
  simp only [fill, live, lastHalf, k0_cond4, k0_cond1, k0_cond3, bit_ne_zero, and_eq_one, sge_iff]

/-! ## Where the output window is left alone -/

/-- The output is written back exactly at the second half of each tile. -/
theorem flush_out (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

theorem idle0_first (pf : pre0.Contents (Elt F)) (i : grid0.Coords) (h : ¬ lastHalf i) : idle0 pf 4 i = true := by
  show (!(k0_cond1 i (pf.atD 1 ![0]) == 1#1 && k0_cond3 i == 1#1) && !(k0_cond4 i (pf.atD 1 ![0]) == 1#1)) = true
  generalize pf.atD 1 ![0] = v
  have h4 : ¬ fill i v := fun hf => h ((fill_iff _ _).mp hf).2
  rw [beq_eq_false_iff_ne.mpr h, beq_eq_false_iff_ne.mpr h4, Bool.and_false]; rfl

theorem idle0_last (pf : pre0.Contents (Elt F)) (i : grid0.Coords) (h : lastHalf i) : idle0 pf 4 i = false := by
  show (!(k0_cond1 i (pf.atD 1 ![0]) == 1#1 && k0_cond3 i == 1#1) && !(k0_cond4 i (pf.atD 1 ![0]) == 1#1)) = false
  generalize pf.atD 1 ![0] = v
  by_cases hl : live i v
  · rw [beq_iff_eq.mpr hl, beq_iff_eq.mpr h]; rfl
  · have h4 : fill i v := (fill_iff _ _).mpr ⟨hl, h⟩
    rw [beq_iff_eq.mpr h4, Bool.not_true, Bool.and_false]

/-- The output window is left alone in the first half of a tile, -/
theorem idle_first (a : (pcfg0 (F := F)).Adm) : ∀ t : Fin (cfg0 a).N, ¬ lastHalf (grid0.coords t) → (cfg0 a).idle 4 (grid0.coords t) = true :=
  fun t h => idle0_first a.1 (grid0.coords t) h

/-- and written in the second. -/
theorem idle_last (a : (pcfg0 (F := F)).Adm) : ∀ t : Fin (cfg0 a).N, lastHalf (grid0.coords t) → (cfg0 a).idle 4 (grid0.coords t) = false :=
  fun t h => idle0_last a.1 (grid0.coords t) h

theorem noFlush_first (hO : Ok m) (t : Fin (cfgM m hO).N) (h : ¬ t.val % 2 = 1) : ((cfgM m hO).win 4).flush t = false :=
  Bool.eq_false_iff.mpr fun hf => h ((flush_out (adm m hO) t).mp hf)

/-! ## The buffers the body is called with -/

abbrev ms0 (hO : Ok m) (t : Fin (cfgM m hO).N) : Memref sig .tc .vmem S512x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1792 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1792 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1792x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S512x1024 .f32 := spec0_4.stage ((cfgM m hO).slots t 4)
abbrev hs4 (hO : Ok m) (t : Fin (cfgM m hO).N) : (ms4 m hO t).IsWhole := hstage0_4 (((cfgM m hO).slots t 4).cast nbuf0_4)

abbrev scM0 : Memref sig .tc .vmem S512x1024 .bf16 := Memref.whole cc0_scratch0
abbrev scM1 : Memref sig .tc .vmem S512x1024 .f32 := Memref.whole cc0_scratch1

/-- The kernel body at point `t`. -/
abbrev bodyAt (a : (pcfg0 (F := F)).Adm) (t : Fin (cfg0 a).N) : Prog (TpuEff nD τ sig (Elt F) Λ₀ .tc) PUnit :=
  cc0_moe_experts (grid0.coords t) tbM0 htbM0 tbM1 htbM1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) scM0 (Memref.isWhole_whole _) scM1 (Memref.isWhole_whole _)

/-- What the kernel may use besides its windows: the two scratch buffers and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Experts

end
-- ==== Proof.Experts.Tables.lean ====
/- The two tables' words under the precondition: which block of each array a point reads. -/
module

public import proofs.«01_k».proof.Proof.Experts.Setup
public import proofs.«01_k».proof.Proof.Gen.Pre_tables_in_range

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each tile's expert is one of the eight and at least one tile is in use. -/
def InRange (pf : pre0.Contents (Elt F)) : Prop :=
  (∀ y : S136.Idx, 0 ≤ BitVec.toInt (n := 32) (pf 0 y) ∧ BitVec.toInt (n := 32) (pf 0 y) ≤ 7) ∧ ∀ y : S1.Idx, 1 ≤ BitVec.toInt (n := 32) (pf 1 y)

/-- The expert of the tile at grid point `i`, -/
abbrev expertWord (pf : pre0.Contents (Elt F)) (i : grid0.Coords) : BitVec 32 :=
  pf.at 0 (Rect.unit (s := S136) ![(Scalar.indexCast (BitVec.ofNat 32 (i 0).val) : Index).toNat] S1.size (k0_off1_inb i)) numel1_S1
/-- the number of tiles in use, -/
abbrev usedWord (pf : pre0.Contents (Elt F)) : BitVec 32 := pf.at 1 (Rect.unit (s := S1) ![0] S1.size inb_S1_S1_0) numel1_S1
/-- the half of the hidden columns a point reads (the second one throughout a tile that is not in use), -/
abbrev halfWord (pf : pre0.Contents (Elt F)) (i : grid0.Coords) : BitVec 32 :=
  Scalar.select (Scalar.cmpi .slt (BitVec.ofNat 32 (i 0).val) (usedWord pf)) (BitVec.ofNat 32 (i 1).val) 1#32
/-- and the tile of rows it reads (the last one in use throughout the tiles that are not). -/
abbrev rowWord (pf : pre0.Contents (Elt F)) (i : grid0.Coords) : BitVec 32 :=
  Scalar.minsi (BitVec.ofNat 32 (i 0).val) (Scalar.subi (usedWord pf) 1#32)

theorem slt_iff (a v : BitVec 32) : (Scalar.cmpi .slt a v = 1#1) ↔ a.toInt < v.toInt := by
  show BitVec.ofBool (a.slt v) = 1#1 ↔ _
  rw [BitVec.slt]
  by_cases h : a.toInt < v.toInt <;> simp [h]

theorem toInt_small (n : ℕ) (h : n < 136) : (BitVec.ofNat 32 n).toInt = n := by
  rw [BitVec.toInt_eq_toNat_cond, BitVec.toNat_ofNat]; split <;> omega

theorem toInt_pred (v : BitVec 32) (h : 1 ≤ v.toInt) : (v - 1#32).toInt = v.toInt - 1 := by
  have hv := v.isLt
  rw [BitVec.toInt_eq_toNat_cond] at h ⊢
  rw [BitVec.toInt_eq_toNat_cond, BitVec.toNat_sub]
  rw [show (1#32 : BitVec 32).toNat = 1 from rfl]
  split at h <;> split <;> (try split) <;> omega

theorem toNat_of_toInt (v : BitVec 32) (h : 0 ≤ v.toInt) : (v.toNat : ℤ) = v.toInt := by
  have hv := v.isLt
  rw [BitVec.toInt_eq_toNat_cond] at h ⊢
  split <;> omega

variable {pf : pre0.Contents (Elt F)}

theorem tile_lt (i : grid0.Coords) : (i 0).val < 136 := (i 0).isLt
theorem half_lt (i : grid0.Coords) : (i 1).val < 2 := (i 1).isLt

theorem expert_lt (h : InRange pf) (i : grid0.Coords) : (expertWord pf i).toNat < 8 := by
  have := h.1 ((Rect.unit (s := S136) ![(Scalar.indexCast (BitVec.ofNat 32 (i 0).val) : Index).toNat] S1.size (k0_off1_inb i)).emb (Shape.Idx.first (numel1_S1.symm ▸ Nat.one_pos)))
  have e := toNat_of_toInt _ this.1
  have : ((expertWord pf i).toNat : ℤ) ≤ 7 := e.trans_le this.2
  omega

theorem used_pos (h : InRange pf) : 1 ≤ (usedWord pf).toInt := h.2 _

theorem row_lt (h : InRange pf) (i : grid0.Coords) : (rowWord pf i).toNat < 136 := by
  have hi := tile_lt i
  have hu := used_pos h
  have ha := toInt_small _ hi
  have hp : (Scalar.subi (usedWord pf) 1#32).toInt = (usedWord pf).toInt - 1 := toInt_pred _ hu
  show (if (BitVec.ofNat 32 (i 0).val).slt (Scalar.subi (usedWord pf) 1#32) then BitVec.ofNat 32 (i 0).val else Scalar.subi (usedWord pf) 1#32).toNat < 136
  rw [BitVec.slt, hp, ha]
  split
  · rw [BitVec.toNat_ofNat]; omega
  · rename_i hh
    have hh : ¬ ((i 0).val : ℤ) < (usedWord pf).toInt - 1 := by simpa using hh
    have := toNat_of_toInt (Scalar.subi (usedWord pf) 1#32) (by omega)
    omega

/-- A tile in use reads its own rows, -/
theorem row_live (h : InRange pf) (i : grid0.Coords) (hl : ((i 0).val : ℤ) < (usedWord pf).toInt) : (rowWord pf i).toNat = (i 0).val := by
  have hi := tile_lt i
  have hu := used_pos h
  have ha := toInt_small _ hi
  have hp : (Scalar.subi (usedWord pf) 1#32).toInt = (usedWord pf).toInt - 1 := toInt_pred _ hu
  show (if (BitVec.ofNat 32 (i 0).val).slt (Scalar.subi (usedWord pf) 1#32) then BitVec.ofNat 32 (i 0).val else Scalar.subi (usedWord pf) 1#32).toNat = (i 0).val
  rw [BitVec.slt, hp, ha]
  split
  · rw [BitVec.toNat_ofNat]; omega
  · rename_i hh
    have hh : ¬ ((i 0).val : ℤ) < (usedWord pf).toInt - 1 := by simpa using hh
    have := toNat_of_toInt (Scalar.subi (usedWord pf) 1#32) (by omega)
    omega

/-- and the two halves in turn. -/
theorem half_live (i : grid0.Coords) (hl : ((i 0).val : ℤ) < (usedWord pf).toInt) : (halfWord pf i).toNat = (i 1).val := by
  have hi := tile_lt i
  have h2 := half_lt i
  have hc : Scalar.cmpi .slt (BitVec.ofNat 32 (i 0).val) (usedWord pf) = 1#1 := (slt_iff _ _).mpr (by rw [toInt_small _ hi]; exact hl)
  show (if Scalar.cmpi .slt (BitVec.ofNat 32 (i 0).val) (usedWord pf) = 1#1 then BitVec.ofNat 32 (i 1).val else 1#32).toNat = _
  rw [if_pos hc, BitVec.toNat_ofNat]; omega

theorem halfWord_lt (i : grid0.Coords) : (halfWord pf i).toNat < 2 := by
  have h2 := half_lt i
  show (if Scalar.cmpi .slt (BitVec.ofNat 32 (i 0).val) (usedWord pf) = 1#1 then BitVec.ofNat 32 (i 1).val else 1#32).toNat < 2
  split
  · rw [BitVec.toNat_ofNat]; omega
  · decide

/-- Every block the tables name lies inside its array. -/
theorem ok_of_inRange (h : InRange pf) : ok0 pf := by
  refine ⟨fun i => ⟨fun a => ?_, .inl rfl⟩, fun i => ⟨fun a => ?_, .inr (.inr ⟨by decide, rfl, rfl, rfl⟩)⟩,
    fun i => ⟨fun a => ?_, .inr (.inr ⟨by decide, rfl, rfl, rfl⟩)⟩,
    fun i => ⟨fun a => ?_, ?_⟩⟩
  · have := row_lt h i
    match a with
    | 0 => show ((rowWord pf i).toNat + 1) * 512 ≤ 69632; omega
    | 1 => show (0 + 1) * 1024 ≤ 1024; omega
  · have := expert_lt h i
    have := halfWord_lt (pf := pf) i
    match a with
    | 0 => show ((expertWord pf i).toNat + 1) * 1 ≤ 8; omega
    | 1 => show (0 + 1) * 1024 ≤ 1024; omega
    | 2 => show ((halfWord pf i).toNat + 1) * 1792 ≤ 3584; omega
  · have := expert_lt h i
    have := halfWord_lt (pf := pf) i
    match a with
    | 0 => show ((expertWord pf i).toNat + 1) * 1 ≤ 8; omega
    | 1 => show (0 + 1) * 1024 ≤ 1024; omega
    | 2 => show ((halfWord pf i).toNat + 1) * 1792 ≤ 3584; omega
  · have := expert_lt h i
    have := halfWord_lt (pf := pf) i
    match a with
    | 0 => show ((expertWord pf i).toNat + 1) * 1 ≤ 8; omega
    | 1 => show ((halfWord pf i).toNat + 1) * 1792 ≤ 3584; omega
    | 2 => show (0 + 1) * 1024 ≤ 1024; omega
  · refine .inr (.inl (.inr ⟨by decide, rfl, .inl ⟨?_, ?_⟩⟩))
    · show 2 ∣ (halfWord pf i).toNat * 1792
      exact Dvd.dvd.mul_left (by decide) _
    · show 2 ∣ 1792
      decide

/-! ## The precondition -/

theorem sge_one (a v : BitVec 32) (h : IntOp.cmpi .sge a v = 1#1) : v.toInt ≤ a.toInt := by
  have h : BitVec.ofBool (v.sle a) = 1#1 := h
  rw [BitVec.sle] at h
  by_contra hh
  rw [decide_eq_false hh] at h
  exact absurd h (by decide)

theorem sle_one (a v : BitVec 32) (h : IntOp.cmpi .sle a v = 1#1) : a.toInt ≤ v.toInt := by
  have h : BitVec.ofBool (a.sle v) = 1#1 := h
  rw [BitVec.sle] at h
  by_contra hh
  rw [decide_eq_false hh] at h
  exact absurd h (by decide)

/-- What the precondition says of the tables' words. -/
theorem words_of_pre (x0 : IVec S136 32) (x1 : IVec S1 32) (x2 : FVec F S69632x1024 .f32) (x3 x4 : FVec F S8x1024x3584 .f32) (x5 : FVec F S8x3584x1024 .f32)
    (h1 : (Cert.Pre_tables_in_range.fn (F := F) x0 x1 x2 x3 x4 x5).1 = fun _ => 1#1)
    (h2 : (Cert.Pre_tables_in_range.fn (F := F) x0 x1 x2 x3 x4 x5).2 = fun _ => 1#1) :
    (∀ y, 0 ≤ (x0 y).toInt ∧ (x0 y).toInt ≤ 7) ∧ ∀ y, 1 ≤ (x1 y).toInt := by
  have and_one (a b : BitVec 1) : IntOp.andi a b = 1#1 ↔ a = 1#1 ∧ b = 1#1 := by revert a b; decide
  refine ⟨fun y => ?_, fun y => ?_⟩
  · have hy := congrFun h1 y
    simp only [Cert.Pre_tables_in_range.fn, constantI, broadcastInDim, cmpi, andi, and_one] at hy
    exact ⟨sge_one _ 0#32 hy.1, sle_one _ 7#32 hy.2⟩
  · have hy := congrFun h2 y
    simp only [Cert.Pre_tables_in_range.fn, constantI, broadcastInDim, cmpi] at hy
    exact sge_one _ 1#32 hy

/-- The tables as the kernel finds them are those it was launched with. -/
theorem inRange_of_words
    (h : (∀ y : S136.Idx, 0 ≤ BitVec.toInt (n := 32) (m (((0 : Dev nD) : Thread nD τ).loc main_arg0) y) ∧ BitVec.toInt (n := 32) (m (((0 : Dev nD) : Thread nD τ).loc main_arg0) y) ≤ 7)
      ∧ ∀ y : S1.Idx, 1 ≤ BitVec.toInt (n := 32) (m (((0 : Dev nD) : Thread nD τ).loc main_arg1) y)) : InRange (tbl m) := by
  have e0 : tbl m 0 = m (((0 : Dev nD) : Thread nD τ).loc main_arg0) := V_arg0 m 0
  have e1 : tbl m 1 = m (((0 : Dev nD) : Thread nD τ).loc main_arg1) := V_arg1 m 0
  unfold InRange
  rw [e0, e1]
  exact h

theorem ok_of_words
    (h : (∀ y : S136.Idx, 0 ≤ BitVec.toInt (n := 32) (m (((0 : Dev nD) : Thread nD τ).loc main_arg0) y) ∧ BitVec.toInt (n := 32) (m (((0 : Dev nD) : Thread nD τ).loc main_arg0) y) ≤ 7)
      ∧ ∀ y : S1.Idx, 1 ≤ BitVec.toInt (n := 32) (m (((0 : Dev nD) : Thread nD τ).loc main_arg1) y)) : Ok m :=
  ok_of_inRange (inRange_of_words m h)

end Cert.KernelIdeal.Experts

end
-- ==== Proof.Experts.RunA.lean ====
/- A tile in use, first half: the rows are rounded and kept, and the running sum starts from zero. -/
module

public import proofs.«01_k».proof.Proof.Experts.Setup

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step's result from equal parts. -/
theorem step_congr {a a' : Vec F S512x1024 .bf16} {b b' d d' : Vec F S1x1024x1792 .bf16} {e e' : Vec F S512x1024 .f32} {g g' : Vec F S1x1792x1024 .bf16}
    (ha : a = a') (hb : b = b') (hd : d = d') (he : e = e') (hg : g = g') : k0_pay3 a b d e g = k0_pay3 a' b' d' e' g' := by
  subst ha hb hd he hg; rfl

set_option maxHeartbeats 1000000 in
/-- A tile in use, first half: the rows are rounded and kept, and the running sum starts from zero. -/
theorem run_A (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : live i (usedAt xt1)) (h2 : firstHalf i) (h3 : ¬ lastHalf i) (h4 : ¬ fill i (usedAt xt1))
    (xi : Vec F S512x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (k0_pay1 x0) ∗ owns (c : Thread nD τ) arg10 fullShare (k0_pay3 (k0_pay1 x0) x1 x2 k0_pay2 x3) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9 arg10 harg10) K := by
  simp only [cc0_moe_experts_eq_skeleton]; unfold cc0_moe_experts_skel
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, HT0, HT1, Hk⟩
  obtain rfl := harg4.eq_unread hf4; obtain rfl := harg5.eq_unread hf5; obtain rfl := harg6.eq_unread hf6; obtain rfl := harg7.eq_unread hf7; obtain rfl := harg8.eq_unread hf8
  have e4 : ∀ h, View.readAt (Elt F) arg4.view (Rect.unit ![0, 0] S512x1024.size h).toLoadRect (harg4.unread x0) = x0 := fun h => (View.readAt_full _ _ _).trans (harg4.read_unread _)
  have e5 : ∀ h, View.readAt (Elt F) arg5.view (Rect.unit ![0, 0, 0] S1x1024x1792.size h).toLoadRect (harg5.unread x1) = x1 := fun h => (View.readAt_full _ _ _).trans (harg5.read_unread _)
  have e6 : ∀ h, View.readAt (Elt F) arg6.view (Rect.unit ![0, 0, 0] S1x1024x1792.size h).toLoadRect (harg6.unread x2) = x2 := fun h => (View.readAt_full _ _ _).trans (harg6.read_unread _)
  have e7 : ∀ h, View.readAt (Elt F) arg7.view (Rect.unit ![0, 0, 0] S1x1792x1024.size h).toLoadRect (harg7.unread x3) = x3 := fun h => (View.readAt_full _ _ _).trans (harg7.read_unread _)
  sl_exec (disch := first | sl_exact h1 | sl_exact h2 | sl_exact h3 | sl_exact h4)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    exact View.read_writes_full _ _ _ _ _
  isplitl [H10]
  · iexists _; isplitr
    swap; · iexact H10
    ipureintro
    refine (View.read_writes_full _ _ _ _ _).trans ?_
    exact step_congr (View.readCov_full _ _ _ _ _) (by first | rfl | exact e5 _) (by first | rfl | exact e6 _) (View.readCov_full _ _ _ _ _) (by first | rfl | exact e7 _)
  isplitl [HT0]; · iexact HT0
  iexact HT1

end Cert.KernelIdeal.Experts

end
-- ==== Proof.Experts.RunC.lean ====
/- A tile in use, second half: the running sum gets the second half of the hidden columns and is the tile's result. -/
module

public import proofs.«01_k».proof.Proof.Experts.RunA

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile in use, second half: the running sum gets the second half of the hidden columns and is the tile's result. -/
theorem run_C (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : live i (usedAt xt1)) (h2 : ¬ firstHalf i) (h3 : lastHalf i) (h4 : ¬ fill i (usedAt xt1))
    (xs0 : Vec F S512x1024 .bf16) (xs1 : Vec F S512x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay3 xs0 x1 x2 xs1 x3) ∗ owns (c : Thread nD τ) arg9 fullShare xs0 ∗ owns (c : Thread nD τ) arg10 fullShare (k0_pay3 xs0 x1 x2 xs1 x3) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9 arg10 harg10) K := by
  simp only [cc0_moe_experts_eq_skeleton]; unfold cc0_moe_experts_skel
  unfold owns
  iintro ⟨⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, HT0, HT1, Hk⟩
  obtain rfl := harg4.eq_unread hf4; obtain rfl := harg5.eq_unread hf5; obtain rfl := harg6.eq_unread hf6; obtain rfl := harg7.eq_unread hf7; obtain rfl := harg9.eq_unread hf9; obtain rfl := harg10.eq_unread hf10
  have e4 : ∀ h, View.readAt (Elt F) arg4.view (Rect.unit ![0, 0] S512x1024.size h).toLoadRect (harg4.unread x0) = x0 := fun h => (View.readAt_full _ _ _).trans (harg4.read_unread _)
  have e5 : ∀ h, View.readAt (Elt F) arg5.view (Rect.unit ![0, 0, 0] S1x1024x1792.size h).toLoadRect (harg5.unread x1) = x1 := fun h => (View.readAt_full _ _ _).trans (harg5.read_unread _)
  have e6 : ∀ h, View.readAt (Elt F) arg6.view (Rect.unit ![0, 0, 0] S1x1024x1792.size h).toLoadRect (harg6.unread x2) = x2 := fun h => (View.readAt_full _ _ _).trans (harg6.read_unread _)
  have e7 : ∀ h, View.readAt (Elt F) arg7.view (Rect.unit ![0, 0, 0] S1x1792x1024.size h).toLoadRect (harg7.unread x3) = x3 := fun h => (View.readAt_full _ _ _).trans (harg7.read_unread _)
  have e9 : ∀ h, View.readAt (Elt F) arg9.view (Rect.unit ![0, 0] S512x1024.size h).toLoadRect (harg9.unread xs0) = xs0 := fun h => (View.readAt_full _ _ _).trans (harg9.read_unread _)
  have e10 : ∀ h, View.readAt (Elt F) arg10.view (Rect.unit ![0, 0] S512x1024.size h).toLoadRect (harg10.unread xs1) = xs1 := fun h => (View.readAt_full _ _ _).trans (harg10.read_unread _)
  sl_exec (disch := first | sl_exact h1 | sl_exact h2 | sl_exact h3 | sl_exact h4)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full _ _ _ _ _).trans ?_
    refine (View.readCov_full _ _ _ _ _).trans ?_
    exact step_congr (by first | rfl | exact e9 _) (by first | rfl | exact e5 _) (by first | rfl | exact e6 _) (by first | rfl | exact e10 _) (by first | rfl | exact e7 _)
  isplitl [H9]
  · iexists _; isplitr; · ipureintro; exact harg9.read_unread _
    iexact H9
  isplitl [H10]
  · iexists _; isplitr
    swap; · iexact H10
    ipureintro
    refine (View.read_writes_full _ _ _ _ _).trans ?_
    exact step_congr (by first | rfl | exact e9 _) (by first | rfl | exact e5 _) (by first | rfl | exact e6 _) (by first | rfl | exact e10 _) (by first | rfl | exact e7 _)
  isplitl [HT0]; · iexact HT0
  iexact HT1

end Cert.KernelIdeal.Experts

end
-- ==== Proof.Experts.RunD.lean ====
/- A tile not in use, second half: its result is zero. -/
module

public import proofs.«01_k».proof.Proof.Experts.RunC

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile not in use, second half: its result is zero. -/
theorem run_D (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : ¬ live i (usedAt xt1)) (h4 : fill i (usedAt xt1))
    (xs0 : Vec F S512x1024 .bf16) (xs1 : Vec F S512x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay4 ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9 arg10 harg10) K := by
  simp only [cc0_moe_experts_eq_skeleton]; unfold cc0_moe_experts_skel
  unfold owns
  iintro ⟨⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, HT0, HT1, Hk⟩
  obtain rfl := harg4.eq_unread hf4; obtain rfl := harg5.eq_unread hf5; obtain rfl := harg6.eq_unread hf6; obtain rfl := harg7.eq_unread hf7; obtain rfl := harg9.eq_unread hf9; obtain rfl := harg10.eq_unread hf10
  sl_exec (disch := first | sl_exact h1 | sl_exact h4)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact View.read_writes_full _ _ _ _ _
  isplitl [H9]
  · iexists _; isplitr; · ipureintro; exact harg9.read_unread _
    iexact H9
  isplitl [H10]
  · iexists _; isplitr; · ipureintro; exact harg10.read_unread _
    iexact H10
  isplitl [HT0]; · iexact HT0
  iexact HT1

end Cert.KernelIdeal.Experts

end
-- ==== Proof.Experts.RunB.lean ====
/- A tile not in use, first half: nothing happens. -/
module

public import proofs.«01_k».proof.Proof.Experts.RunD

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile not in use, first half: nothing happens. -/
theorem run_B (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : ¬ live i (usedAt xt1)) (h4 : ¬ fill i (usedAt xt1))
    (xi : Vec F S512x1024 .f32) (xs0 : Vec F S512x1024 .bf16) (xs1 : Vec F S512x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare xs0 ∗ owns (c : Thread nD τ) arg10 fullShare xs1 ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9 arg10 harg10) K := by
  simp only [cc0_moe_experts_eq_skeleton]; unfold cc0_moe_experts_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h4)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [HT0]; · iexact HT0
  iexact HT1

end Cert.KernelIdeal.Experts

end
-- ==== Proof.Experts.Frame.lean ====
/- The experts kernel point by point: what the running sum holds between points, what each tile's result is, and the run of the whole grid. -/
module

public import proofs.«01_k».proof.Proof.Experts.RunB
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves behind -/

/-- The number of tiles in use. -/
abbrev nUsed (c : Dev nD) : BitVec 32 := usedAt (F := F) (c := c) (tbl m 1)

/-- Whether a tile is in use depends on the tile alone. -/
theorem live_tile {i j : grid0.Coords} (v : BitVec 32) (h : (i 0).val = (j 0).val) : live i v ↔ live j v := by
  simp only [live, k0_cond1, h]

/-- The rounded input rows of the tile at point `t`. -/
def rowsAt (hO : Ok m) (c : Dev nD) (t : Fin (cfgM m hO).N) : Vec F S512x1024 .bf16 := k0_pay1 (iblk m hO c 0 t)
/-- The running sum after the first half of the hidden columns. -/
def halfAt (hO : Ok m) (c : Dev nD) (t : Fin (cfgM m hO).N) : Vec F S512x1024 .f32 :=
  k0_pay3 (rowsAt m hO c t) (iblk m hO c 1 t) (iblk m hO c 2 t) k0_pay2 (iblk m hO c 3 t)
/-- The point before. -/
abbrev prev (hO : Ok m) (t : Fin (cfgM m hO).N) : Fin (cfgM m hO).N := ⟨t.val - 1, Nat.lt_of_le_of_lt (Nat.sub_le _ _) t.isLt⟩
/-- The running sum after the second half. -/
def sumAt (hO : Ok m) (c : Dev nD) (t : Fin (cfgM m hO).N) : Vec F S512x1024 .f32 :=
  k0_pay3 (rowsAt m hO c (prev m hO t)) (iblk m hO c 1 t) (iblk m hO c 2 t) (halfAt m hO c (prev m hO t)) (iblk m hO c 3 t)
/-- What the output's buffer holds after the second half of a tile: the sum, or zeros if the tile is not in use. -/
def outAt (hO : Ok m) (c : Dev nD) (t : Fin (cfgM m hO).N) : Vec F S512x1024 .f32 :=
  if live (grid0.coords t) (nUsed m c) then sumAt m hO c t else k0_pay4

/-- The two scratch buffers at anything, -/
def anyScr (c : Dev nD) : sProp 𝕄 := iprop((∃ d, owns (c : Thread nD τ) scM0 fullShare d) ∗ (∃ d, owns (c : Thread nD τ) scM1 fullShare d))
/-- and between the two halves of the tile whose first point is `t`. -/
def halfScr (hO : Ok m) (c : Dev nD) (t : Fin (cfgM m hO).N) : sProp 𝕄 :=
  iprop(owns (c : Thread nD τ) scM0 fullShare (rowsAt m hO c t) ∗ owns (c : Thread nD τ) scM1 fullShare (halfAt m hO c t))

theorem halfScr_any (hO : Ok m) (c : Dev nD) (t : Fin (cfgM m hO).N) : halfScr m hO c t ⊢ (anyScr c : sProp 𝕄) := by
  unfold halfScr anyScr
  iintro ⟨H0, H1⟩
  isplitl [H0]
  · iexists _; iexact H0
  iexists _; iexact H1

/-- The scratch buffers before point `n`. -/
def scr (hO : Ok m) (c : Dev nD) (n : ℕ) (hn : n ≤ (cfgM m hO).N) : sProp 𝕄 :=
  if h : n % 2 = 1 ∧ ∃ k : Fin (cfgM m hO).N, k.val = n - 1 ∧ live (grid0.coords k) (nUsed m c) then halfScr m hO c ⟨n - 1, by have := h.1; omega⟩
  else anyScr c

theorem scr_even (hO : Ok m) (c : Dev nD) (n : ℕ) (hn : n ≤ (cfgM m hO).N) (h : ¬ n % 2 = 1) : scr m hO c n hn = anyScr c :=
  dif_neg fun hh => h hh.1

theorem same_tile (t k : Fin grid0.N) (h : t.val % 2 = 1) (hk : k.val = t.val - 1) : (grid0.coords k 0).val = (grid0.coords t 0).val := by
  rw [coord0, coord0]; omega

theorem scr_live (hO : Ok m) (c : Dev nD) (t : Fin (cfgM m hO).N) (h : t.val % 2 = 1) (hl : live (grid0.coords t) (nUsed m c)) :
    scr m hO c t.val (Nat.le_of_lt t.isLt) = halfScr m hO c (prev m hO t) :=
  dif_pos ⟨h, prev m hO t, rfl, (live_tile _ (same_tile t (prev m hO t) h rfl)).mpr hl⟩

theorem scr_dead (hO : Ok m) (c : Dev nD) (t : Fin (cfgM m hO).N) (h : t.val % 2 = 1) (hl : ¬ live (grid0.coords t) (nUsed m c)) :
    scr m hO c t.val (Nat.le_of_lt t.isLt) = anyScr c :=
  dif_neg fun ⟨_, k, hk, hh⟩ => hl ((live_tile _ (same_tile t k h hk)).mp hh)

theorem scr_after_live (hO : Ok m) (c : Dev nD) (t : Fin (cfgM m hO).N) (h : t.val % 2 = 0) (hl : live (grid0.coords t) (nUsed m c)) :
    scr m hO c (t.val + 1) t.isLt = halfScr m hO c t :=
  dif_pos ⟨by omega, t, rfl, hl⟩

theorem scr_after_dead (hO : Ok m) (c : Dev nD) (t : Fin (cfgM m hO).N) (hl : ¬ live (grid0.coords t) (nUsed m c)) :
    scr m hO c (t.val + 1) t.isLt = anyScr c :=
  dif_neg fun ⟨_, k, hk, hh⟩ => hl (by obtain rfl : k = t := Fin.ext (by omega); exact hh)

/-- What holds before point `n`: the scratch buffers, the generator register, the tables. -/
def inv (hO : Ok m) (c : Dev nD) (n : ℕ) (hn : n ≤ (cfgM m hO).N) : sProp 𝕄 :=
  iprop(iprop(scr m hO c n hn ∗ (∃ r, prngReg c r)) ∗ Pipeline.ΦT pre0 (tbl m) c)

/-! ## The pipeline's proof data -/

/-- The arrays as launched, each window's buffer after each point, and the invariant. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem inv_castSucc (hO : Ok m) (c : Dev nD) (t : Fin (cfgM m hO).N) :
    (dats m hO 0 c).Φ t.castSucc = inv m hO c t.val (Nat.le_of_lt t.isLt) := by
  dsimp only [dats]; exact Pipeline.Dat.Φ_castSucc (inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## The body at a point -/

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem in_live (a : (pcfg0 (F := F)).Adm) (t : Fin (cfg0 a).N) : (cfg0 a).idle 0 (grid0.coords t) = false ∧ (cfg0 a).idle 1 (grid0.coords t) = false
    ∧ (cfg0 a).idle 2 (grid0.coords t) = false ∧ (cfg0 a).idle 3 (grid0.coords t) = false := ⟨rfl, rfl, rfl, rfl⟩

theorem leaves_0 (hO : Ok m) (c : Dev nD) (t : Fin (cfgM m hO).N) :
    (dats m hO 0 c).leavesExact 0 t = owns (c : Thread nD τ) (ms0 m hO t) fullShare (iblk m hO c 0 t) := by
  rw [show (dats m hO 0 c).leavesExact 0 t = owns (c : Thread nD τ) (ms0 m hO t) fullShare ((dats m hO 0 c).after 0 t) from by
    unfold Dat.leavesExact; rw [show (cfgM m hO).idle 0 ((cfgM m hO).grid.coords t) = false from (in_live (adm m hO) t).1]; try rfl, after_0]

theorem leaves_1 (hO : Ok m) (c : Dev nD) (t : Fin (cfgM m hO).N) :
    (dats m hO 0 c).leavesExact 1 t = owns (c : Thread nD τ) (ms1 m hO t) fullShare (iblk m hO c 1 t) := by
  rw [show (dats m hO 0 c).leavesExact 1 t = owns (c : Thread nD τ) (ms1 m hO t) fullShare ((dats m hO 0 c).after 1 t) from by
    unfold Dat.leavesExact; rw [show (cfgM m hO).idle 1 ((cfgM m hO).grid.coords t) = false from (in_live (adm m hO) t).2.1]; try rfl, after_1]

theorem leaves_2 (hO : Ok m) (c : Dev nD) (t : Fin (cfgM m hO).N) :
    (dats m hO 0 c).leavesExact 2 t = owns (c : Thread nD τ) (ms2 m hO t) fullShare (iblk m hO c 2 t) := by
  rw [show (dats m hO 0 c).leavesExact 2 t = owns (c : Thread nD τ) (ms2 m hO t) fullShare ((dats m hO 0 c).after 2 t) from by
    unfold Dat.leavesExact; rw [show (cfgM m hO).idle 2 ((cfgM m hO).grid.coords t) = false from (in_live (adm m hO) t).2.2.1]; try rfl, after_2]

theorem leaves_3 (hO : Ok m) (c : Dev nD) (t : Fin (cfgM m hO).N) :
    (dats m hO 0 c).leavesExact 3 t = owns (c : Thread nD τ) (ms3 m hO t) fullShare (iblk m hO c 3 t) := by
  rw [show (dats m hO 0 c).leavesExact 3 t = owns (c : Thread nD τ) (ms3 m hO t) fullShare ((dats m hO 0 c).after 3 t) from by
    unfold Dat.leavesExact; rw [show (cfgM m hO).idle 3 ((cfgM m hO).grid.coords t) = false from (in_live (adm m hO) t).2.2.2]; try rfl, after_3]

theorem leaves_4 (hO : Ok m) (c : Dev nD) (t : Fin (cfgM m hO).N) (h : lastHalf (grid0.coords t)) :
    (dats m hO 0 c).leavesExact 4 t = owns (c : Thread nD τ) (ms4 m hO t) fullShare (outAt m hO c t) := by
  rw [show (dats m hO 0 c).leavesExact 4 t = owns (c : Thread nD τ) (ms4 m hO t) fullShare ((dats m hO 0 c).after 4 t) from by
    unfold Dat.leavesExact; rw [show (cfgM m hO).idle 4 ((cfgM m hO).grid.coords t) = false from idle_last (adm m hO) t h]; try rfl, after_4]

set_option maxHeartbeats 6400000 in
/-- The body at any point: the branch that runs is told by the point's half and whether its tile is in use. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = inv m hO c (t.val + 1) t.isLt from rfl, inv_castSucc m hO c t]
  rw [leaves_0, leaves_1, leaves_2, leaves_3]
  unfold inv
  rw [PhiT_eq]
  by_cases hl : live (grid0.coords t) (nUsed m c)
  · have h4 : ¬ fill (grid0.coords t) (nUsed m c) := fun h => ((fill_iff _ _).mp h).1 hl
    by_cases h0 : t.val % 2 = 0
    · have h3 : ¬ lastHalf (grid0.coords t) := fun h => by have := (lastHalf_iff t).mp h; omega
      rw [Dat.leavesExact_idle (dats m hO 0 c) 4 t (idle_first (adm m hO) t h3) (noFlush_first m hO t (by omega))]
      rw [scr_even m hO c t.val _ (by omega), scr_after_live m hO c t h0 hl]
      unfold halfScr anyScr
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ (iblk m hO c 0 t) (iblk m hO c 1 t) (iblk m hO c 2 t) (iblk m hO c 3 t) (tbl m 0) (tbl m 1) hl ((firstHalf_iff t).mpr h0) h3 h4 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have h1 : t.val % 2 = 1 := by omega
      have h3 : lastHalf (grid0.coords t) := (lastHalf_iff t).mpr h1
      rw [leaves_4 m hO c t h3, show outAt m hO c t = sumAt m hO c t from if_pos hl]
      rw [scr_live m hO c t h1 hl, scr_even m hO c (t.val + 1) _ (by omega)]
      unfold halfScr anyScr sumAt
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_C c (grid0.coords t) _ _ _ _ _ _ _ _ _ _ _ _ _ _ (iblk m hO c 0 t) (iblk m hO c 1 t) (iblk m hO c 2 t) (iblk m hO c 3 t) (tbl m 0) (tbl m 1) hl (fun h => h0 ((firstHalf_iff t).mp h)) h3 h4 (rowsAt m hO c (prev m hO t)) (halfAt m hO c (prev m hO t)) Set.univ _)
      isplitl [H0]; · iexact H0
      isplitl [H1]; · iexact H1
      isplitl [H2]; · iexact H2
      isplitl [H3]; · iexact H3
      isplitl [H4]
      · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · by_cases h0 : t.val % 2 = 0
    · have h3 : ¬ lastHalf (grid0.coords t) := fun h => by have := (lastHalf_iff t).mp h; omega
      rw [Dat.leavesExact_idle (dats m hO 0 c) 4 t (idle_first (adm m hO) t h3) (noFlush_first m hO t (by omega))]
      rw [scr_even m hO c t.val _ (by omega), scr_after_dead m hO c t hl]
      unfold anyScr
      iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩, ⟨%d4, H4⟩⟩
      iapply (run_B c (grid0.coords t) _ _ _ _ _ _ _ _ _ _ _ _ _ _ (iblk m hO c 0 t) (iblk m hO c 1 t) (iblk m hO c 2 t) (iblk m hO c 3 t) (tbl m 0) (tbl m 1) hl (fun h => h3 ((fill_iff _ _).mp h).2) _ s0 s1 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have h1 : t.val % 2 = 1 := by omega
      have h3 : lastHalf (grid0.coords t) := (lastHalf_iff t).mpr h1
      rw [leaves_4 m hO c t h3, show outAt m hO c t = k0_pay4 from if_neg hl]
      rw [scr_dead m hO c t h1 hl, scr_after_dead m hO c t hl]
      unfold anyScr
      iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩, ⟨%d4, H4⟩⟩
      iapply (run_D c (grid0.coords t) _ _ _ _ _ _ _ _ _ _ _ _ _ _ (iblk m hO c 0 t) (iblk m hO c 1 t) (iblk m hO c 2 t) (iblk m hO c 3 t) (tbl m 0) (tbl m 1) hl ((fill_iff _ _).mpr ⟨hl, h3⟩) s0 s1 Set.univ _)
      isplitl [H0]; · iexact H0
      isplitl [H1]; · iexact H1
      isplitl [H2]; · iexact H2
      isplitl [H3]; · iexact H3
      isplitl [H4]
      · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The body table's row at point `t` is the body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

set_option maxHeartbeats 4000000 in
/-- The pipeline's obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch hands over the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl]
  unfold inv
  rw [scr_even m hO c 0 _ (by decide), PhiA_eq]
  unfold anyScr
  exact Idealize.SL.BI.Entails.refl _

/-- and takes back the scratch buffers after the last. -/
theorem hout (hO : Ok m) (c : Dev nD) : (dats m hO 0 c).Φ (Fin.last (cfgM m hO).N) ⊢ Pipeline.ΦA spec0 c := by
  rw [show (dats m hO 0 c).Φ (Fin.last (cfgM m hO).N) = inv m hO c (cfgM m hO).N (Nat.le_refl _) from rfl]
  unfold inv
  rw [scr_even m hO c _ _ (by have : (cfgM m hO).N = 272 := N_0; omega), PhiA_eq]
  unfold anyScr
  iintro ⟨H, -⟩
  iexact H

/-! ## The run and the frame -/

set_option backward.isDefEq.respectTransparency.types false in
/-- The program runs to its end: every array is what the proof data say, and no semaphore is left raised. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiet m ρ hO)

/-- The argument arrays end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged_of m ρ hO (dats m hO) (A_eq m hO) (run_main m ρ hO)) ((θ_run defs _ _).mono (fun _ h => h.2) (run_quiet m ρ hO))

end Cert.KernelIdeal.Experts

end
-- ==== Proof.Experts.Same.lean ====
/- The experts kernel and its ideal program are one text, so what is proved of the one at every reading of the floats holds of the other. -/
module

public import proofs.«01_k».proof.Defs
public import proofs.«01_k».proof.Proof.Gen.Pre_tables_in_range
public import proofs.«01_k».proof.Proof.Gen.Kernel
public import proofs.«01_k».proof.Proof.Experts.Tables
public import proofs.«01_k».proof.Proof.Experts.Frame

@[expose] public section

namespace Cert.Proof.Experts

open Idealize.ShloMosaic Idealize.SL.Sem

variable {F : FTy → Type} [FloatOps F]

/-- The two bodies are the same, -/
theorem body_same : Cert.Kernel.cc0_moe_experts (F := F) = Cert.KernelIdeal.cc0_moe_experts (F := F) := rfl

/-- so are the tables that call them, -/
theorem labels_same : Cert.Kernel.defs₀ (F := F) = Cert.KernelIdeal.defs₀ (F := F) := by
  refine congrArg Defs.onTc (funext fun l => funext fun a => ?_)
  match l, a with
  | 0, (t, s) => rfl
  | ⟨_ + 1, h⟩, _ => exact absurd h (Nat.not_lt.2 (Nat.le_add_left _ _))
theorem defs_same : Cert.Kernel.defs (F := F) = Cert.KernelIdeal.defs (F := F) :=
  congrArg (Pipeline.defs Cert.Kernel.pcfgs) labels_same

/-- and so are the whole programs. -/
theorem main_same : Cert.Kernel.main (F := F) = Cert.KernelIdeal.main (F := F) := rfl
theorem run_same : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun d p => θ_run d (onTc (τ := Cert.Kernel.τ) p)) defs_same main_same

/-- The kernel ends, with its arguments unchanged and its counters at zero, from tables in range. -/
theorem frame_kernel : Cert.quiescent_Kernel (hKernel := Cert.Kernel.Gen.facts) (hPre_tables_in_range := Cert.Pre_tables_in_range.Gen.facts) :=
  fun m ρ h => by
    have k := Cert.KernelIdeal.Experts.frame (F := Bits) m ρ
      (Cert.KernelIdeal.Experts.ok_of_words (F := Bits) m (Cert.KernelIdeal.Experts.words_of_pre _ _ _ _ _ _ (h 0).1 (h 0).2))
    rw [← run_same] at k
    exact k

end Cert.Proof.Experts

end
-- ==== Proof.Experts.Step.lean ====
/- One step of the experts kernel over the extended reals: what it adds to the running sum. -/
module

public import proofs.«01_k».proof.Proof.Gen.KernelIdeal.Skeleton
public import Idealize.ShloMosaic.Lib.Pointwise

@[expose] public section

set_option maxRecDepth 16384

noncomputable section

namespace Cert.KernelIdeal.Experts

open Cert.KernelIdeal Cert.KernelIdeal.Gen
open Idealize.ShloMosaic
open scoped BigOperators

/-- The gate's activation `a · 1/(1 + e⁻ᵃ)`. -/
def act (a : EReal) : EReal := a * Ideal.logistic a

set_option maxHeartbeats 2000000 in
/-- A step adds, to each entry of the running sum, the products of the gated hidden columns of its half with the down weights. -/
theorem step_apply (xb : Vec Ideal S512x1024 .bf16) (wg wu : Vec Ideal S1x1024x1792 .bf16) (acc : Vec Ideal S512x1024 .f32)
    (wd : Vec Ideal S1x1792x1024 .bf16) (r : Fin 512) (j : Fin 1024) :
    k0_pay3 xb wg wu acc wd (ix2 r j)
      = acc (ix2 r j) + ∑ h : Fin 1792, (act (∑ d : Fin 1024, xb (ix2 r d) * wg (ix3 0 d h)) * (∑ d : Fin 1024, xb (ix2 r d) * wu (ix3 0 d h)))
          * wd (ix3 0 h j) := by
  unfold k0_pay3 act
  pointwise [dot_S512x1024_S1024x1792_S512x1792_1_0_0_1_n_n, dot_S512x1792_S1792x1024_S512x1024_1_0_0_1_n_n]

/-- The rounded rows are the rows. -/
theorem rows_apply (x : Vec Ideal S512x1024 .f32) (r : Fin 512) (j : Fin 1024) : k0_pay1 x (ix2 r j) = x (ix2 r j) := by
  unfold k0_pay1
  pointwise [dot_S512x1024_S1024x1792_S512x1792_1_0_0_1_n_n, dot_S512x1792_S1792x1024_S512x1024_1_0_0_1_n_n]

theorem start_apply (y : S512x1024.Idx) : k0_pay2 (F := Ideal) y = 0 := by
  unfold k0_pay2
  pointwise [dot_S512x1024_S1024x1792_S512x1792_1_0_0_1_n_n, dot_S512x1792_S1792x1024_S512x1024_1_0_0_1_n_n]

theorem empty_apply (y : S512x1024.Idx) : k0_pay4 (F := Ideal) y = 0 := by
  unfold k0_pay4
  pointwise [dot_S512x1024_S1024x1792_S512x1792_1_0_0_1_n_n, dot_S512x1792_S1792x1024_S512x1024_1_0_0_1_n_n]

end Cert.KernelIdeal.Experts

end
-- ==== Proof.Rows.Index.lean ====
/- Where a block's entries sit in its array, and indices told apart by their coordinates. -/
module

public import Idealize.ShloMosaic.Lib.Pipeline.ValueKit

@[expose] public section

noncomputable section

namespace Cert.Proof.Index

open Idealize.ShloMosaic
open Idealize.ShloMosaic.Pipeline (Window)

/-- Indices with equal coordinates are equal. -/
theorem idx1_same {a : ℕ} {f g : (⟨1, ![a]⟩ : Shape).Idx} (h0 : (f 0).val = (g 0).val) : f = g := by
  funext k
  match k with
  | 0 => exact Fin.ext h0
theorem idx2_same {a b : ℕ} {f g : (⟨2, ![a, b]⟩ : Shape).Idx} (h0 : (f 0).val = (g 0).val) (h1 : (f 1).val = (g 1).val) : f = g := by
  funext k
  match k with
  | 0 => exact Fin.ext h0
  | 1 => exact Fin.ext h1
theorem idx3_same {a b c : ℕ} {f g : (⟨3, ![a, b, c]⟩ : Shape).Idx} (h0 : (f 0).val = (g 0).val) (h1 : (f 1).val = (g 1).val)
    (h2 : (f 2).val = (g 2).val) : f = g := by
  funext k
  match k with
  | 0 => exact Fin.ext h0
  | 1 => exact Fin.ext h1
  | 2 => exact Fin.ext h2

theorem idx4_same {a b c d : ℕ} {f g : (⟨4, ![a, b, c, d]⟩ : Shape).Idx} (h0 : (f 0).val = (g 0).val) (h1 : (f 1).val = (g 1).val)
    (h2 : (f 2).val = (g 2).val) (h3 : (f 3).val = (g 3).val) : f = g := by
  funext k
  match k with
  | 0 => exact Fin.ext h0
  | 1 => exact Fin.ext h1
  | 2 => exact Fin.ext h2
  | 3 => exact Fin.ext h3
theorem idx5_same {a b c d e : ℕ} {f g : (⟨5, ![a, b, c, d, e]⟩ : Shape).Idx} (h0 : (f 0).val = (g 0).val) (h1 : (f 1).val = (g 1).val)
    (h2 : (f 2).val = (g 2).val) (h3 : (f 3).val = (g 3).val) (h4 : (f 4).val = (g 4).val) : f = g := by
  funext k
  match k with
  | 0 => exact Fin.ext h0
  | 1 => exact Fin.ext h1
  | 2 => exact Fin.ext h2
  | 3 => exact Fin.ext h3
  | 4 => exact Fin.ext h4

/-- A fact about each coordinate of an index with four, or five, of them. -/
theorem all_four {p : Fin 4 → Prop} (h0 : p 0) (h1 : p 1) (h2 : p 2) (h3 : p 3) : ∀ a, p a
  | 0 => h0 | 1 => h1 | 2 => h2 | 3 => h3
theorem all_five {p : Fin 5 → Prop} (h0 : p 0) (h1 : p 1) (h2 : p 2) (h3 : p 3) (h4 : p 4) : ∀ a, p a
  | 0 => h0 | 1 => h1 | 2 => h2 | 3 => h3 | 4 => h4

/-- Where a window's block sits in its array, with the block's index and size named. -/
theorem emb_val {sig : RefSig} {G : Pipeline.Grid} (w : Window sig G) (t : Fin G.N) (y : (w.xblock (G.coords t)).Idx) (a : Fin w.shape.rank) (hk : w.kind = .blocked)
    (n s : ℕ) (hn : w.index t a = n) (hs : w.size a = s) : ((w.rect t).emb y a : ℕ) = n * s + y a := by
  rw [Window.rect_emb_val w t y a hk, hn, hs]

/-- A block's entry sits at the index whose coordinates are the block's index times its size plus the entry's. -/
theorem emb_same {sig : RefSig} {G : Pipeline.Grid} (w : Window sig G) (t : Fin G.N) (hk : w.kind = .blocked) (n : Fin w.shape.rank → ℕ) (hn : w.index t = n)
    (y : (w.xblock (G.coords t)).Idx) (k : w.shape.Idx) (h : ∀ a, n a * w.size a + (y a).val = (k a).val) : (w.rect t).emb y = k :=
  funext fun a => Fin.ext ((emb_val w t y a hk (n a) (w.size a) (congrFun hn a) rfl).trans (h a))

end Cert.Proof.Index

end
-- ==== Proof.Experts.Value.lean ====
/- What the experts kernel leaves in its result array over the extended reals. -/
module

public import proofs.«01_k».proof.Proof.Experts.Frame
public import proofs.«01_k».proof.Proof.Experts.Tables
public import proofs.«01_k».proof.Proof.Experts.Step
public import Idealize.ShloMosaic.Lib.Pipeline.ValueKit
public import proofs.«01_k».proof.Proof.Rows.Index

@[expose] public section

set_option maxRecDepth 16384

noncomputable section

namespace Cert.KernelIdeal.Experts

open Cert.KernelIdeal Cert.KernelIdeal.Gen Cert.Proof.Index
open Idealize.ShloMosaic Idealize.ShloMosaic.TcCoe
open Idealize.ShloMosaic.Pipeline (Dat Cfg Window)
open scoped BigOperators

variable (m : (ℓ : Loc nD τ sig) → Buf (Elt Ideal) ℓ)

/-! ## The result as a function of the arguments -/

/-- One term of an expert's value at row `r` and column `j`: the hidden column `h`, gated, times its down weight. -/
def term (X : S69632x1024.Idx → EReal) (Wg Wu : S8x1024x3584.Idx → EReal) (Wd : S8x3584x1024.Idx → EReal) (e : Fin 8) (r : Fin 69632) (j : Fin 1024)
    (h : Fin 3584) : EReal :=
  (act (∑ d : Fin 1024, X (ix2 r d) * Wg (ix3 e d h)) * (∑ d : Fin 1024, X (ix2 r d) * Wu (ix3 e d h))) * Wd (ix3 e h j)

/-- Expert `e`'s value at row `r` and column `j`. -/
def value (X : S69632x1024.Idx → EReal) (Wg Wu : S8x1024x3584.Idx → EReal) (Wd : S8x3584x1024.Idx → EReal) (e : Fin 8) (r : Fin 69632) (j : Fin 1024) : EReal :=
  ∑ h : Fin 3584, term X Wg Wu Wd e r j h

/-- The tile of a row. -/
def tileOf (r : Fin 69632) : Fin 136 := ⟨r.val / 512, by have := r.isLt; omega⟩

/-- A tile's expert. -/
def expertOf (te : S136.Idx → BitVec 32) (i : Fin 136) : Fin 8 := ⟨(te (ix1 i)).toNat % 8, Nat.mod_lt _ (by decide)⟩

/-- The result: each row's own expert's value, and zero in the rows of tiles that are not in use. -/
def result (te : S136.Idx → BitVec 32) (nu : S1.Idx → BitVec 32) (X : S69632x1024.Idx → EReal) (Wg Wu : S8x1024x3584.Idx → EReal)
    (Wd : S8x3584x1024.Idx → EReal) (r : Fin 69632) (j : Fin 1024) : EReal :=
  if ((tileOf r).val : ℤ) < (nu (ix1 0)).toInt then value X Wg Wu Wd (expertOf te (tileOf r)) r j else 0

/-- The hidden columns are the first half and then the second. -/
theorem sum_halves (f : Fin 3584 → EReal) :
    ∑ h : Fin 3584, f h = (∑ h : Fin 1792, f ⟨h.val, by omega⟩) + ∑ h : Fin 1792, f ⟨1792 + h.val, by omega⟩ :=
  Fin.sum_univ_add (a := 1792) (b := 1792) f

/-! ## The weights as the kernel finds them -/

theorem V_gate (c : Dev nD) (y : S8x1024x3584.Idx) : V m c main_v0 y = m ((c : Thread nD τ).loc main_arg3) y := by
  entry_read; rfl
theorem V_up (c : Dev nD) (y : S8x1024x3584.Idx) : V m c main_v1 y = m ((c : Thread nD τ).loc main_arg4) y := by
  entry_read; rfl
theorem V_down (c : Dev nD) (y : S8x3584x1024.Idx) : V m c main_v2 y = m ((c : Thread nD τ).loc main_arg5) y := by
  entry_read; rfl

/-! ## The tables' words -/

section Words
variable (pf : pre0.Contents (Elt Ideal))

theorem expertWord_eq (i : grid0.Coords) : expertWord pf i = pf 0 (ix1 (n0 := 136) ⟨(i 0).val, tile_lt i⟩) := by
  have hi := tile_lt i
  refine congrArg (pf 0) (idx1_same (a := 136) ?_)
  show (BitVec.ofNat 32 (i 0).val).toNat + 1 * 0 = (i 0).val
  rw [BitVec.toNat_ofNat]
  omega

theorem usedWord_eq : usedWord pf = pf 1 (ix1 (n0 := 1) 0) :=
  congrArg (pf 1) (idx1_same (a := 1) rfl)
end Words

/-! ## The blocks that a tile in use reads -/

section Blocks
variable (hO : Ok m) (c : Dev nD) (t : Fin (cfgM m hO).N)

theorem index_rows : ((cfgM m hO).win 0).index t = ![(rowWord (tbl m) (grid0.coords t)).toNat, 0] := rfl
theorem index_gate : ((cfgM m hO).win 1).index t = ![(expertWord (tbl m) (grid0.coords t)).toNat, 0, (halfWord (tbl m) (grid0.coords t)).toNat] := rfl
theorem index_up : ((cfgM m hO).win 2).index t = ![(expertWord (tbl m) (grid0.coords t)).toNat, 0, (halfWord (tbl m) (grid0.coords t)).toNat] := rfl
theorem index_down : ((cfgM m hO).win 3).index t = ![(expertWord (tbl m) (grid0.coords t)).toNat, (halfWord (tbl m) (grid0.coords t)).toNat, 0] := rfl

/-- The block of rows, -/
theorem read_rows (R : ℕ) (hR : (rowWord (tbl m) (grid0.coords t)).toNat = R) (y : S512x1024.Idx) (k : S69632x1024.Idx)
    (h0 : R * 512 + (y 0).val = (k 0).val) (h1 : 0 * 1024 + (y 1).val = (k 1).val) :
    iblk m hO c 0 t y = m ((c : Thread nD τ).loc main_arg2) k := by
  rw [← V_arg2 m c]
  unfold iblk
  exact congrArg (V m c main_arg2) (idx2_same (a := 69632) (b := 1024)
    ((emb_val ((cfgM m hO).win 0) t y (0 : Fin 2) rfl R 512 ((congrFun (index_rows m hO t) (0 : Fin 2)).trans hR) rfl).trans h0)
    ((emb_val ((cfgM m hO).win 0) t y (1 : Fin 2) rfl 0 1024 (congrFun (index_rows m hO t) (1 : Fin 2)) rfl).trans h1))

/-- of gate weights, -/
theorem read_gate (E H : ℕ) (hE : (expertWord (tbl m) (grid0.coords t)).toNat = E) (hH : (halfWord (tbl m) (grid0.coords t)).toNat = H)
    (y : S1x1024x1792.Idx) (k : S8x1024x3584.Idx) (h0 : E * 1 + (y 0).val = (k 0).val) (h1 : 0 * 1024 + (y 1).val = (k 1).val)
    (h2 : H * 1792 + (y 2).val = (k 2).val) :
    iblk m hO c 1 t y = m ((c : Thread nD τ).loc main_arg3) k := by
  rw [← V_gate m c]
  unfold iblk
  exact congrArg (V m c main_v0) (idx3_same (a := 8) (b := 1024) (c := 3584)
    ((emb_val ((cfgM m hO).win 1) t y (0 : Fin 3) rfl E 1 ((congrFun (index_gate m hO t) (0 : Fin 3)).trans hE) rfl).trans h0)
    ((emb_val ((cfgM m hO).win 1) t y (1 : Fin 3) rfl 0 1024 (congrFun (index_gate m hO t) (1 : Fin 3)) rfl).trans h1)
    ((emb_val ((cfgM m hO).win 1) t y (2 : Fin 3) rfl H 1792 ((congrFun (index_gate m hO t) (2 : Fin 3)).trans hH) rfl).trans h2))

/-- of up weights -/
theorem read_up (E H : ℕ) (hE : (expertWord (tbl m) (grid0.coords t)).toNat = E) (hH : (halfWord (tbl m) (grid0.coords t)).toNat = H)
    (y : S1x1024x1792.Idx) (k : S8x1024x3584.Idx) (h0 : E * 1 + (y 0).val = (k 0).val) (h1 : 0 * 1024 + (y 1).val = (k 1).val)
    (h2 : H * 1792 + (y 2).val = (k 2).val) :
    iblk m hO c 2 t y = m ((c : Thread nD τ).loc main_arg4) k := by
  rw [← V_up m c]
  unfold iblk
  exact congrArg (V m c main_v1) (idx3_same (a := 8) (b := 1024) (c := 3584)
    ((emb_val ((cfgM m hO).win 2) t y (0 : Fin 3) rfl E 1 ((congrFun (index_up m hO t) (0 : Fin 3)).trans hE) rfl).trans h0)
    ((emb_val ((cfgM m hO).win 2) t y (1 : Fin 3) rfl 0 1024 (congrFun (index_up m hO t) (1 : Fin 3)) rfl).trans h1)
    ((emb_val ((cfgM m hO).win 2) t y (2 : Fin 3) rfl H 1792 ((congrFun (index_up m hO t) (2 : Fin 3)).trans hH) rfl).trans h2))

/-- and of down weights that a point reads. -/
theorem read_down (E H : ℕ) (hE : (expertWord (tbl m) (grid0.coords t)).toNat = E) (hH : (halfWord (tbl m) (grid0.coords t)).toNat = H)
    (y : S1x1792x1024.Idx) (k : S8x3584x1024.Idx) (h0 : E * 1 + (y 0).val = (k 0).val) (h1 : H * 1792 + (y 1).val = (k 1).val)
    (h2 : 0 * 1024 + (y 2).val = (k 2).val) :
    iblk m hO c 3 t y = m ((c : Thread nD τ).loc main_arg5) k := by
  rw [← V_down m c]
  unfold iblk
  exact congrArg (V m c main_v2) (idx3_same (a := 8) (b := 3584) (c := 1024)
    ((emb_val ((cfgM m hO).win 3) t y (0 : Fin 3) rfl E 1 ((congrFun (index_down m hO t) (0 : Fin 3)).trans hE) rfl).trans h0)
    ((emb_val ((cfgM m hO).win 3) t y (1 : Fin 3) rfl H 1792 ((congrFun (index_down m hO t) (1 : Fin 3)).trans hH) rfl).trans h1)
    ((emb_val ((cfgM m hO).win 3) t y (2 : Fin 3) rfl 0 1024 (congrFun (index_down m hO t) (2 : Fin 3)) rfl).trans h2))
end Blocks

/-! ## A tile's result -/

section Tile
variable (hO : Ok m) (c : Dev nD)

abbrev aX : S69632x1024.Idx → EReal := m ((c : Thread nD τ).loc main_arg2)
abbrev aG : S8x1024x3584.Idx → EReal := m ((c : Thread nD τ).loc main_arg3)
abbrev aU : S8x1024x3584.Idx → EReal := m ((c : Thread nD τ).loc main_arg4)
abbrev aD : S8x3584x1024.Idx → EReal := m ((c : Thread nD τ).loc main_arg5)

/-- A point is live when its tile is below the number of tiles in use. -/
theorem live_iff (i : grid0.Coords) : live i (nUsed m c) ↔ ((i 0).val : ℤ) < (usedWord (tbl m)).toInt := by
  have hi := tile_lt i
  have e : nUsed m c = usedWord (tbl m) := rfl
  rw [e, ← toInt_small _ hi, ← slt_iff]
  show Scalar.cmpi .ne (Scalar.extui (Scalar.cmpi .slt (BitVec.ofNat 32 (i 0).val) (usedWord (tbl m)))) 0#32 = 1#1 ↔ _
  generalize Scalar.cmpi .slt (BitVec.ofNat 32 (i 0).val) (usedWord (tbl m)) = b
  revert b; decide

/-- The row of the whole array that row `r` of tile `i` is. -/
def rowOf (i : Fin 136) (r : Fin 512) : Fin 69632 := ⟨i.val * 512 + r.val, by have := i.isLt; have := r.isLt; omega⟩
/-- The hidden column that column `q` of half `H` is. -/
def hidOf (H : Fin 2) (q : Fin 1792) : Fin 3584 := ⟨H.val * 1792 + q.val, by have := H.isLt; have := q.isLt; omega⟩

/-- What a live point adds to the running sum. -/
theorem added (t : Fin (cfgM m hO).N) (i : Fin 136) (H : Fin 2) (e : Fin 8) (hi : (grid0.coords t 0).val = i.val) (hH : (grid0.coords t 1).val = H.val)
    (he : (expertWord (tbl m) (grid0.coords t)).toNat = e.val) (hl : ((grid0.coords t 0).val : ℤ) < (usedWord (tbl m)).toInt)
    (xs : Vec Ideal S512x1024 .bf16) (hx : ∀ r d, xs (ix2 r d) = aX m c (ix2 (rowOf i r) d)) (acc : Vec Ideal S512x1024 .f32) (r : Fin 512) (j : Fin 1024) :
    k0_pay3 xs (iblk m hO c 1 t) (iblk m hO c 2 t) acc (iblk m hO c 3 t) (ix2 r j)
      = acc (ix2 r j) + ∑ q : Fin 1792, term (aX m c) (aG m c) (aU m c) (aD m c) e (rowOf i r) j (hidOf H q) := by
  have hh := (half_live (pf := tbl m) (grid0.coords t) hl).trans hH
  have eg (d : Fin 1024) (q : Fin 1792) : iblk m hO c 1 t (ix3 (0 : Fin 1) d q) = aG m c (ix3 e d (hidOf H q)) :=
    read_gate m hO c t e.val H.val he hh _ _ (Nat.mul_one _) (Nat.zero_add _) rfl
  have eu (d : Fin 1024) (q : Fin 1792) : iblk m hO c 2 t (ix3 (0 : Fin 1) d q) = aU m c (ix3 e d (hidOf H q)) :=
    read_up m hO c t e.val H.val he hh _ _ (Nat.mul_one _) (Nat.zero_add _) rfl
  have ed (q : Fin 1792) : iblk m hO c 3 t (ix3 (0 : Fin 1) q j) = aD m c (ix3 e (hidOf H q) j) :=
    read_down m hO c t e.val H.val he hh _ _ (Nat.mul_one _) rfl (Nat.zero_add _)
  refine (step_apply xs _ _ acc _ r j).trans ?_
  refine congrArg (acc (ix2 r j) + ·) (Finset.sum_congr rfl fun q _ => ?_)
  unfold term
  refine congrArg₂ (· * ·) (congrArg₂ (· * ·) (congrArg act ?_) ?_) (ed q)
  · exact Finset.sum_congr rfl fun d _ => congrArg₂ (· * ·) (hx r d) (eg d q)
  · exact Finset.sum_congr rfl fun d _ => congrArg₂ (· * ·) (hx r d) (eu d q)

/-- The rounded rows of a live tile. -/
theorem rowsAt_apply (h : InRange (tbl m)) (t : Fin (cfgM m hO).N) (i : Fin 136) (hi : (grid0.coords t 0).val = i.val)
    (hl : ((grid0.coords t 0).val : ℤ) < (usedWord (tbl m)).toInt) (r : Fin 512) (d : Fin 1024) :
    rowsAt m hO c t (ix2 r d) = aX m c (ix2 (rowOf i r) d) :=
  (rows_apply _ r d).trans (read_rows m hO c t i.val ((row_live h _ hl).trans hi) _ _ rfl (Nat.zero_add _))

theorem point_lt (i : Fin 136) (H : Fin 2) : 2 * i.val + H.val < grid0.N := by
  have hN : grid0.N = 272 := by decide
  rw [hN]; have := i.isLt; have := H.isLt; omega
/-- The grid point of a tile's half. -/
def point (i : Fin 136) (H : Fin 2) : Fin grid0.N := ⟨2 * i.val + H.val, point_lt i H⟩
theorem point_tile (i : Fin 136) (H : Fin 2) : (grid0.coords (point i H) 0).val = i.val := by
  rw [coord0]; show (2 * i.val + H.val) / 2 % 136 = _; have := i.isLt; have := H.isLt; omega
theorem point_half (i : Fin 136) (H : Fin 2) : (grid0.coords (point i H) 1).val = H.val := by
  rw [coord1]; show (2 * i.val + H.val) / 1 % 2 = _; have := H.isLt; omega

theorem expert_eq (h : InRange (tbl m)) (i : Fin 136) (H : Fin 2) : (expertWord (tbl m) (grid0.coords (point i H))).toNat = (expertOf (tbl m 0) i).val := by
  have hlt := expert_lt h (grid0.coords (point i H))
  have hw : expertWord (tbl m) (grid0.coords (point i H)) = tbl m 0 (ix1 i) :=
    (expertWord_eq (tbl m) _).trans (congrArg (tbl m 0) (idx1_same (a := 136) (point_tile i H)))
  rw [hw] at hlt ⊢
  exact (Nat.mod_eq_of_lt hlt).symm

/-- The sum of both halves is the expert's value. -/
theorem sumAt_apply (h : InRange (tbl m)) (i : Fin 136) (hl : (i.val : ℤ) < (usedWord (tbl m)).toInt) (r : Fin 512) (j : Fin 1024) :
    sumAt m hO c (point i 1) (ix2 r j) = value (aX m c) (aG m c) (aU m c) (aD m c) (expertOf (tbl m 0) i) (rowOf i r) j := by
  have hp : prev m hO (point i 1) = point i 0 := Fin.ext (by show 2 * i.val + 1 - 1 = 2 * i.val + 0; omega)
  have hl' (H : Fin 2) : ((grid0.coords (point i H) 0).val : ℤ) < (usedWord (tbl m)).toInt := by rw [point_tile]; exact hl
  unfold sumAt
  rw [hp]
  refine (added m hO c (point i 1) i 1 (expertOf (tbl m 0) i) (point_tile i 1) (point_half i 1) (expert_eq m h i 1) (hl' 1) _
    (rowsAt_apply m hO c h (point i 0) i (point_tile i 0) (hl' 0)) _ r j).trans ?_
  unfold halfAt
  rw [added m hO c (point i 0) i 0 (expertOf (tbl m 0) i) (point_tile i 0) (point_half i 0) (expert_eq m h i 0) (hl' 0) _
    (rowsAt_apply m hO c h (point i 0) i (point_tile i 0) (hl' 0)) _ r j, start_apply, zero_add]
  unfold value
  rw [sum_halves]
  refine congrArg₂ (· + ·) (Finset.sum_congr rfl fun q _ => congrArg _ (Fin.ext ?_)) (Finset.sum_congr rfl fun q _ => congrArg _ (Fin.ext ?_))
  · show 0 * 1792 + q.val = q.val; omega
  · show 1 * 1792 + q.val = 1792 + q.val; omega

theorem tileOf_rowOf (i : Fin 136) (r : Fin 512) : tileOf (rowOf i r) = i :=
  Fin.ext (by show (i.val * 512 + r.val) / 512 = i.val; have := r.isLt; omega)

theorem result_at (te : S136.Idx → BitVec 32) (nu : S1.Idx → BitVec 32) (X : S69632x1024.Idx → EReal) (Wg Wu : S8x1024x3584.Idx → EReal)
    (Wd : S8x3584x1024.Idx → EReal) (i : Fin 136) (r : Fin 512) (j : Fin 1024) :
    result te nu X Wg Wu Wd (rowOf i r) j
      = if (i.val : ℤ) < (nu (ix1 0)).toInt then value X Wg Wu Wd (expertOf te i) (rowOf i r) j else 0 := by
  unfold result; rw [tileOf_rowOf]

/-- What a tile's second point leaves in the output's buffer. -/
theorem outAt_apply (h : InRange (tbl m)) (i : Fin 136) (r : Fin 512) (j : Fin 1024) :
    outAt m hO c (point i 1) (ix2 r j) = result (tbl m 0) (tbl m 1) (aX m c) (aG m c) (aU m c) (aD m c) (rowOf i r) j := by
  have hw : usedWord (tbl m) = tbl m 1 (ix1 (n0 := 1) 0) := usedWord_eq (tbl m)
  have hlv := live_iff m c (grid0.coords (point i 1))
  rw [point_tile] at hlv
  refine Eq.trans ?_ (result_at (tbl m 0) (tbl m 1) (aX m c) (aG m c) (aU m c) (aD m c) i r j).symm
  unfold outAt
  by_cases hl : (i.val : ℤ) < (usedWord (tbl m)).toInt
  · rw [if_pos (hlv.mpr hl)]
    exact (sumAt_apply m hO c h i hl r j).trans (if_pos (hw ▸ hl)).symm
  · rw [if_neg (fun hh => hl (hlv.mp hh))]
    exact (empty_apply _).trans (if_neg (hw ▸ hl)).symm

/-! ## The whole array -/

theorem index_out (t : Fin (cfgM m hO).N) : ((cfgM m hO).win 4).index t = ![(BitVec.ofNat 32 (grid0.coords t 0).val).toNat, 0] := rfl

theorem index_point (i : Fin 136) (H : Fin 2) : (BitVec.ofNat 32 (grid0.coords (point i H) 0).val).toNat = i.val := by
  rw [point_tile, BitVec.toNat_ofNat]; have := i.isLt; omega

/-- Where the output's block of a tile sits. -/
theorem emb_out (i : Fin 136) (y : S512x1024.Idx) (k : S69632x1024.Idx) (h0 : i.val * 512 + (y 0).val = (k 0).val) (h1 : 0 * 1024 + (y 1).val = (k 1).val) :
    (((cfgM m hO).win 4).blk (point i 1)).view.emb y = k :=
  idx2_same (a := 69632) (b := 1024)
    ((emb_val ((cfgM m hO).win 4) (point i 1) y (0 : Fin 2) rfl i.val 512 ((congrFun (index_out m hO (point i 1)) (0 : Fin 2)).trans (index_point i 1)) rfl).trans h0)
    ((emb_val ((cfgM m hO).win 4) (point i 1) y (1 : Fin 2) rfl 0 1024 (congrFun (index_out m hO (point i 1)) (1 : Fin 2)) rfl).trans h1)

/-- After the run the result array holds, in each row, its expert's value, or zero. -/
theorem array (h : InRange (tbl m)) (k : S69632x1024.Idx) :
    (dats m hO 0 c).arrAt 4 (cfgM m hO).N k = result (tbl m 0) (tbl m 1) (aX m c) (aG m c) (aU m c) (aD m c) (k 0) (k 1) := by
  refine congrFun (f := (dats m hO 0 c).arrAt 4 (cfgM m hO).N)
    (g := fun k : S69632x1024.Idx => result (tbl m 0) (tbl m 1) (aX m c) (aG m c) (aU m c) (aD m c) (k 0) (k 1))
    ((dats m hO 0 c).arrAt_eq_of_emb 4 _ (fun t hf y => ?_) fun k => ?_) k
  · have ho : t.val % 2 = 1 := (flush_out (adm m hO) t).mp hf
    have hN : grid0.N = 272 := by decide
    have ht : t.val < 272 := hN ▸ t.isLt
    obtain ⟨i, rfl⟩ : ∃ i : Fin 136, t = point i 1 := ⟨⟨t.val / 2, by omega⟩, Fin.ext (by show t.val = 2 * (t.val / 2) + 1; omega)⟩
    have y' : S512x1024.Idx := y
    have e : (((cfgM m hO).win 4).blk (point i 1)).view.emb y = (ix2 (rowOf i (y (0 : Fin 2))) (y (1 : Fin 2)) : S69632x1024.Idx) :=
      emb_out m hO i y _ rfl (Nat.zero_add _)
    rw [e]
    refine Eq.trans ?_ (outAt_apply m hO c h i (y (0 : Fin 2)) (y (1 : Fin 2)))
    rw [← after_4 m hO c]
    exact congrArg ((dats m hO 0 c).after 4 (point i 1)) (idx2_same (a := 512) (b := 1024) rfl rfl)
  · let k' : S69632x1024.Idx := k
    have hk : (k' 0).val < 69632 := (k' 0).isLt
    let i : Fin 136 := ⟨(k' 0).val / 512, by omega⟩
    let y : S512x1024.Idx := ix2 ⟨(k' 0).val % 512, Nat.mod_lt _ (by decide)⟩ (k' 1)
    refine ⟨point i 1, (flush_out (adm m hO) _).mpr (by show (2 * i.val + 1) % 2 = 1; omega), ?_⟩
    have e := emb_out m hO i y k' (by show (k' 0).val / 512 * 512 + (k' 0).val % 512 = (k' 0).val; omega) (Nat.zero_add _)
    have := (((cfgM m hO).win 4).blk (point i 1)).view.emb_mem_set y
    rw [e] at this
    exact this
end Tile

end Cert.KernelIdeal.Experts

end
-- ==== Proof.Experts.Ref.lean ====
/- What the reference of the experts gives over the extended reals: in each row the sum over the experts of the
   expert's value, times one if the row is the expert's and zero otherwise. -/
module

public import proofs.«01_k».proof.Proof.Gen.ReferenceIdeal.Run
public import proofs.«01_k».proof.Proof.Experts.Value
public import Idealize.ShloMosaic.Lib.Pointwise

@[expose] public section

set_option maxRecDepth 16384

noncomputable section

namespace Cert.ReferenceIdeal.Experts

open Cert.ReferenceIdeal Cert.ReferenceIdeal.Gen Cert.ReferenceIdeal.Value
open Idealize.ShloMosaic Idealize.ShloMosaic.TcCoe Idealize.SL.Sem Idealize.ShloMosaic.StableHlo
open Cert.KernelIdeal.Experts (act term value tileOf expertOf result)
open scoped BigOperators

/-- An expert's slab of the gate or up weights, -/
theorem slab_in (W : FVec Ideal S8x1024x3584 .f32) (e : Fin 8) (hs : S8x1024x3584.Slices ![e.val, 0, 0] S1x1024x3584) (d : Fin 1024) (q : Fin 3584) :
    shapeCast S1024x3584 (extractStridedSlice S1x1024x3584 ![e.val, 0, 0] W hs) shapeCasts_S1x1024x3584_S1024x3584 (ix2 d q) = W (ix3 e d q) := by
  pointwise

/-- and of the down weights. -/
theorem slab_out (W : FVec Ideal S8x3584x1024 .f32) (e : Fin 8) (hs : S8x3584x1024.Slices ![e.val, 0, 0] S1x3584x1024) (q : Fin 3584) (j : Fin 1024) :
    shapeCast S3584x1024 (extractStridedSlice S1x3584x1024 ![e.val, 0, 0] W hs) shapeCasts_S1x3584x1024_S3584x1024 (ix2 q j) = W (ix3 e q j) := by
  pointwise

/-- The column of an expert's marks. -/
theorem marks (G : FVec Ideal S69632x8 .f32) (e : Fin 8) (hs : S69632x8.Slices ![0, e.val] S69632x1) (r : Fin 69632) (j : Fin 1024) :
    broadcastInDim S69632x1024 ![0, 1] bcast_S69632x1_S69632x1024_0_1 (extractStridedSlice S69632x1 ![0, e.val] G hs) (ix2 r j) = G (ix2 r e) := by
  pointwise

/-- A product of the rows with a slab. -/
theorem rows_dot (X : FVec Ideal S69632x1024 .f32) (w : FVec Ideal S1024x3584 .f32) (r : Fin 69632) (q : Fin 3584) :
    Host.dotGeneral (F := Ideal) (φ₁ := .f32) (φ₂ := .f32) dot_S69632x1024_S1024x3584_S69632x3584_1_0_0_1_n_n none X w (ix2 r q) = ∑ d : Fin 1024, X (ix2 r d) * w (ix2 d q) := by
  pointwise [dot_S69632x1024_S1024x3584_S69632x3584_1_0_0_1_n_n]

/-- The gated hidden columns against a slab of down weights. -/
theorem gated_dot (a u : FVec Ideal S69632x3584 .f32) (w : FVec Ideal S3584x1024 .f32) (r : Fin 69632) (j : Fin 1024) :
    Host.dotGeneral (F := Ideal) (φ₁ := .f32) (φ₂ := .f32) dot_S69632x3584_S3584x1024_S69632x1024_1_0_0_1_n_n none
        (mulf (mulf a (Host.divf (broadcastInDim S69632x3584 ![] bcast_S_S69632x3584 (constant S_ .f32 0x3F800000#32))
          (addf (broadcastInDim S69632x3584 ![] bcast_S_S69632x3584 (constant S_ .f32 0x3F800000#32)) (Host.exp (Host.negf a))))) u) w (ix2 r j)
      = ∑ q : Fin 3584, act (a (ix2 r q)) * u (ix2 r q) * w (ix2 q j) := by
  unfold act
  pointwise [dot_S69632x3584_S3584x1024_S69632x1024_1_0_0_1_n_n]
  rfl

/-- The expert of a row's tile, or eight if the tile is not in use. -/
def owner (te : S136.Idx → BitVec 32) (nu : S1.Idx → BitVec 32) (i : Fin 136) : BitVec 32 :=
  Scalar.select (IntOp.cmpi CmpIPredicate.slt (BitVec.ofNat 32 i.val) (nu (ix1 0))) (te (ix1 i)) 8#32

/-- A row's mark for an expert compares the row's owner with it. -/
theorem gate_read (V0 : Valuation τ sig (Elt Ideal)) (r : Fin 69632) (e : Fin 8) :
    (res_main_v8 V0 : S69632x8.Idx → EReal) (ix2 r e)
      = FloatOps.uitofp (F := Ideal) FTy.f32 (IntOp.cmpi CmpIPredicate.eq
          (owner (V0 (Proc.devRef .tc main_arg0)) (V0 (Proc.devRef .tc main_arg1)) (tileOf r)) (BitVec.ofNat 32 e.val)) := by
  unfold res_main_v8 owner tileOf
  pointwise
  rfl

theorem in_slab (e : Fin 8) : S8x1024x3584.Slices ![e.val, 0, 0] S1x1024x3584 := by revert e; decide
theorem out_slab (e : Fin 8) : S8x3584x1024.Slices ![e.val, 0, 0] S1x3584x1024 := by revert e; decide
theorem mark_slab (e : Fin 8) : S69632x8.Slices ![0, e.val] S69632x1 := by revert e; decide

/-- What one expert adds to the reference's sum. -/
def share (X : FVec Ideal S69632x1024 .f32) (Wg Wu : FVec Ideal S8x1024x3584 .f32) (Wd : FVec Ideal S8x3584x1024 .f32) (G : FVec Ideal S69632x8 .f32)
    (e : Fin 8) : FVec Ideal S69632x1024 .f32 :=
  let a := Host.dotGeneral dot_S69632x1024_S1024x3584_S69632x3584_1_0_0_1_n_n none X (shapeCast S1024x3584 (extractStridedSlice S1x1024x3584 ![e.val, 0, 0] Wg (in_slab e)) shapeCasts_S1x1024x3584_S1024x3584)
  let u := Host.dotGeneral dot_S69632x1024_S1024x3584_S69632x3584_1_0_0_1_n_n none X (shapeCast S1024x3584 (extractStridedSlice S1x1024x3584 ![e.val, 0, 0] Wu (in_slab e)) shapeCasts_S1x1024x3584_S1024x3584)
  mulf (Host.dotGeneral dot_S69632x3584_S3584x1024_S69632x1024_1_0_0_1_n_n none
      (mulf (mulf a (Host.divf (broadcastInDim S69632x3584 ![] bcast_S_S69632x3584 (constant S_ .f32 0x3F800000#32))
        (addf (broadcastInDim S69632x3584 ![] bcast_S_S69632x3584 (constant S_ .f32 0x3F800000#32)) (Host.exp (Host.negf a))))) u)
      (shapeCast S3584x1024 (extractStridedSlice S1x3584x1024 ![e.val, 0, 0] Wd (out_slab e)) shapeCasts_S1x3584x1024_S3584x1024))
    (broadcastInDim S69632x1024 ![0, 1] bcast_S69632x1_S69632x1024_0_1 (extractStridedSlice S69632x1 ![0, e.val] G (mark_slab e)))

/-- An expert adds its value times the row's mark. -/
theorem share_apply (X : FVec Ideal S69632x1024 .f32) (Wg Wu : FVec Ideal S8x1024x3584 .f32) (Wd : FVec Ideal S8x3584x1024 .f32) (G : FVec Ideal S69632x8 .f32)
    (e : Fin 8) (r : Fin 69632) (j : Fin 1024) : share X Wg Wu Wd G e (ix2 r j) = value X Wg Wu Wd e r j * G (ix2 r e) := by
  refine congrArg₂ (· * ·) ((gated_dot _ _ _ r j).trans ?_) (marks G e (mark_slab e) r j)
  unfold value term
  refine Finset.sum_congr rfl fun q _ => congrArg₂ (· * ·) (congrArg₂ (· * ·) (congrArg act ?_) ?_) (slab_out Wd e (out_slab e) q j)
  · exact (rows_dot X _ r q).trans (Finset.sum_congr rfl fun d _ => congrArg _ (slab_in Wg e (in_slab e) d q))
  · exact (rows_dot X _ r q).trans (Finset.sum_congr rfl fun d _ => congrArg _ (slab_in Wu e (in_slab e) d q))

abbrev zeros : FVec Ideal S69632x1024 .f32 := broadcastInDim S69632x1024 ![] bcast_S_S69632x1024 (constant S_ .f32 0x00000000#32)

theorem zeros_apply (y : S69632x1024.Idx) : zeros y = (0 : EReal) := by
  unfold zeros
  pointwise

/-- The share of an expert from a device's launch contents. -/
abbrev shareOf (V0 : Valuation τ sig (Elt Ideal)) (e : Fin 8) : FVec Ideal S69632x1024 .f32 :=
  share (V0 (Proc.devRef .tc main_arg2)) (V0 (Proc.devRef .tc main_arg3)) (V0 (Proc.devRef .tc main_arg4)) (V0 (Proc.devRef .tc main_arg5)) (res_main_v8 V0) e

theorem first_five (V0 : Valuation τ sig (Elt Ideal)) :
    (res_main_v84 V0 : FVec Ideal S69632x1024 .f32) = addf (F := Ideal) (addf (addf (addf (addf zeros (shareOf V0 0)) (shareOf V0 1)) (shareOf V0 2)) (shareOf V0 3)) (shareOf V0 4) := rfl

/-- Of eight numbers each multiplied by its mark, the one marked is left. -/
theorem pick (v : Fin 8 → EReal) (E : Fin 8) (g : Fin 8 → EReal) (hg : ∀ e, g e = if e = E then 1 else 0) :
    ((((((((0 + v 0 * g 0) + v 1 * g 1) + v 2 * g 2) + v 3 * g 3) + v 4 * g 4) + v 5 * g 5) + v 6 * g 6) + v 7 * g 7) = v E := by
  simp only [hg]
  fin_cases E <;> simp

/-- If none is marked, nothing is left. -/
theorem pick_none (v g : Fin 8 → EReal) (hg : ∀ e, g e = 0) :
    ((((((((0 + v 0 * g 0) + v 1 * g 1) + v 2 * g 2) + v 3 * g 3) + v 4 * g 4) + v 5 * g 5) + v 6 * g 6) + v 7 * g 7) = 0 := by
  simp only [hg]; simp

/-- A mark is one at its owner and zero elsewhere. -/
theorem mark_eq (a : BitVec 32) (e : Fin 8) :
    FloatOps.uitofp (F := Ideal) FTy.f32 (IntOp.cmpi CmpIPredicate.eq a (BitVec.ofNat 32 e.val)) = if a = BitVec.ofNat 32 e.val then (1 : EReal) else 0 := by
  show (((BitVec.ofBool (a == BitVec.ofNat 32 e.val)).toNat : ℝ) : EReal) = _
  by_cases h : a = BitVec.ofNat 32 e.val
  · rw [if_pos h, h, beq_self_eq_true]; simp
  · rw [if_neg h, beq_false_of_ne h]; simp

/-- With every table entry an expert, the reference's sum is each row's own expert's value, and zero in tiles not in use. -/
theorem total_apply (V0 : Valuation τ sig (Elt Ideal))
    (hte : ∀ i : Fin 136, ((V0 (Proc.devRef .tc main_arg0) : S136.Idx → BitVec 32) (ix1 i)).toNat < 8) (r : Fin 69632) (j : Fin 1024) :
    (addf (addf (addf (res_main_v84 V0 : FVec Ideal S69632x1024 .f32) (shareOf V0 5)) (shareOf V0 6)) (shareOf V0 7) : FVec Ideal S69632x1024 .f32) (ix2 r j)
      = result (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) r j := by
  rw [first_five]
  let v (e : Fin 8) : EReal := value (V0 (Proc.devRef .tc main_arg2)) (V0 (Proc.devRef .tc main_arg3)) (V0 (Proc.devRef .tc main_arg4)) (V0 (Proc.devRef .tc main_arg5)) e r j
  let g (e : Fin 8) : EReal := (res_main_v8 V0 : S69632x8.Idx → EReal) (ix2 r e)
  have hsh (e : Fin 8) : shareOf V0 e (ix2 r j) = v e * g e := share_apply _ _ _ _ _ e r j
  show ((((((((zeros (ix2 r j) + shareOf V0 0 (ix2 r j)) + shareOf V0 1 (ix2 r j)) + shareOf V0 2 (ix2 r j)) + shareOf V0 3 (ix2 r j)) + shareOf V0 4 (ix2 r j))
    + shareOf V0 5 (ix2 r j)) + shareOf V0 6 (ix2 r j)) + shareOf V0 7 (ix2 r j) : EReal) = _
  rw [zeros_apply, hsh, hsh, hsh, hsh, hsh, hsh, hsh, hsh]
  have hg (e : Fin 8) := (gate_read V0 r e).trans (mark_eq _ e)
  have ht : (tileOf r).val < 136 := (tileOf r).isLt
  have hw := hte (tileOf r)
  have hlive := Cert.KernelIdeal.Experts.slt_iff (BitVec.ofNat 32 (tileOf r).val) ((V0 (Proc.devRef .tc main_arg1) : S1.Idx → BitVec 32) (ix1 0))
  rw [Cert.KernelIdeal.Experts.toInt_small _ ht] at hlive
  unfold result
  by_cases hl : ((tileOf r).val : ℤ) < ((V0 (Proc.devRef .tc main_arg1) : S1.Idx → BitVec 32) (ix1 0)).toInt
  · refine Eq.trans ?_ (if_pos hl).symm
    refine pick v _ g fun e => (hg e).trans ?_
    have ho : owner (V0 (Proc.devRef .tc main_arg0)) (V0 (Proc.devRef .tc main_arg1)) (tileOf r) = (V0 (Proc.devRef .tc main_arg0) : S136.Idx → BitVec 32) (ix1 (tileOf r)) := if_pos (hlive.mpr hl)
    rw [ho]
    generalize (V0 (Proc.devRef .tc main_arg0) : S136.Idx → BitVec 32) = te at *
    refine if_congr ⟨fun hh => Fin.ext ?_, fun hh => BitVec.eq_of_toNat_eq ?_⟩ rfl rfl
    · show e.val = (te (ix1 (tileOf r))).toNat % 8
      rw [hh, BitVec.toNat_ofNat]; have := e.isLt; omega
    · rw [hh, BitVec.toNat_ofNat]
      show (te (ix1 (tileOf r))).toNat = (te (ix1 (tileOf r))).toNat % 8 % 2 ^ 32
      omega
  · refine Eq.trans ?_ (if_neg hl).symm
    refine pick_none v g fun e => (hg e).trans (if_neg ?_)
    have ho : owner (V0 (Proc.devRef .tc main_arg0)) (V0 (Proc.devRef .tc main_arg1)) (tileOf r) = 8#32 := if_neg (fun hh => hl (hlive.mp hh))
    rw [ho]
    revert e; decide

end Cert.ReferenceIdeal.Experts

end
-- ==== Proof.Experts.Equation.lean ====
/- The experts kernel and its reference give the same results over the extended reals. -/
module

public import proofs.«01_k».proof.Defs
public import proofs.«01_k».proof.Proof.Gen.Pre_tables_in_range
public import proofs.«01_k».proof.Proof.Experts.Ref

@[expose] public section

set_option maxRecDepth 16384

noncomputable section

namespace Cert.KernelIdeal.Experts

open Cert.KernelIdeal Cert.KernelIdeal.Gen
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg)

/-- The kernel's result array after the run. -/
theorem run_value (hO : Ok m) (h : InRange (tbl m)) : θ_run defs (onTc (τ := τ) (main (F := Ideal))) ⟨m, fun _ => 0, ρ⟩ fun r => ∀ c : Dev nD,
    r.2.mem ((c.tc : Thread nD τ).loc main_v3) = fun k : S69632x1024.Idx => result (m ((c.tc : Thread nD τ).loc main_arg0)) (m ((c.tc : Thread nD τ).loc main_arg1)) (aX m c) (aG m c) (aU m c) (aD m c) (k 0) (k 1) :=
  (θ_run defs _ _).mono (fun r hr c => by
    refine ((hr c).1 4).trans (funext fun k => (array m hO c h k).trans ?_)
    obtain rfl : c = 0 := Subsingleton.elim _ _
    have e0 : tbl m 0 = m (((0 : Dev nD) : Thread nD τ).loc main_arg0) := V_arg0 m 0
    have e1 : tbl m 1 = m (((0 : Dev nD) : Thread nD τ).loc main_arg1) := V_arg1 m 0
    rw [e0, e1]) (run_main m ρ hO)

end Cert.KernelIdeal.Experts

namespace Cert.ReferenceIdeal.Experts

open Cert.ReferenceIdeal Cert.ReferenceIdeal.Gen Cert.ReferenceIdeal.Value
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The reference's result array after its run. -/
theorem run_value (hte : ∀ (c : Dev nD) (i : Fin 136), ((m ((c.tc : Thread nD τ).loc main_arg0) : S136.Idx → BitVec 32) (ix1 i)).toNat < 8) :
    θ_run defs (onTc (τ := τ) (main (F := Ideal))) ⟨m, fun _ => 0, ρ⟩ fun r => ∀ c : Dev nD,
      r.2.mem ((c.tc : Thread nD τ).loc main_v129)
          = (fun k : S69632x1024.Idx => Cert.KernelIdeal.Experts.result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (k 0) (k 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => by
    obtain ⟨hv, hargs⟩ := hr c
    refine ⟨hv.trans (funext fun k => ?_), hargs⟩
    have ek : k = (ix2 (k (0 : Fin 2)) (k (1 : Fin 2)) : S69632x1024.Idx) :=
      Cert.Proof.Index.idx2_same (a := 69632) (b := 1024) rfl rfl
    exact (congrArg _ ek).trans (total_apply (launchContents m c) (hte c) (k (0 : Fin 2)) (k (1 : Fin 2)))) (Value.run m ρ)

end Cert.ReferenceIdeal.Experts

namespace Cert.Proof.Experts

open Idealize.ShloMosaic Idealize.SL.Sem

/-- The equation of the experts. -/
theorem equation : Cert.algebraic_KernelIdeal_ReferenceIdeal (hKernelIdeal := Cert.KernelIdeal.Gen.facts)
    (hReferenceIdeal := Cert.ReferenceIdeal.Gen.facts) (hPre_tables_in_range := Cert.Pre_tables_in_range.Gen.facts) := by
  intro m g m' g' hpre hargs
  have hw := Cert.KernelIdeal.Experts.words_of_pre _ _ _ _ _ _ (hpre 0).1 (hpre 0).2
  have hO := Cert.KernelIdeal.Experts.ok_of_words m hw
  have hR := Cert.KernelIdeal.Experts.inRange_of_words m hw
  refine ⟨_, (θ_run Cert.KernelIdeal.defs _ _).mono (fun r hr c => ⟨hr.1 c, hr.2.1 c⟩)
    (θ_run_and (Cert.KernelIdeal.Experts.run_value m g hO hR) (Cert.KernelIdeal.Experts.frame m g hO)), ?_⟩
  refine (θ_run Cert.ReferenceIdeal.defs _ _).mono (fun r hr c => ⟨(hr c).1.trans ?_, (hr c).2⟩) (Cert.ReferenceIdeal.Experts.run_value m' g' fun c i => ?_)
  · obtain rfl : c = 0 := Subsingleton.elim _ _
    rw [(hargs 0).1]
    have := hw.1 (ix1 i)
    have h2 := Cert.KernelIdeal.Experts.toNat_of_toInt _ this.1
    omega
  · obtain ⟨h0, h1, h2, h3, h4, h5⟩ := hargs c
    rw [h0, h1, h2, h3, h4, h5]

end Cert.Proof.Experts

end
-- ==== Proof.Rows.Common.lean ====
/- The value of one normed row against one column of the projection's weights. -/
module

public import Idealize.ShloMosaic.Lib.Pointwise

@[expose] public section

noncomputable section

namespace Cert.Proof.Rows

open Idealize.ShloMosaic
open scoped BigOperators

/-- The reciprocal root of a row's mean square, kept off zero. -/
def scale (x : Fin 1024 → EReal) : EReal :=
  Ideal.rsqrt (Ideal.div (∑ d : Fin 1024, x d * x d) (Ideal.ofBits .f32 0x44800000#32) + Ideal.ofBits .f32 0x358637BD#32)

/-- A row's entry, scaled and weighted by its gain. -/
def normed (x g : Fin 1024 → EReal) (d : Fin 1024) : EReal := x d * scale x * g d

/-- The normed row against a column of the weights. -/
def product (x g w : Fin 1024 → EReal) : EReal := ∑ d : Fin 1024, normed x g d * w d

/-- Column `q` of part `j` of the projection's six parts. -/
def column (j : Fin 6) (q : Fin 512) : Fin 3072 := ⟨512 * j.val + q.val, by omega⟩

end Cert.Proof.Rows

end
-- ==== Proof.Rows.Sample.lean ====
/- The sample rows' projection: what its kernel leaves, and what its reference computes. -/
module

public import proofs.«01_k».proof.Defs
public import proofs.«01_k».proof.Proof.Gen.Kernel2Ideal.Value
public import proofs.«01_k».proof.Proof.Gen.Reference2Ideal.Run
public import proofs.«01_k».proof.Proof.Rows.Common
public import proofs.«01_k».proof.Proof.Rows.Index

@[expose] public section

set_option maxRecDepth 16384

noncomputable section

namespace Cert.Kernel2Ideal.Rows

open Cert.Kernel2Ideal Cert.Kernel2Ideal.Gen Cert.Proof.Rows Cert.Proof.Index
open Idealize.ShloMosaic Idealize.ShloMosaic.TcCoe
open Idealize.ShloMosaic.Pipeline (Dat Window)
open scoped BigOperators

/-! ## The body -/

/-- The rows scaled and weighted. -/
theorem normed_apply (x : Vec Ideal S32x1024 .f32) (g : Vec Ideal S1x1024 .f32) (r : Fin 32) (d : Fin 1024) :
    k0_pay4 x g (ix2 r d) = normed (fun d => x (ix2 r d)) (fun d => g (ix2 0 d)) d := by
  unfold k0_pay4 normed scale
  pointwise

/-- Rows against a block of columns. -/
theorem dot_apply (y : FVec Ideal S32x1024 .bf16) (w : Vec Ideal S1024x512 .bf16) (r : Fin 32) (q : Fin 512) :
    k0_pay2 y w (ix2 r q) = ∑ d : Fin 1024, y (ix2 r d) * w (ix2 d q) := by
  unfold k0_pay2
  pointwise [dot_S32x1024_S1024x512_S32x512_1_0_0_1_n_n]

/-- The normed rows against a block of columns that starts at part `j`. -/
theorem block_apply (x : Vec Ideal S32x1024 .f32) (g : Vec Ideal S1x1024 .f32) (w : Vec Ideal S1024x3072 .bf16) (b : Vec Ideal S1024x512 .bf16) (j : Fin 6)
    (hb : ∀ (d : Fin 1024) (q : Fin 512), b (ix2 d q) = w (ix2 d (column j q))) (r : Fin 32) (q : Fin 512) :
    k0_pay2 (k0_pay4 x g) b (ix2 r q) = product (fun d => x (ix2 r d)) (fun d => g (ix2 0 d)) (fun d => w (ix2 d (column j q))) := by
  rw [dot_apply]
  unfold product
  exact Finset.sum_congr rfl fun d _ => congrArg₂ (· * ·) (normed_apply x g r d) (hb d q)

theorem whole_rows (x : Vec Ideal S32x1024 .f32) : View.ld x r0_0 = x :=
  funext fun y => congrArg x (idx2_same (a := 32) (b := 1024) (by show 0 + 1 * (y 0).val = _; omega) (by show 0 + 1 * (y 1).val = _; omega))
theorem whole_gain (g : Vec Ideal S1x1024 .f32) : View.ld g r0_1 = g :=
  funext fun y => congrArg g (idx2_same (a := 1) (b := 1024) (by show 0 + 1 * (y 0).val = _; omega) (by show 0 + 1 * (y 1).val = _; omega))

section Parts
variable (x : Vec Ideal S32x1024 .f32) (g : Vec Ideal S1x1024 .f32) (w : Vec Ideal S1024x3072 .bf16)

/-- Column `q` of part `j` in row `r`, from the blocks. -/
abbrev blockCell (j : Fin 6) (r : Fin 32) (q : Fin 512) : EReal :=
  product (fun d => x (ix2 r d)) (fun d => g (ix2 0 d)) (fun d => w (ix2 d (column j q)))

/-- A stored block of rows against the columns from `o` on, if part `j` starts there. -/
theorem part_block (o : ℕ) (ho : ∀ a, (![0, o] : Fin 2 → ℕ) a + S1024x512.size a ≤ S1024x3072.size a) (j : Fin 6) (hj : o = 512 * j.val) (r : Fin 32) (q : Fin 512) :
    (View.canon [⟨r0_3, k0_pay2 (k0_pay4 (View.ld x r0_0) (View.ld g r0_1)) (View.ld w (Rect.unit (s := S1024x3072) ![0, o] S1024x512.size ho))⟩] : Vec Ideal S32x512 .f32)
      (ix2 r q) = blockCell x g w j r q := by
  rw [View.canon_unit_zero (by decide), whole_rows, whole_gain]
  exact block_apply x g w _ j (fun d q => congrArg w (idx2_same (a := 1024) (b := 3072) ((Nat.zero_add _).trans (Nat.one_mul _))
    (by show o + 1 * q.val = 512 * j.val + q.val; omega))) r q

theorem out3_apply (r : Fin 32) (q : Fin 512) : out0_3 x g w (ix2 r q) = blockCell x g w 0 r q := by
  unfold_out out0_3
  exact part_block x g w 0 _ 0 rfl r q
theorem out4_apply (r : Fin 32) (q : Fin 512) : out0_4 x g w (ix2 r q) = blockCell x g w 1 r q := by
  unfold_out out0_4
  exact part_block x g w 512 _ 1 rfl r q
theorem out5_apply (r : Fin 32) (q : Fin 512) : out0_5 x g w (ix2 r q) = blockCell x g w 2 r q := by
  unfold_out out0_5
  exact part_block x g w 1024 _ 2 rfl r q
theorem out6_apply (r : Fin 32) (q : Fin 512) : out0_6 x g w (ix2 r q) = blockCell x g w 3 r q := by
  unfold_out out0_6
  exact part_block x g w 1536 _ 3 rfl r q
theorem out7_apply (r : Fin 32) (q : Fin 512) : out0_7 x g w (ix2 r q) = blockCell x g w 4 r q := by
  unfold_out out0_7
  exact part_block x g w 2048 _ 4 rfl r q
theorem out8_apply (r : Fin 32) (q : Fin 512) : out0_8 x g w (ix2 r q) = blockCell x g w 5 r q := by
  unfold_out out0_8
  exact part_block x g w 2560 _ 5 rfl r q
end Parts

/-! ## The arrays -/

variable (m : (ℓ : Loc nD τ sig) → Buf (Elt Ideal) ℓ) (c : Dev nD)

abbrev aX : S32x1x1024.Idx → EReal := m ((c : Thread nD τ).loc main_arg0)
abbrev aG : S1024.Idx → EReal := m ((c : Thread nD τ).loc main_arg1)
abbrev aW : S1024x3072.Idx → EReal := m ((c : Thread nD τ).loc main_arg2)

theorem V_rows (r : Fin 32) (d : Fin 1024) : V m c main_v0 (ix2 r d) = aX m c (ix3 r 0 d) := by
  entry_read
  show shapeCast S32x1024 (aX m c) shapeCasts_S32x1x1024_S32x1024 (ix2 r d) = _
  pointwise
theorem V_gain (d : Fin 1024) : V m c main_v1 (ix2 0 d) = aG m c (ix1 d) := by
  entry_read
  show shapeCast S1x1024 (aG m c) shapeCasts_S1024_S1x1024 (ix2 0 d) = _
  pointwise
theorem V_weights (y : S1024x3072.Idx) : V m c main_v2 y = aW m c y := by
  entry_read
  rfl

/-- The result: part `j` of each sample row's projection. -/
def result (X : S32x1x1024.Idx → EReal) (G : S1024.Idx → EReal) (W : S1024x3072.Idx → EReal) (j : Fin 6) (k : S32x512.Idx) : EReal :=
  product (fun d => X (ix3 (k 0) 0 d)) (fun d => G (ix1 d)) (fun d => W (ix2 d (column j (k 1))))

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel

theorem read_rows (t : Fin cfg0.N) (r : Fin 32) (d : Fin 1024) : iblk m c 0 t (ix2 r d) = aX m c (ix3 r 0 d) := by
  rw [← V_rows m c]
  unfold iblk
  exact congrArg (V m c main_v0) (emb_same (cfg0.win 0) t rfl _ (index0 t) (ix2 r d) (ix2 r d) (Fin.forall_fin_two.mpr ⟨Nat.zero_add _, Nat.zero_add _⟩))
theorem read_gain (t : Fin cfg0.N) (d : Fin 1024) : iblk m c 1 t (ix2 0 d) = aG m c (ix1 d) := by
  rw [← V_gain m c]
  unfold iblk
  exact congrArg (V m c main_v1) (emb_same (cfg0.win 1) t rfl _ (index1 t) (ix2 0 d) (ix2 0 d) (Fin.forall_fin_two.mpr ⟨Nat.zero_add _, Nat.zero_add _⟩))
theorem read_weights (t : Fin cfg0.N) (d : Fin 1024) (p : Fin 3072) : iblk m c 2 t (ix2 d p) = aW m c (ix2 d p) := by
  rw [← V_weights m c]
  unfold iblk
  exact congrArg (V m c main_v2) (emb_same (cfg0.win 2) t rfl _ (index2 t) (ix2 d p) (ix2 d p) (Fin.forall_fin_two.mpr ⟨Nat.zero_add _, Nat.zero_add _⟩))

/-- The product of the blocks that a point reads. -/
theorem point_product (t : Fin cfg0.N) (j : Fin 6) (r : Fin 32) (q : Fin 512) :
    product (fun d => iblk m c 0 t (ix2 r d)) (fun d => iblk m c 1 t (ix2 0 d)) (fun d => iblk m c 2 t (ix2 d (column j q)))
      = result (aX m c) (aG m c) (aW m c) j (ix2 r q) := by
  unfold result
  exact congr (congr (congrArg product (funext fun d => read_rows m c t r d)) (funext fun d => read_gain m c t d)) (funext fun d => read_weights m c t d _)

/-- A block of part `j` holds the result's entries. -/
theorem part_point (j : Fin 6) (t : Fin cfg0.N) (v : S32x512.Idx → EReal)
    (hv : ∀ r q, v (ix2 r q) = blockCell (iblk m c 0 t) (iblk m c 1 t) (iblk m c 2 t) j r q) (y : S32x512.Idx) :
    v y = result (aX m c) (aG m c) (aW m c) j y := by
  have e : y = ix2 (y (0 : Fin 2)) (y (1 : Fin 2)) := idx2_same (a := 32) (b := 512) rfl rfl
  exact (congrArg v e).trans ((hv (y (0 : Fin 2)) (y (1 : Fin 2))).trans
    ((point_product m c t j _ _).trans (congrArg (result (aX m c) (aG m c) (aW m c) j) e).symm))

theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel

theorem array3 : (dats m 0 c).arrAt 3 cfg0.N = result (aX m c) (aG m c) (aW m c) 0 :=
  (dats m 0 c).arrAt_eq_of_covers 3 _ (by decide +kernel) fun t _ y =>
    (part_point m c 0 t _ (fun r q => (congrFun (after0_3 m c t) _).trans (out3_apply _ _ _ r q)) y).trans
      (congrArg (result (aX m c) (aG m c) (aW m c) 0) (emb_same (cfg0.win 3) t rfl _ (index3 t) y y (Fin.forall_fin_two.mpr ⟨Nat.zero_add _, Nat.zero_add _⟩)).symm)
theorem array4 : (dats m 0 c).arrAt 4 cfg0.N = result (aX m c) (aG m c) (aW m c) 1 :=
  (dats m 0 c).arrAt_eq_of_covers 4 _ (by decide +kernel) fun t _ y =>
    (part_point m c 1 t _ (fun r q => (congrFun (after0_4 m c t) _).trans (out4_apply _ _ _ r q)) y).trans
      (congrArg (result (aX m c) (aG m c) (aW m c) 1) (emb_same (cfg0.win 4) t rfl _ (index4 t) y y (Fin.forall_fin_two.mpr ⟨Nat.zero_add _, Nat.zero_add _⟩)).symm)
theorem array5 : (dats m 0 c).arrAt 5 cfg0.N = result (aX m c) (aG m c) (aW m c) 2 :=
  (dats m 0 c).arrAt_eq_of_covers 5 _ (by decide +kernel) fun t _ y =>
    (part_point m c 2 t _ (fun r q => (congrFun (after0_5 m c t) _).trans (out5_apply _ _ _ r q)) y).trans
      (congrArg (result (aX m c) (aG m c) (aW m c) 2) (emb_same (cfg0.win 5) t rfl _ (index5 t) y y (Fin.forall_fin_two.mpr ⟨Nat.zero_add _, Nat.zero_add _⟩)).symm)
theorem array6 : (dats m 0 c).arrAt 6 cfg0.N = result (aX m c) (aG m c) (aW m c) 3 :=
  (dats m 0 c).arrAt_eq_of_covers 6 _ (by decide +kernel) fun t _ y =>
    (part_point m c 3 t _ (fun r q => (congrFun (after0_6 m c t) _).trans (out6_apply _ _ _ r q)) y).trans
      (congrArg (result (aX m c) (aG m c) (aW m c) 3) (emb_same (cfg0.win 6) t rfl _ (index6 t) y y (Fin.forall_fin_two.mpr ⟨Nat.zero_add _, Nat.zero_add _⟩)).symm)
theorem array7 : (dats m 0 c).arrAt 7 cfg0.N = result (aX m c) (aG m c) (aW m c) 4 :=
  (dats m 0 c).arrAt_eq_of_covers 7 _ (by decide +kernel) fun t _ y =>
    (part_point m c 4 t _ (fun r q => (congrFun (after0_7 m c t) _).trans (out7_apply _ _ _ r q)) y).trans
      (congrArg (result (aX m c) (aG m c) (aW m c) 4) (emb_same (cfg0.win 7) t rfl _ (index7 t) y y (Fin.forall_fin_two.mpr ⟨Nat.zero_add _, Nat.zero_add _⟩)).symm)
theorem array8 : (dats m 0 c).arrAt 8 cfg0.N = result (aX m c) (aG m c) (aW m c) 5 :=
  (dats m 0 c).arrAt_eq_of_covers 8 _ (by decide +kernel) fun t _ y =>
    (part_point m c 5 t _ (fun r q => (congrFun (after0_8 m c t) _).trans (out8_apply _ _ _ r q)) y).trans
      (congrArg (result (aX m c) (aG m c) (aW m c) 5) (emb_same (cfg0.win 8) t rfl _ (index8 t) y y (Fin.forall_fin_two.mpr ⟨Nat.zero_add _, Nat.zero_add _⟩)).symm)

/-- The kernel's results after the run. -/
theorem run_value (ρ : Dev nD → PrngReg) : θ_run defs (onTc (τ := τ) (main (F := Ideal))) ⟨m, fun _ => 0, ρ⟩ fun r => ∀ c : Dev nD,
      r.2.mem ((c.tc : Thread nD τ).loc main_v3_0) = result (aX m c) (aG m c) (aW m c) 0
      ∧ r.2.mem ((c.tc : Thread nD τ).loc main_v3_1) = result (aX m c) (aG m c) (aW m c) 1
      ∧ r.2.mem ((c.tc : Thread nD τ).loc main_v3_2) = result (aX m c) (aG m c) (aW m c) 2
      ∧ r.2.mem ((c.tc : Thread nD τ).loc main_v3_3) = result (aX m c) (aG m c) (aW m c) 3
      ∧ r.2.mem ((c.tc : Thread nD τ).loc main_v3_4) = result (aX m c) (aG m c) (aW m c) 4
      ∧ r.2.mem ((c.tc : Thread nD τ).loc main_v3_5) = result (aX m c) (aG m c) (aW m c) 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    obtain ⟨h0, h1, h2, h3, h4, h5, hargs⟩ := hr c
    exact ⟨h0.trans (array3 m c), h1.trans (array4 m c), h2.trans (array5 m c), h3.trans (array6 m c),
      h4.trans (array7 m c), h5.trans (array8 m c), hargs⟩) (Value.run_blocks m ρ)

end Cert.Kernel2Ideal.Rows

namespace Cert.Reference2Ideal.Rows

open Cert.Reference2Ideal Cert.Reference2Ideal.Gen Cert.Reference2Ideal.Value Cert.Proof.Rows Cert.Proof.Index
open Idealize.ShloMosaic Idealize.ShloMosaic.TcCoe Idealize.ShloMosaic.StableHlo
open Idealize.SL.Sem

/-- All six parts side by side. -/
abbrev all (x : FVec Ideal S32x1x1024 .f32) (g : FVec Ideal S1024 .f32) (w : FVec Ideal S1024x3072 .f32) : FVec Ideal S32x3072 .f32 :=
  Host.dotGeneral (F := Ideal) (φ₁ := .f32) (φ₂ := .f32) dot_S32x1024_S1024x3072_S32x3072_1_0_0_1_n_n none (mulf (mulf (shapeCast _ x shapeCasts_S32x1x1024_S32x1024) (broadcastInDim S32x1024 ![0, 1] bcast_S32x1_S32x1024_0_1 (Host.rsqrt (addf (Host.divf (broadcastInDim S32x1 ![0] bcast_S32_S32x1_0 (Host.reduceAdd (mulf (shapeCast _ x shapeCasts_S32x1x1024_S32x1024) (shapeCast _ x shapeCasts_S32x1x1024_S32x1024)) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))) w

theorem all_apply (x : FVec Ideal S32x1x1024 .f32) (g : FVec Ideal S1024 .f32) (w : FVec Ideal S1024x3072 .f32) (r : Fin 32) (p : Fin 3072) :
    all x g w (ix2 r p) = product (fun d => x (ix3 r 0 d)) (fun d => g (ix1 d)) (fun d => w (ix2 d p)) := by
  unfold all product normed scale
  pointwise [dot_S32x1024_S1024x3072_S32x3072_1_0_0_1_n_n]

/-- A slice of 512 columns that starts at part `j`. -/
theorem part_eq (x : FVec Ideal S32x1x1024 .f32) (g : FVec Ideal S1024 .f32) (w : FVec Ideal S1024x3072 .f32) (j : Fin 6) (s : Vec Ideal S32x512 .f32)
    (hs : ∀ (r : Fin 32) (q : Fin 512), s (ix2 r q) = all x g w (ix2 r (column j q))) : s = Cert.Kernel2Ideal.Rows.result x g w j :=
  funext fun k => by
    have e : k = (ix2 (k (0 : Fin 2)) (k (1 : Fin 2)) : S32x512.Idx) := idx2_same (a := 32) (b := 512) rfl rfl
    have h : all x g w (ix2 (k (0 : Fin 2)) (column j (k (1 : Fin 2)))) = Cert.Kernel2Ideal.Rows.result x g w j (ix2 (k (0 : Fin 2)) (k (1 : Fin 2))) :=
      all_apply x g w (k (0 : Fin 2)) (column j (k (1 : Fin 2)))
    exact (congrArg s e).trans ((hs (k (0 : Fin 2)) (k (1 : Fin 2))).trans (h.trans (congrArg (Cert.Kernel2Ideal.Rows.result x g w j) e).symm))

theorem slice (o : ℕ) (ho : S32x3072.Slices ![0, o] S32x512) (j : Fin 6) (hj : o = 512 * j.val) (y : FVec Ideal S32x3072 .f32) (r : Fin 32) (q : Fin 512) :
    extractStridedSlice S32x512 ![0, o] y ho (ix2 r q) = y (ix2 r (column j q)) := by
  subst hj
  pointwise
  exact congrArg y (idx2_same (a := 32) (b := 3072) rfl rfl)

variable (m : (ℓ : Loc nD τ sig) → Buf (Elt Ideal) ℓ) (ρ : Dev nD → PrngReg)

/-- Part `j` of the reference's results, from its arguments. -/
abbrev part (c : Dev nD) (j : Fin 6) : S32x512.Idx → EReal :=
  Cert.Kernel2Ideal.Rows.result (m ((c.tc : Thread nD τ).loc main_arg0)) (m ((c.tc : Thread nD τ).loc main_arg1)) (m ((c.tc : Thread nD τ).loc main_arg2)) j

theorem run_value : θ_run defs (onTc (τ := τ) (main (F := Ideal))) ⟨m, fun _ => 0, ρ⟩ fun r => ∀ c : Dev nD,
      r.2.mem ((c.tc : Thread nD τ).loc main_v15) = part m c 0
      ∧ r.2.mem ((c.tc : Thread nD τ).loc main_v16) = part m c 1
      ∧ r.2.mem ((c.tc : Thread nD τ).loc main_v17) = part m c 2
      ∧ r.2.mem ((c.tc : Thread nD τ).loc main_v18) = part m c 3
      ∧ r.2.mem ((c.tc : Thread nD τ).loc main_v19) = part m c 4
      ∧ r.2.mem ((c.tc : Thread nD τ).loc main_v20) = part m c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    obtain ⟨h0, h1, h2, h3, h4, h5, hargs⟩ := hr c
    exact ⟨h0.trans (part_eq _ _ _ 0 _ (slice 0 _ 0 rfl _)), h1.trans (part_eq _ _ _ 1 _ (slice 512 _ 1 rfl _)), h2.trans (part_eq _ _ _ 2 _ (slice 1024 _ 2 rfl _)),
      h3.trans (part_eq _ _ _ 3 _ (slice 1536 _ 3 rfl _)), h4.trans (part_eq _ _ _ 4 _ (slice 2048 _ 4 rfl _)), h5.trans (part_eq _ _ _ 5 _ (slice 2560 _ 5 rfl _)), hargs⟩) (Value.run m ρ)

end Cert.Reference2Ideal.Rows

namespace Cert.Proof.Rows

open Idealize.ShloMosaic Idealize.SL.Sem

/-- The equation of the sample rows' projection. -/
theorem equation_sample : Cert.algebraic_Kernel2Ideal_Reference2Ideal (hKernel2Ideal := Cert.Kernel2Ideal.Gen.facts)
    (hReference2Ideal := Cert.Reference2Ideal.Gen.facts) := by
  intro m g m' g' hpre hargs
  refine ⟨_, _, _, _, _, _, Cert.Kernel2Ideal.Rows.run_value m g, ?_⟩
  refine (θ_run Cert.Reference2Ideal.defs _ _).mono (fun r hr c => ?_) (Cert.Reference2Ideal.Rows.run_value m' g')
  obtain ⟨e0, e1, e2⟩ := hargs c
  have h := hr c
  unfold Cert.Reference2Ideal.Rows.part at h
  rw [e0, e1, e2] at h
  refine ⟨h.1, h.2.1, h.2.2.1, h.2.2.2.1, h.2.2.2.2.1, h.2.2.2.2.2.1, ?_⟩
  rw [e0, e1, e2]
  exact h.2.2.2.2.2.2

end Cert.Proof.Rows

end
-- ==== Proof.Rows.PromptBody.lean ====
/- The prompt rows' projection: what the body leaves in each block, from the blocks it reads. -/
module

public import proofs.«01_k».proof.Proof.Gen.Kernel3Ideal.Value
public import proofs.«01_k».proof.Proof.Rows.Common
public import proofs.«01_k».proof.Proof.Rows.Index

@[expose] public section

set_option maxRecDepth 16384

noncomputable section

namespace Cert.Kernel3Ideal.Rows

open Cert.Kernel3Ideal Cert.Kernel3Ideal.Gen Cert.Proof.Rows Cert.Proof.Index
open Idealize.ShloMosaic Idealize.ShloMosaic.TcCoe
open scoped BigOperators

/-- The rows scaled and weighted. -/
theorem normed_apply (x : Vec Ideal S512x1024 .f32) (g : Vec Ideal S1x1024 .f32) (r : Fin 512) (d : Fin 1024) :
    k0_pay4 x g (ix2 r d) = normed (fun d => x (ix2 r d)) (fun d => g (ix2 0 d)) d := by
  unfold k0_pay4 normed scale
  pointwise

/-- Rows against a block of columns. -/
theorem dot_apply (y : FVec Ideal S512x1024 .bf16) (w : Vec Ideal S1024x512 .bf16) (r q : Fin 512) :
    k0_pay8 y w (ix2 r q) = ∑ d : Fin 1024, y (ix2 r d) * w (ix2 d q) := by
  unfold k0_pay8
  pointwise [dot_S512x1024_S1024x512_S512x512_1_0_0_1_n_n]

/-- The normed rows against a block of columns that starts at part `j`. -/
theorem block_apply (x : Vec Ideal S512x1024 .f32) (g : Vec Ideal S1x1024 .f32) (w : Vec Ideal S1024x3072 .bf16) (b : Vec Ideal S1024x512 .bf16) (j : Fin 6)
    (hb : ∀ (d : Fin 1024) (q : Fin 512), b (ix2 d q) = w (ix2 d (column j q))) (r q : Fin 512) :
    k0_pay8 (k0_pay4 x g) b (ix2 r q) = product (fun d => x (ix2 r d)) (fun d => g (ix2 0 d)) (fun d => w (ix2 d (column j q))) := by
  rw [dot_apply]
  unfold product
  exact Finset.sum_congr rfl fun d _ => congrArg₂ (· * ·) (normed_apply x g r d) (hb d q)

/-- The row of the transposed block that an entry of a transposed key block comes from. -/
def keyRow (h : Fin 4) (s : Fin 2) (e : Fin 64) : Fin 512 := ⟨h.val * 128 + s.val * 64 + e.val, by omega⟩

/-- The transposed block's rows against the normed rows, laid out by heads. -/
theorem transposed_apply (x : Vec Ideal S512x1024 .f32) (g : Vec Ideal S1x1024 .f32) (b : Vec Ideal S512x1024 .bf16) (h : Fin 4) (s : Fin 2) (e : Fin 64) (r : Fin 512) :
    k0_pay6 x g b (ix5 0 h s e r) = ∑ d : Fin 1024, b (ix2 (keyRow h s e) d) * k0_pay4 x g (ix2 r d) := by
  unfold k0_pay6 keyRow
  pointwise [dot_S512x1024_S512x1024_S512x512_1_1_0_0_n_n]

theorem keys_apply (x : Vec Ideal S512x1024 .f32) (g : Vec Ideal S1x1024 .f32) (b : Vec Ideal S512x1024 .bf16) (h : Fin 4) (s : Fin 2) (e : Fin 64) (r : Fin 512) :
    k0_pay6 x g b (ix5 0 h s e r) = product (fun d => x (ix2 r d)) (fun d => g (ix2 0 d)) (fun d => b (ix2 (keyRow h s e) d)) := by
  rw [transposed_apply]
  unfold product
  exact Finset.sum_congr rfl fun d _ => (mul_comm _ _).trans (congrArg (· * _) (normed_apply x g r d))

theorem whole_rows (x : Vec Ideal S512x1024 .f32) : View.ld x r0_0 = x :=
  funext fun y => congrArg x (idx2_same (a := 512) (b := 1024) (by show 0 + 1 * (y 0).val = _; omega) (by show 0 + 1 * (y 1).val = _; omega))
theorem whole_gain (g : Vec Ideal S1x1024 .f32) : View.ld g r0_1 = g :=
  funext fun y => congrArg g (idx2_same (a := 1) (b := 1024) (by show 0 + 1 * (y 0).val = _; omega) (by show 0 + 1 * (y 1).val = _; omega))
theorem whole_transposed (b : Vec Ideal S512x1024 .bf16) : View.ld b r0_0 = b :=
  funext fun y => congrArg b (idx2_same (a := 512) (b := 1024) (by show 0 + 1 * (y 0).val = _; omega) (by show 0 + 1 * (y 1).val = _; omega))

section Parts

/-- The column of a part that entry `e` of head `h` is. -/
def headColumn (h : Fin 4) (e : Fin 128) : Fin 512 := ⟨h.val * 128 + e.val, by omega⟩

variable (x : Vec Ideal S512x1024 .f32) (g : Vec Ideal S1x1024 .f32) (w : Vec Ideal S1024x3072 .bf16) (b : Vec Ideal S512x1024 .bf16)

/-- Column `q` of part `j` in row `r`, from the blocks. -/
abbrev blockCell (j : Fin 6) (r q : Fin 512) : EReal := product (fun d => x (ix2 r d)) (fun d => g (ix2 0 d)) (fun d => w (ix2 d (column j q)))

/-- The columns of the weights from `o` on, -/
abbrev columnsFrom (o : ℕ) (ho : ∀ a, (![0, o] : Fin 2 → ℕ) a + S1024x512.size a ≤ S1024x3072.size a) : Vec Ideal S1024x512 .bf16 :=
  View.ld w (Rect.unit (s := S1024x3072) ![0, o] S1024x512.size ho)

/-- which are part `j` if it starts there. -/
theorem columnsFrom_apply (o : ℕ) (ho : ∀ a, (![0, o] : Fin 2 → ℕ) a + S1024x512.size a ≤ S1024x3072.size a) (j : Fin 6) (hj : o = 512 * j.val)
    (d : Fin 1024) (q : Fin 512) : columnsFrom w o ho (ix2 d q) = w (ix2 d (column j q)) :=
  congrArg w (idx2_same (a := 1024) (b := 3072) ((Nat.zero_add _).trans (Nat.one_mul _)) (by show o + 1 * q.val = 512 * j.val + q.val; omega))

/-- A stored block of rows that holds part `j`, -/
theorem flat_block (o : ℕ) (ho : ∀ a, (![0, o] : Fin 2 → ℕ) a + S1024x512.size a ≤ S1024x3072.size a) (j : Fin 6) (hj : o = 512 * j.val) (r q : Fin 512) :
    (View.canon [⟨r0_3, k0_pay8 (k0_pay4 (View.ld x r0_0) (View.ld g r0_1)) (columnsFrom w o ho)⟩] : Vec Ideal S512x512 .f32) (ix2 r q) = blockCell x g w j r q := by
  rw [View.canon_unit_zero (by decide), whole_rows, whole_gain]
  exact block_apply x g w _ j (columnsFrom_apply w o ho j hj) r q

/-- and one laid out by heads. -/
theorem heads_block (o : ℕ) (ho : ∀ a, (![0, o] : Fin 2 → ℕ) a + S1024x512.size a ≤ S1024x3072.size a) (j : Fin 6) (hj : o = 512 * j.val) (r : Fin 512) (h : Fin 4) (e : Fin 128) :
    Value.E10 (View.ld x r0_0) (View.ld g r0_1) (columnsFrom w o ho) (ix4 0 r h e) = blockCell x g w j r (headColumn h e) := by
  rw [whole_rows, whole_gain]
  refine Eq.trans ?_ (block_apply x g w _ j (columnsFrom_apply w o ho j hj) r (headColumn h e))
  exact congrArg (k0_pay8 (k0_pay4 x g) (columnsFrom w o ho)) (idx2_same (a := 512) (b := 512) rfl rfl)

theorem out4_apply (r q : Fin 512) : out0_4 x g w b (ix2 r q) = blockCell x g w 0 r q := by
  unfold_out out0_4
  exact flat_block x g w 0 _ 0 rfl r q
theorem out6_apply (r q : Fin 512) : out0_6 x g w b (ix2 r q) = blockCell x g w 2 r q := by
  unfold_out out0_6
  exact flat_block x g w 1024 _ 2 rfl r q
theorem out7_apply (r q : Fin 512) : out0_7 x g w b (ix2 r q) = blockCell x g w 3 r q := by
  unfold_out out0_7
  exact flat_block x g w 1536 _ 3 rfl r q
theorem out8_apply (r q : Fin 512) : out0_8 x g w b (ix2 r q) = blockCell x g w 4 r q := by
  unfold_out out0_8
  exact flat_block x g w 2048 _ 4 rfl r q
theorem out9_apply (r q : Fin 512) : out0_9 x g w b (ix2 r q) = blockCell x g w 5 r q := by
  unfold_out out0_9
  exact flat_block x g w 2560 _ 5 rfl r q

theorem out10_apply (r : Fin 512) (h : Fin 4) (e : Fin 128) : out0_10 x g w b (ix4 0 r h e) = blockCell x g w 2 r (headColumn h e) := by
  unfold_out out0_10
  exact (Value.canon10_eq _ _ _ _).trans (heads_block x g w 1024 _ 2 rfl r h e)
theorem out11_apply (r : Fin 512) (h : Fin 4) (e : Fin 128) : out0_11 x g w b (ix4 0 r h e) = blockCell x g w 4 r (headColumn h e) := by
  unfold_out out0_11
  exact (Value.canon11_eq _ _ _ _).trans (heads_block x g w 2048 _ 4 rfl r h e)
theorem out12_apply (r : Fin 512) (h : Fin 4) (e : Fin 128) : out0_12 x g w b (ix4 0 r h e) = blockCell x g w 5 r (headColumn h e) := by
  unfold_out out0_12
  exact (Value.canon12_eq _ _ _ _).trans (heads_block x g w 2560 _ 5 rfl r h e)

theorem out5_apply (h : Fin 4) (s : Fin 2) (e : Fin 64) (r : Fin 512) :
    out0_5 x g w b (ix5 0 h s e r) = product (fun d => x (ix2 r d)) (fun d => g (ix2 0 d)) (fun d => b (ix2 (keyRow h s e) d)) := by
  unfold_out out0_5
  rw [View.canon_unit_zero (by decide), whole_rows, whole_gain, whole_transposed]
  exact keys_apply x g b h s e r
end Parts

/-! ## The results, from the rows `X`, the gain `G` and the weights `W` -/

section Results

variable (X : S16x2048x1024.Idx → EReal) (G : S1024.Idx → EReal) (W : S1024x3072.Idx → EReal)

/-- Column `q` of part `j` at position `p` of prompt `b`. -/
def cell (j : Fin 6) (b : Fin 16) (p : Fin 2048) (q : Fin 512) : EReal :=
  product (fun d => X (ix3 b p d)) (fun d => G (ix1 d)) (fun d => W (ix2 d (column j q)))

/-- The prompt and the position of a row of the flattened rows. -/
def prompt (r : Fin 32768) : Fin 16 := ⟨r.val / 2048, by omega⟩
def position (r : Fin 32768) : Fin 2048 := ⟨r.val % 2048, Nat.mod_lt _ (by decide)⟩

/-- Part `j` as flattened rows, -/
def flat (j : Fin 6) (k : S32768x512.Idx) : EReal := cell X G W j (prompt (k (0 : Fin 2))) (position (k (0 : Fin 2))) (k (1 : Fin 2))
/-- the keys with the positions last, -/
def keys (k : S16x4x2x64x2048.Idx) : EReal := cell X G W 1 (k (0 : Fin 5)) (k (4 : Fin 5)) (keyRow (k (1 : Fin 5)) (k (2 : Fin 5)) (k (3 : Fin 5)))
/-- and part `j` by prompts, positions and heads. -/
def heads (j : Fin 6) (k : S16x2048x4x128.Idx) : EReal := cell X G W j (k (0 : Fin 4)) (k (1 : Fin 4)) (headColumn (k (2 : Fin 4)) (k (3 : Fin 4)))

end Results

end Cert.Kernel3Ideal.Rows

end
-- ==== Proof.Rows.PromptArrays.lean ====
/- The prompt rows' projection: its kernel's result arrays, from its arguments. -/
module

public import proofs.«01_k».proof.Proof.Rows.PromptBody

@[expose] public section

set_option maxRecDepth 16384

noncomputable section

namespace Cert.Kernel3Ideal.Rows

open Cert.Kernel3Ideal Cert.Kernel3Ideal.Gen Cert.Proof.Rows Cert.Proof.Index
open Idealize.ShloMosaic Idealize.ShloMosaic.TcCoe Idealize.ShloMosaic.StableHlo
open Idealize.SL.Sem
open Idealize.ShloMosaic.Pipeline (Dat Window)
open scoped BigOperators

variable (m : (ℓ : Loc nD τ sig) → Buf (Elt Ideal) ℓ) (c : Dev nD)

abbrev aX : FVec Ideal S16x2048x1024 .f32 := m ((c : Thread nD τ).loc main_arg0)
abbrev aG : FVec Ideal S1024 .f32 := m ((c : Thread nD τ).loc main_arg1)
abbrev aW : FVec Ideal S1024x3072 .f32 := m ((c : Thread nD τ).loc main_arg2)

/-! ## What the region reads -/

theorem V_rows (r : Fin 32768) (d : Fin 1024) : V m c main_v0 (ix2 r d) = aX m c (ix3 (prompt r) (position r) d) := by
  entry_read
  show shapeCast S32768x1024 (aX m c) shapeCasts_S16x2048x1024_S32768x1024 (ix2 r d) = _
  unfold prompt position
  pointwise
theorem V_gain (d : Fin 1024) : V m c main_v4 (ix2 0 d) = aG m c (ix1 d) := by
  entry_read
  show shapeCast S1x1024 (aG m c) shapeCasts_S1024_S1x1024 (ix2 0 d) = _
  pointwise
theorem V_weights (y : S1024x3072.Idx) : V m c main_v5 y = aW m c y := by
  entry_read
  rfl
theorem V_transposed (q : Fin 512) (d : Fin 1024) : V m c main_v3 (ix2 q d) = aW m c (ix2 d (column 1 q)) := by
  entry_read
  show transpose S512x1024 [1, 0] (extractStridedSlice S1024x512 ![0, 512] (aW m c) slices_S1024x3072_S1024x512_0_512) transposes_S1024x512_S512x1024_1_0 (ix2 q d) = _
  pointwise
  exact congrArg (aW m c) (idx2_same (a := 1024) (b := 3072) rfl rfl)

theorem lt64 (t : Fin cfg0.N) : t.val < 64 := lt_of_lt_of_eq t.isLt (by decide)

/-- The prompt whose rows a point computes, and the position of each. -/
def promptAt (t : Fin cfg0.N) : Fin 16 := ⟨t.val / 4, by have := lt64 t; omega⟩
def positionAt (t : Fin cfg0.N) (r : Fin 512) : Fin 2048 := ⟨t.val % 4 * 512 + r.val, by omega⟩
/-- The flattened row of each. -/
def rowAt (t : Fin cfg0.N) (r : Fin 512) : Fin 32768 := ⟨t.val * 512 + r.val, by have := lt64 t; omega⟩

theorem prompt_rowAt (t : Fin cfg0.N) (r : Fin 512) : prompt (rowAt t r) = promptAt t :=
  Fin.ext (by show (t.val * 512 + r.val) / 2048 = t.val / 4; omega)
theorem position_rowAt (t : Fin cfg0.N) (r : Fin 512) : position (rowAt t r) = positionAt t r :=
  Fin.ext (by show (t.val * 512 + r.val) % 2048 = t.val % 4 * 512 + r.val; omega)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel

theorem read_rows (t : Fin cfg0.N) (r : Fin 512) (d : Fin 1024) : iblk m c 0 t (ix2 r d) = aX m c (ix3 (promptAt t) (positionAt t r) d) := by
  rw [← prompt_rowAt t r, ← position_rowAt t r, ← V_rows m c]
  unfold iblk
  exact congrArg (V m c main_v0) (emb_same (cfg0.win 0) t rfl _ (index0 t) (ix2 r d) (ix2 (rowAt t r) d) (Fin.forall_fin_two.mpr ⟨rfl, Nat.zero_add _⟩))
theorem read_gain (t : Fin cfg0.N) (d : Fin 1024) : iblk m c 1 t (ix2 0 d) = aG m c (ix1 d) := by
  rw [← V_gain m c]
  unfold iblk
  exact congrArg (V m c main_v4) (emb_same (cfg0.win 1) t rfl _ (index1 t) (ix2 0 d) (ix2 0 d) (Fin.forall_fin_two.mpr ⟨Nat.zero_add _, Nat.zero_add _⟩))
theorem read_weights (t : Fin cfg0.N) (d : Fin 1024) (p : Fin 3072) : iblk m c 2 t (ix2 d p) = aW m c (ix2 d p) := by
  rw [← V_weights m c]
  unfold iblk
  exact congrArg (V m c main_v5) (emb_same (cfg0.win 2) t rfl _ (index2 t) (ix2 d p) (ix2 d p) (Fin.forall_fin_two.mpr ⟨Nat.zero_add _, Nat.zero_add _⟩))
theorem read_transposed (t : Fin cfg0.N) (q : Fin 512) (d : Fin 1024) : iblk m c 3 t (ix2 q d) = aW m c (ix2 d (column 1 q)) := by
  rw [← V_transposed m c]
  unfold iblk
  exact congrArg (V m c main_v3) (emb_same (cfg0.win 3) t rfl _ (index3 t) (ix2 q d) (ix2 q d) (Fin.forall_fin_two.mpr ⟨Nat.zero_add _, Nat.zero_add _⟩))

/-- The products of the blocks that a point reads. -/
theorem point_product (t : Fin cfg0.N) (j : Fin 6) (r q : Fin 512) :
    product (fun d => iblk m c 0 t (ix2 r d)) (fun d => iblk m c 1 t (ix2 0 d)) (fun d => iblk m c 2 t (ix2 d (column j q)))
      = cell (aX m c) (aG m c) (aW m c) j (promptAt t) (positionAt t r) q := by
  unfold cell
  exact congr (congr (congrArg product (funext fun d => read_rows m c t r d)) (funext fun d => read_gain m c t d)) (funext fun d => read_weights m c t d _)
theorem point_keys (t : Fin cfg0.N) (r q : Fin 512) :
    product (fun d => iblk m c 0 t (ix2 r d)) (fun d => iblk m c 1 t (ix2 0 d)) (fun d => iblk m c 3 t (ix2 q d))
      = cell (aX m c) (aG m c) (aW m c) 1 (promptAt t) (positionAt t r) q := by
  unfold cell
  exact congr (congr (congrArg product (funext fun d => read_rows m c t r d)) (funext fun d => read_gain m c t d)) (funext fun d => read_transposed m c t q d)

/-! ## The result arrays

Each layout is described once: where a point's block sits in the array, and that a block of part `j` holds the array's entries there. -/

/-- Where an entry of a block of rows sits, -/
def rowPlace (t : Fin cfg0.N) (y : S512x512.Idx) : S32768x512.Idx := ix2 (rowAt t (y (0 : Fin 2))) (y (1 : Fin 2))
/-- of a block by heads, -/
def headPlace (t : Fin cfg0.N) (y : S1x512x4x128.Idx) : S16x2048x4x128.Idx := ix4 (promptAt t) (positionAt t (y (1 : Fin 4))) (y (2 : Fin 4)) (y (3 : Fin 4))
/-- and of a block of keys. -/
def keyPlace (t : Fin cfg0.N) (y : S1x4x2x64x512.Idx) : S16x4x2x64x2048.Idx :=
  ix5 (promptAt t) (y (1 : Fin 5)) (y (2 : Fin 5)) (y (3 : Fin 5)) (positionAt t (y (4 : Fin 5)))

theorem row_point (j : Fin 6) (t : Fin cfg0.N) (v : S512x512.Idx → EReal)
    (hv : ∀ r q, v (ix2 r q) = blockCell (iblk m c 0 t) (iblk m c 1 t) (iblk m c 2 t) j r q) (y : S512x512.Idx) :
    v y = flat (aX m c) (aG m c) (aW m c) j (rowPlace t y) := by
  have e : y = ix2 (y (0 : Fin 2)) (y (1 : Fin 2)) := idx2_same (a := 512) (b := 512) rfl rfl
  refine (congrArg v e).trans ((hv (y (0 : Fin 2)) (y (1 : Fin 2))).trans ((point_product m c t j _ _).trans ?_))
  rw [← prompt_rowAt t (y (0 : Fin 2)), ← position_rowAt t (y (0 : Fin 2))]
  rfl
theorem head_point (j : Fin 6) (t : Fin cfg0.N) (v : S1x512x4x128.Idx → EReal)
    (hv : ∀ r h e, v (ix4 0 r h e) = blockCell (iblk m c 0 t) (iblk m c 1 t) (iblk m c 2 t) j r (headColumn h e)) (y : S1x512x4x128.Idx) :
    v y = heads (aX m c) (aG m c) (aW m c) j (headPlace t y) := by
  have hy : (y 0).val = 0 := by have : (y 0).val < 1 := (y 0).isLt; omega
  have e : y = ix4 0 (y (1 : Fin 4)) (y (2 : Fin 4)) (y (3 : Fin 4)) := idx4_same (a := 1) (b := 512) (c := 4) (d := 128) hy rfl rfl rfl
  exact (congrArg v e).trans
    ((hv (y (1 : Fin 4)) (y (2 : Fin 4)) (y (3 : Fin 4))).trans (point_product m c t j _ _))
theorem key_point (t : Fin cfg0.N) (v : S1x4x2x64x512.Idx → EReal)
    (hv : ∀ h s e r, v (ix5 0 h s e r) = product (fun d => iblk m c 0 t (ix2 r d)) (fun d => iblk m c 1 t (ix2 0 d)) (fun d => iblk m c 3 t (ix2 (keyRow h s e) d)))
    (y : S1x4x2x64x512.Idx) : v y = keys (aX m c) (aG m c) (aW m c) (keyPlace t y) := by
  have hy : (y 0).val = 0 := by have : (y 0).val < 1 := (y 0).isLt; omega
  have e : y = ix5 0 (y (1 : Fin 5)) (y (2 : Fin 5)) (y (3 : Fin 5)) (y (4 : Fin 5)) :=
    idx5_same (a := 1) (b := 4) (c := 2) (d := 64) (e := 512) hy rfl rfl rfl rfl
  exact (congrArg v e).trans ((hv (y (1 : Fin 5)) (y (2 : Fin 5)) (y (3 : Fin 5)) (y (4 : Fin 5))).trans (point_keys m c t _ _))

theorem block_index (t n : ℕ) (h : n < 1) : t * 1 + n = t := by omega

theorem index4 : ∀ t : Fin grid0.N, win0_4.index t = ![t.val, 0] := by decide +kernel
theorem index5 : ∀ t : Fin grid0.N, win0_5.index t = ![t.val / 4, 0, 0, 0, t.val % 4] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val / 4, t.val % 4, 0, 0] := by decide +kernel
theorem index11 : ∀ t : Fin grid0.N, win0_11.index t = ![t.val / 4, t.val % 4, 0, 0] := by decide +kernel
theorem index12 : ∀ t : Fin grid0.N, win0_12.index t = ![t.val / 4, t.val % 4, 0, 0] := by decide +kernel

theorem array4 : (dats m 0 c).arrAt 4 cfg0.N = flat (aX m c) (aG m c) (aW m c) 0 :=
  (dats m 0 c).arrAt_eq_of_covers 4 _ (by decide +kernel) fun t _ y =>
    (row_point m c 0 t _ (fun r q => (congrFun (after0_4 m c t) _).trans (out4_apply _ _ _ _ r q)) y).trans
      (congrArg (flat (aX m c) (aG m c) (aW m c) 0) (emb_same (cfg0.win 4) t rfl _ (index4 t) y (rowPlace t y) (Fin.forall_fin_two.mpr ⟨rfl, Nat.zero_add _⟩)).symm)
theorem array6 : (dats m 0 c).arrAt 6 cfg0.N = flat (aX m c) (aG m c) (aW m c) 2 :=
  (dats m 0 c).arrAt_eq_of_covers 6 _ (by decide +kernel) fun t _ y =>
    (row_point m c 2 t _ (fun r q => (congrFun (after0_6 m c t) _).trans (out6_apply _ _ _ _ r q)) y).trans
      (congrArg (flat (aX m c) (aG m c) (aW m c) 2) (emb_same (cfg0.win 6) t rfl _ (index6 t) y (rowPlace t y) (Fin.forall_fin_two.mpr ⟨rfl, Nat.zero_add _⟩)).symm)
theorem array7 : (dats m 0 c).arrAt 7 cfg0.N = flat (aX m c) (aG m c) (aW m c) 3 :=
  (dats m 0 c).arrAt_eq_of_covers 7 _ (by decide +kernel) fun t _ y =>
    (row_point m c 3 t _ (fun r q => (congrFun (after0_7 m c t) _).trans (out7_apply _ _ _ _ r q)) y).trans
      (congrArg (flat (aX m c) (aG m c) (aW m c) 3) (emb_same (cfg0.win 7) t rfl _ (index7 t) y (rowPlace t y) (Fin.forall_fin_two.mpr ⟨rfl, Nat.zero_add _⟩)).symm)
theorem array8 : (dats m 0 c).arrAt 8 cfg0.N = flat (aX m c) (aG m c) (aW m c) 4 :=
  (dats m 0 c).arrAt_eq_of_covers 8 _ (by decide +kernel) fun t _ y =>
    (row_point m c 4 t _ (fun r q => (congrFun (after0_8 m c t) _).trans (out8_apply _ _ _ _ r q)) y).trans
      (congrArg (flat (aX m c) (aG m c) (aW m c) 4) (emb_same (cfg0.win 8) t rfl _ (index8 t) y (rowPlace t y) (Fin.forall_fin_two.mpr ⟨rfl, Nat.zero_add _⟩)).symm)
theorem array9 : (dats m 0 c).arrAt 9 cfg0.N = flat (aX m c) (aG m c) (aW m c) 5 :=
  (dats m 0 c).arrAt_eq_of_covers 9 _ (by decide +kernel) fun t _ y =>
    (row_point m c 5 t _ (fun r q => (congrFun (after0_9 m c t) _).trans (out9_apply _ _ _ _ r q)) y).trans
      (congrArg (flat (aX m c) (aG m c) (aW m c) 5) (emb_same (cfg0.win 9) t rfl _ (index9 t) y (rowPlace t y) (Fin.forall_fin_two.mpr ⟨rfl, Nat.zero_add _⟩)).symm)
theorem array10 : (dats m 0 c).arrAt 10 cfg0.N = heads (aX m c) (aG m c) (aW m c) 2 :=
  (dats m 0 c).arrAt_eq_of_covers 10 _ (by decide +kernel) fun t _ y =>
    (head_point m c 2 t _ (fun r h e => (congrFun (after0_10 m c t) _).trans (out10_apply _ _ _ _ r h e)) y).trans
      (congrArg (heads (aX m c) (aG m c) (aW m c) 2) (emb_same (cfg0.win 10) t rfl _ (index10 t) y (headPlace t y)
        (all_four (block_index _ _ (y (0 : Fin 4)).isLt) rfl (Nat.zero_add _) (Nat.zero_add _))).symm)
theorem array11 : (dats m 0 c).arrAt 11 cfg0.N = heads (aX m c) (aG m c) (aW m c) 4 :=
  (dats m 0 c).arrAt_eq_of_covers 11 _ (by decide +kernel) fun t _ y =>
    (head_point m c 4 t _ (fun r h e => (congrFun (after0_11 m c t) _).trans (out11_apply _ _ _ _ r h e)) y).trans
      (congrArg (heads (aX m c) (aG m c) (aW m c) 4) (emb_same (cfg0.win 11) t rfl _ (index11 t) y (headPlace t y)
        (all_four (block_index _ _ (y (0 : Fin 4)).isLt) rfl (Nat.zero_add _) (Nat.zero_add _))).symm)
theorem array12 : (dats m 0 c).arrAt 12 cfg0.N = heads (aX m c) (aG m c) (aW m c) 5 :=
  (dats m 0 c).arrAt_eq_of_covers 12 _ (by decide +kernel) fun t _ y =>
    (head_point m c 5 t _ (fun r h e => (congrFun (after0_12 m c t) _).trans (out12_apply _ _ _ _ r h e)) y).trans
      (congrArg (heads (aX m c) (aG m c) (aW m c) 5) (emb_same (cfg0.win 12) t rfl _ (index12 t) y (headPlace t y)
        (all_four (block_index _ _ (y (0 : Fin 4)).isLt) rfl (Nat.zero_add _) (Nat.zero_add _))).symm)
theorem array5 : (dats m 0 c).arrAt 5 cfg0.N = keys (aX m c) (aG m c) (aW m c) :=
  (dats m 0 c).arrAt_eq_of_covers 5 _ (by decide +kernel) fun t _ y =>
    (key_point m c t _ (fun h s e r => (congrFun (after0_5 m c t) _).trans (out5_apply _ _ _ _ h s e r)) y).trans (congrArg (keys (aX m c) (aG m c) (aW m c)) (emb_same (cfg0.win 5) t rfl _ (index5 t) y (keyPlace t y)
      (all_five (block_index _ _ (y (0 : Fin 5)).isLt) (Nat.zero_add _) (Nat.zero_add _) (Nat.zero_add _) rfl)).symm)

/-- The kernel's results after the run. -/
theorem run_value (ρ : Dev nD → PrngReg) : θ_run defs (onTc (τ := τ) (main (F := Ideal))) ⟨m, fun _ => 0, ρ⟩ fun r => ∀ c : Dev nD,
      r.2.mem ((c.tc : Thread nD τ).loc main_v6_0) = flat (aX m c) (aG m c) (aW m c) 0
      ∧ r.2.mem ((c.tc : Thread nD τ).loc main_v6_1) = keys (aX m c) (aG m c) (aW m c)
      ∧ r.2.mem ((c.tc : Thread nD τ).loc main_v6_2) = flat (aX m c) (aG m c) (aW m c) 2
      ∧ r.2.mem ((c.tc : Thread nD τ).loc main_v6_3) = flat (aX m c) (aG m c) (aW m c) 3
      ∧ r.2.mem ((c.tc : Thread nD τ).loc main_v6_4) = flat (aX m c) (aG m c) (aW m c) 4
      ∧ r.2.mem ((c.tc : Thread nD τ).loc main_v6_5) = flat (aX m c) (aG m c) (aW m c) 5
      ∧ r.2.mem ((c.tc : Thread nD τ).loc main_v6_6) = heads (aX m c) (aG m c) (aW m c) 2
      ∧ r.2.mem ((c.tc : Thread nD τ).loc main_v6_7) = heads (aX m c) (aG m c) (aW m c) 4
      ∧ r.2.mem ((c.tc : Thread nD τ).loc main_v6_8) = heads (aX m c) (aG m c) (aW m c) 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    obtain ⟨h0, h1, h2, h3, h4, h5, h6, h7, h8, hargs⟩ := hr c
    exact ⟨h0.trans (array4 m c), h1.trans (array5 m c), h2.trans (array6 m c), h3.trans (array7 m c), h4.trans (array8 m c),
      h5.trans (array9 m c), h6.trans (array10 m c), h7.trans (array11 m c), h8.trans (array12 m c), hargs⟩) (Value.run_blocks m ρ)

end Cert.Kernel3Ideal.Rows

end
-- ==== Proof.Rows.Prompt.lean ====
/- The prompt rows' projection: what its reference computes, and that its kernel gives the same. -/
module

public import proofs.«01_k».proof.Defs
public import proofs.«01_k».proof.Proof.Gen.Reference3Ideal.Run
public import proofs.«01_k».proof.Proof.Rows.PromptArrays

@[expose] public section

set_option maxRecDepth 16384

noncomputable section

namespace Cert.Reference3Ideal.Rows

open Cert.Reference3Ideal Cert.Reference3Ideal.Gen Cert.Reference3Ideal.Value Cert.Proof.Rows Cert.Proof.Index
open Cert.Kernel3Ideal.Rows (cell prompt position flat keys heads keyRow headColumn)
open Idealize.ShloMosaic Idealize.ShloMosaic.TcCoe Idealize.ShloMosaic.StableHlo
open Idealize.SL.Sem

/-- All six parts side by side. -/
abbrev all (x : FVec Ideal S16x2048x1024 .f32) (g : FVec Ideal S1024 .f32) (w : FVec Ideal S1024x3072 .f32) : FVec Ideal S16x2048x3072 .f32 :=
  Host.dotGeneral (F := Ideal) (φ₁ := .f32) (φ₂ := .f32) dot_S16x2048x1024_S1024x3072_S16x2048x3072_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w

theorem all_apply (x : FVec Ideal S16x2048x1024 .f32) (g : FVec Ideal S1024 .f32) (w : FVec Ideal S1024x3072 .f32) (b : Fin 16) (p : Fin 2048) (q : Fin 3072) :
    all x g w (ix3 b p q) = product (fun d => x (ix3 b p d)) (fun d => g (ix1 d)) (fun d => w (ix2 d q)) := by
  unfold all product normed scale
  pointwise [dot_S16x2048x1024_S1024x3072_S16x2048x3072_2_0_01_1_n_n]

theorem slice (o : ℕ) (ho : S16x2048x3072.Slices ![0, 0, o] S16x2048x512) (j : Fin 6) (hj : o = 512 * j.val) (x : FVec Ideal S16x2048x1024 .f32) (g : FVec Ideal S1024 .f32)
    (w : FVec Ideal S1024x3072 .f32) (b : Fin 16) (p : Fin 2048) (q : Fin 512) :
    extractStridedSlice S16x2048x512 ![0, 0, o] (all x g w) ho (ix3 b p q) = cell x g w j b p q := by
  subst hj
  refine Eq.trans ?_ (all_apply x g w b p (column j q))
  generalize all x g w = y
  pointwise
  exact congrArg y (idx3_same (a := 16) (b := 2048) (c := 3072) rfl rfl rfl)

theorem flat_read (s : FVec Ideal S16x2048x512 .f32) (r : Fin 32768) (q : Fin 512) :
    shapeCast S32768x512 s shapeCasts_S16x2048x512_S32768x512 (ix2 r q) = s (ix3 (prompt r) (position r) q) := by
  unfold prompt position
  pointwise
theorem keys_read (s : FVec Ideal S16x2048x512 .f32) (b : Fin 16) (h : Fin 4) (u : Fin 2) (e : Fin 64) (p : Fin 2048) :
    transpose S16x4x2x64x2048 [0, 2, 3, 4, 1] (shapeCast S16x2048x4x2x64 s shapeCasts_S16x2048x512_S16x2048x4x2x64) transposes_S16x2048x4x2x64_S16x4x2x64x2048_0_2_3_4_1
      (ix5 b h u e p) = s (ix3 b p (keyRow h u e)) := by
  unfold keyRow
  pointwise
theorem heads_read (s : FVec Ideal S16x2048x512 .f32) (b : Fin 16) (p : Fin 2048) (h : Fin 4) (e : Fin 128) :
    shapeCast S16x2048x4x128 s shapeCasts_S16x2048x512_S16x2048x4x128 (ix4 b p h e) = s (ix3 b p (headColumn h e)) := by
  unfold headColumn
  pointwise

/-- A part's slice flattened, -/
theorem flat_eq (x : FVec Ideal S16x2048x1024 .f32) (g : FVec Ideal S1024 .f32) (w : FVec Ideal S1024x3072 .f32) (j : Fin 6) (s : FVec Ideal S16x2048x512 .f32) (hs : ∀ b p q, s (ix3 b p q) = cell x g w j b p q) :
    shapeCast S32768x512 s shapeCasts_S16x2048x512_S32768x512 = flat x g w j :=
  funext fun k => by
    have e : k = (ix2 (k (0 : Fin 2)) (k (1 : Fin 2)) : S32768x512.Idx) := idx2_same (a := 32768) (b := 512) rfl rfl
    refine Eq.trans ?_ (hs (prompt (k (0 : Fin 2))) (position (k (0 : Fin 2))) (k (1 : Fin 2)))
    refine (congrArg _ e).trans ?_
    exact flat_read s _ _
/-- the keys' with the positions last, -/
theorem keys_eq (x : FVec Ideal S16x2048x1024 .f32) (g : FVec Ideal S1024 .f32) (w : FVec Ideal S1024x3072 .f32) (s : FVec Ideal S16x2048x512 .f32) (hs : ∀ b p q, s (ix3 b p q) = cell x g w 1 b p q) :
    transpose S16x4x2x64x2048 [0, 2, 3, 4, 1] (shapeCast S16x2048x4x2x64 s shapeCasts_S16x2048x512_S16x2048x4x2x64) transposes_S16x2048x4x2x64_S16x4x2x64x2048_0_2_3_4_1 = keys x g w :=
  funext fun k => by
    have e : k = (ix5 (k (0 : Fin 5)) (k (1 : Fin 5)) (k (2 : Fin 5)) (k (3 : Fin 5)) (k (4 : Fin 5)) : S16x4x2x64x2048.Idx) :=
      idx5_same (a := 16) (b := 4) (c := 2) (d := 64) (e := 2048) rfl rfl rfl rfl rfl
    refine Eq.trans ?_ (hs (k (0 : Fin 5)) (k (4 : Fin 5)) (keyRow (k (1 : Fin 5)) (k (2 : Fin 5)) (k (3 : Fin 5))))
    exact (congrArg _ e).trans (keys_read s _ _ _ _ _)
/-- and a part's by heads. -/
theorem heads_eq (x : FVec Ideal S16x2048x1024 .f32) (g : FVec Ideal S1024 .f32) (w : FVec Ideal S1024x3072 .f32) (j : Fin 6) (s : FVec Ideal S16x2048x512 .f32) (hs : ∀ b p q, s (ix3 b p q) = cell x g w j b p q) :
    shapeCast S16x2048x4x128 s shapeCasts_S16x2048x512_S16x2048x4x128 = heads x g w j :=
  funext fun k => by
    have e : k = (ix4 (k (0 : Fin 4)) (k (1 : Fin 4)) (k (2 : Fin 4)) (k (3 : Fin 4)) : S16x2048x4x128.Idx) :=
      idx4_same (a := 16) (b := 2048) (c := 4) (d := 128) rfl rfl rfl rfl
    refine Eq.trans ?_ (hs (k (0 : Fin 4)) (k (1 : Fin 4)) (headColumn (k (2 : Fin 4)) (k (3 : Fin 4))))
    exact (congrArg _ e).trans (heads_read s _ _ _ _)

variable (m : (ℓ : Loc nD τ sig) → Buf (Elt Ideal) ℓ) (ρ : Dev nD → PrngReg)

abbrev aX (c : Dev nD) : FVec Ideal S16x2048x1024 .f32 := m ((c.tc : Thread nD τ).loc main_arg0)
abbrev aG (c : Dev nD) : FVec Ideal S1024 .f32 := m ((c.tc : Thread nD τ).loc main_arg1)
abbrev aW (c : Dev nD) : FVec Ideal S1024x3072 .f32 := m ((c.tc : Thread nD τ).loc main_arg2)

/-- The reference's results after its run. -/
theorem run_value : θ_run defs (onTc (τ := τ) (main (F := Ideal))) ⟨m, fun _ => 0, ρ⟩ fun r => ∀ c : Dev nD,
      r.2.mem ((c.tc : Thread nD τ).loc main_v21) = flat (aX m c) (aG m c) (aW m c) 0
      ∧ r.2.mem ((c.tc : Thread nD τ).loc main_v23) = keys (aX m c) (aG m c) (aW m c)
      ∧ r.2.mem ((c.tc : Thread nD τ).loc main_v24) = flat (aX m c) (aG m c) (aW m c) 2
      ∧ r.2.mem ((c.tc : Thread nD τ).loc main_v25) = flat (aX m c) (aG m c) (aW m c) 3
      ∧ r.2.mem ((c.tc : Thread nD τ).loc main_v26) = flat (aX m c) (aG m c) (aW m c) 4
      ∧ r.2.mem ((c.tc : Thread nD τ).loc main_v27) = flat (aX m c) (aG m c) (aW m c) 5
      ∧ r.2.mem ((c.tc : Thread nD τ).loc main_v28) = heads (aX m c) (aG m c) (aW m c) 2
      ∧ r.2.mem ((c.tc : Thread nD τ).loc main_v29) = heads (aX m c) (aG m c) (aW m c) 4
      ∧ r.2.mem ((c.tc : Thread nD τ).loc main_v30) = heads (aX m c) (aG m c) (aW m c) 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    obtain ⟨h0, h1, h2, h3, h4, h5, h6, h7, h8, hargs⟩ := hr c
    exact ⟨h0.trans (flat_eq (aX m c) (aG m c) (aW m c) 0 _ (slice 0 slices_S16x2048x3072_S16x2048x512_0_0_0 0 rfl (aX m c) (aG m c) (aW m c))),
      h1.trans (keys_eq (aX m c) (aG m c) (aW m c) _ (slice 512 slices_S16x2048x3072_S16x2048x512_0_0_512 1 rfl (aX m c) (aG m c) (aW m c))),
      h2.trans (flat_eq (aX m c) (aG m c) (aW m c) 2 _ (slice 1024 slices_S16x2048x3072_S16x2048x512_0_0_1024 2 rfl (aX m c) (aG m c) (aW m c))),
      h3.trans (flat_eq (aX m c) (aG m c) (aW m c) 3 _ (slice 1536 slices_S16x2048x3072_S16x2048x512_0_0_1536 3 rfl (aX m c) (aG m c) (aW m c))),
      h4.trans (flat_eq (aX m c) (aG m c) (aW m c) 4 _ (slice 2048 slices_S16x2048x3072_S16x2048x512_0_0_2048 4 rfl (aX m c) (aG m c) (aW m c))),
      h5.trans (flat_eq (aX m c) (aG m c) (aW m c) 5 _ (slice 2560 slices_S16x2048x3072_S16x2048x512_0_0_2560 5 rfl (aX m c) (aG m c) (aW m c))),
      h6.trans (heads_eq (aX m c) (aG m c) (aW m c) 2 _ (slice 1024 slices_S16x2048x3072_S16x2048x512_0_0_1024 2 rfl (aX m c) (aG m c) (aW m c))),
      h7.trans (heads_eq (aX m c) (aG m c) (aW m c) 4 _ (slice 2048 slices_S16x2048x3072_S16x2048x512_0_0_2048 4 rfl (aX m c) (aG m c) (aW m c))),
      h8.trans (heads_eq (aX m c) (aG m c) (aW m c) 5 _ (slice 2560 slices_S16x2048x3072_S16x2048x512_0_0_2560 5 rfl (aX m c) (aG m c) (aW m c))), hargs⟩) (Value.run m ρ)

end Cert.Reference3Ideal.Rows

namespace Cert.Proof.Rows

open Idealize.ShloMosaic Idealize.SL.Sem

/-- The equation of the prompt rows' projection. -/
theorem equation_prompt : Cert.algebraic_Kernel3Ideal_Reference3Ideal (hKernel3Ideal := Cert.Kernel3Ideal.Gen.facts)
    (hReference3Ideal := Cert.Reference3Ideal.Gen.facts) := by
  intro m g m' g' hpre hargs
  refine ⟨_, _, _, _, _, _, _, _, _, Cert.Kernel3Ideal.Rows.run_value m g, ?_⟩
  refine (θ_run Cert.Reference3Ideal.defs _ _).mono (fun r hr c => ?_) (Cert.Reference3Ideal.Rows.run_value m' g')
  obtain ⟨e0, e1, e2⟩ := hargs c
  obtain ⟨h0, h1, h2, h3, h4, h5, h6, h7, h8, hk⟩ := hr c
  unfold Cert.Reference3Ideal.Rows.aX Cert.Reference3Ideal.Rows.aG Cert.Reference3Ideal.Rows.aW at h0 h1 h2 h3 h4 h5 h6 h7 h8
  rw [e0, e1, e2] at h0 h1 h2 h3 h4 h5 h6 h7 h8
  exact ⟨h0, h1, h2, h3, h4, h5, h6, h7, h8, hk⟩

end Cert.Proof.Rows

end
-- ==== Proof.Ffn.Body.lean ====
/- The feed-forward kernel's body over the extended reals: what each case leaves in the buffers it stores. -/
module

public import proofs.«01_k».proof.Proof.Gen.Kernel4Ideal.Value
public import proofs.«01_k».proof.Proof.Experts.Step
public import proofs.«01_k».proof.Proof.Rows.Common
public import proofs.«01_k».proof.Proof.Rows.Index

@[expose] public section

set_option maxRecDepth 16384

noncomputable section

namespace Cert.Kernel4Ideal.Ffn

open Cert.Kernel4Ideal Cert.Kernel4Ideal.Gen Cert.Proof.Rows Cert.Proof.Index
open Cert.KernelIdeal.Experts (act)
open Idealize.ShloMosaic Idealize.ShloMosaic.TcCoe
open scoped BigOperators

/-- The residual's entry plus the two halves of the attention's row against the two halves of a column of the output weights. -/
def mixed (x : EReal) (a b : Fin 512 → EReal) (w : Fin 1024 → EReal) : EReal :=
  x + ∑ k : Fin 512, a k * w ⟨k.val, by omega⟩ + ∑ k : Fin 512, b k * w ⟨512 + k.val, by omega⟩

/-- One hidden column of a row, gated, times its down weight. -/
def term (y wg wu : Fin 1024 → EReal) (wd : EReal) : EReal := (act (∑ d : Fin 1024, y d * wg d) * (∑ d : Fin 1024, y d * wu d)) * wd

/-! ## The body's values -/

theorem mixed_apply (x : Vec Ideal S512x1024 .f32) (a : Vec Ideal S512x512 .bf16) (wt : Vec Ideal S512x1024 .bf16) (b : Vec Ideal S512x512 .bf16)
    (wb : Vec Ideal S512x1024 .bf16) (r : Fin 512) (j : Fin 1024) :
    k0_pay4 x a wt b wb (ix2 r j)
      = x (ix2 r j) + ∑ k : Fin 512, a (ix2 r k) * wt (ix2 k j) + ∑ k : Fin 512, b (ix2 r k) * wb (ix2 k j) := by
  unfold k0_pay4
  pointwise [dot_S512x512_S512x1024_S512x1024_1_0_0_1_n_n]

theorem normed_apply (x : Vec Ideal S512x1024 .f32) (a : Vec Ideal S512x512 .bf16) (wt : Vec Ideal S512x1024 .bf16) (b : Vec Ideal S512x512 .bf16)
    (wb : Vec Ideal S512x1024 .bf16) (g : Vec Ideal S1x1024 .f32) (r : Fin 512) (d : Fin 1024) :
    k0_pay6 x a wt b wb g (ix2 r d) = normed (fun d => k0_pay4 x a wt b wb (ix2 r d)) (fun d => g (ix2 0 d)) d := by
  unfold k0_pay6
  generalize k0_pay4 x a wt b wb = h
  unfold normed scale
  pointwise

/-- A step adds, to each entry of the running sum, the terms of the hidden columns of its half. -/
theorem step_apply (y : Vec Ideal S512x1024 .bf16) (wg wu : Vec Ideal S1024x1408 .bf16) (acc : Vec Ideal S512x1024 .f32) (wd : Vec Ideal S1408x1024 .bf16)
    (r : Fin 512) (j : Fin 1024) :
    k0_pay2 y wg wu acc wd (ix2 r j)
      = acc (ix2 r j) + ∑ h : Fin 1408, term (fun d => y (ix2 r d)) (fun d => wg (ix2 d h)) (fun d => wu (ix2 d h)) (wd (ix2 h j)) := by
  unfold k0_pay2 term act
  pointwise [dot_S512x1024_S1024x1408_S512x1408_1_0_0_1_n_n, dot_S512x1408_S1408x1024_S512x1024_1_0_0_1_n_n]

theorem start_apply (y : S512x1024.Idx) : k0_pay1 (F := Ideal) k0_pay7 y = 0 := by
  unfold k0_pay1 k0_pay7
  pointwise

/-! ## What the two cases leave -/

theorem hz : (![0, 0] : Fin 2 → Nat) = fun _ => 0 := funext fun a => by fin_cases a <;> rfl

section Cases
variable (c : Dev nD) (i : grid0.Coords) (arg2 : Memref sig .tc .vmem S512x1024 .f32) (harg2 : arg2.IsWhole)
  (arg3 : Memref sig .tc .vmem S512x512 .bf16) (harg3 : arg3.IsWhole) (arg4 : Memref sig .tc .vmem S512x512 .bf16) (harg4 : arg4.IsWhole)
  (arg5 : Memref sig .tc .vmem S1024x1024 .bf16) (harg5 : arg5.IsWhole) (arg6 : Memref sig .tc .vmem S1x1024 .f32) (harg6 : arg6.IsWhole)
  (arg7 : Memref sig .tc .vmem S1024x1408 .bf16) (harg7 : arg7.IsWhole) (arg8 : Memref sig .tc .vmem S1024x1408 .bf16) (harg8 : arg8.IsWhole)
  (arg9 : Memref sig .tc .vmem S1408x1024 .bf16) (harg9 : arg9.IsWhole) (arg10 : Memref sig .tc .vmem S512x1024 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S512x1024 .f32) (harg13 : arg13.IsWhole)
  (x : Vec Ideal S512x1024 .f32) (a b : Vec Ideal S512x512 .bf16) (w : Vec Ideal S1024x1024 .bf16) (g : Vec Ideal S1x1024 .f32)
  (wg wu : Vec Ideal S1024x1408 .bf16) (wd : Vec Ideal S1408x1024 .bf16)

/-- The top and the bottom half of the output weights. -/
abbrev top : Vec Ideal S512x1024 .bf16 := View.ld w (Rect.unit (s := S1024x1024) ![0, 0] S512x1024.size inb_S1024x1024_S512x1024_0_0)
abbrev bottom : Vec Ideal S512x1024 .bf16 := View.ld w (Rect.unit (s := S1024x1024) ![512, 0] S512x1024.size inb_S1024x1024_S512x1024_512_0)

theorem first_rows (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x a b w g wg wu wd
      = k0_pay4 x a (top w) b (bottom w) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x a b w g wg wu wd)]
  unfold kernelRun0_A
  dsimp only
  sl_unfold_words
  rw [View.canon_unit_zero hz]
  unfold k0_pay5
  simp only [View.readAt_eq_ld, harg2.read_unread, harg3.read_unread, harg4.read_unread, harg5.read_unread, View.ld_unit_zero (S := S512x1024) hz,
    View.ld_unit_zero (S := S512x512) hz, shapeCast_self]

theorem first_normed (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 x a b w g wg wu wd
      = k0_pay6 x a (top w) b (bottom w) g := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x a b w g wg wu wd)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S512x512) hz, View.ld_unit_zero (S := S1x1024) hz]

theorem first_sum (hc0 : cond0_0 i) (hc1 : ¬cond0_1 i) :
    sout0_A_2 (F := Ideal) c i arg2 harg2 arg3 harg3 arg4 harg4 arg5 harg5 arg6 harg6 arg7 harg7 arg8 harg8 arg9 harg9 arg10 harg10 arg11 harg11 arg12 harg12 arg13 harg13 hc0 hc1 x a b w g wg wu wd
      = k0_pay2 (k0_pay6 x a (top w) b (bottom w) g) wg wu (k0_pay1 (F := Ideal) k0_pay7) wd := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x a b w g wg wu wd)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, harg2.read_unread, harg3.read_unread, harg4.read_unread, harg5.read_unread, harg6.read_unread, harg7.read_unread,
    harg8.read_unread, harg9.read_unread, View.ld_unit_zero (S := S512x1024) hz, View.ld_unit_zero (S := S512x512) hz, View.ld_unit_zero (S := S1x1024) hz,
    View.ld_unit_zero (S := S1024x1408) hz, View.ld_unit_zero (S := S1408x1024) hz]

theorem last_out (hc0 : ¬cond0_0 i) (hc1 : cond0_1 i) (h : Vec Ideal S512x1024 .f32) (y : Vec Ideal S512x1024 .bf16) (acc : Vec Ideal S512x1024 .f32) :
    out0_B_8 (F := Ideal) c i arg2 harg2 arg3 harg3 arg4 harg4 arg5 harg5 arg6 harg6 arg7 harg7 arg8 harg8 arg9 harg9 arg10 harg10 arg11 harg11 arg12 harg12 arg13 harg13 hc0 hc1 x a b w g wg wu wd h y acc
      = k0_pay3 h (k0_pay2 y wg wu acc wd) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x a b w g wg wu wd h y acc)]
  unfold kernelRun0_B
  dsimp only
  sl_unfold_words
  rw [View.canon_unit_zero hz, View.readCov_unit_zero (S := S512x1024) _ hz]
  simp only [View.readAt_eq_ld, harg7.read_unread, harg8.read_unread, harg9.read_unread, harg11.read_unread, harg12.read_unread, harg13.read_unread,
    View.ld_unit_zero (S := S512x1024) hz, View.ld_unit_zero (S := S1024x1408) hz, View.ld_unit_zero (S := S1408x1024) hz]
end Cases

end Cert.Kernel4Ideal.Ffn

end
-- ==== Proof.Ffn.Value.lean ====
/- The feed-forward kernel's result array over the extended reals, from its arguments. -/
module

public import proofs.«01_k».proof.Proof.Ffn.Body

@[expose] public section

set_option maxRecDepth 16384

noncomputable section

namespace Cert.Kernel4Ideal.Ffn

open Cert.Kernel4Ideal Cert.Kernel4Ideal.Gen Cert.Proof.Rows Cert.Proof.Index
open Idealize.ShloMosaic Idealize.ShloMosaic.TcCoe
open Idealize.SL.Sem
open Idealize.ShloMosaic.Pipeline (Dat Window)
open scoped BigOperators

/-! ## The result as a function of the arguments -/

section Result
variable (X : S32768x1024.Idx → EReal) (A B : S32768x512.Idx → EReal) (Wo : S1024x1024.Idx → EReal) (G : S1024.Idx → EReal)
  (Wg Wu : S1024x2816.Idx → EReal) (Wd : S2816x1024.Idx → EReal)

/-- A row after the output projection. -/
def hidden (r : Fin 32768) (j : Fin 1024) : EReal :=
  mixed (X (ix2 r j)) (fun k => A (ix2 r k)) (fun k => B (ix2 r k)) (fun d => Wo (ix2 d j))

/-- The same row, scaled and weighted. -/
def scaled (r : Fin 32768) (d : Fin 1024) : EReal := normed (hidden X A B Wo r) (fun d => G (ix1 d)) d

/-- What hidden column `h` adds to row `r` and column `j`. -/
def share (r : Fin 32768) (j : Fin 1024) (h : Fin 2816) : EReal :=
  term (scaled X A B Wo G r) (fun d => Wg (ix2 d h)) (fun d => Wu (ix2 d h)) (Wd (ix2 h j))

/-- The result: the projected row plus its feed-forward. -/
def result (k : S32768x1024.Idx) : EReal := hidden X A B Wo (k 0) (k 1) + ∑ h : Fin 2816, share X A B Wo G Wg Wu Wd (k 0) (k 1) h
end Result

/-- The hidden columns are the first half and then the second. -/
theorem sum_halves (f : Fin 2816 → EReal) :
    ∑ h : Fin 2816, f h = (∑ h : Fin 1408, f ⟨h.val, by omega⟩) + ∑ h : Fin 1408, f ⟨1408 + h.val, by omega⟩ :=
  Fin.sum_univ_add (a := 1408) (b := 1408) f

/-! ## The blocks that a point reads -/

variable (m : (ℓ : Loc nD τ sig) → Buf (Elt Ideal) ℓ) (c : Dev nD)

abbrev aX : S32768x1024.Idx → EReal := m ((c : Thread nD τ).loc main_arg0)
abbrev aA : S32768x512.Idx → EReal := m ((c : Thread nD τ).loc main_arg1)
abbrev aB : S32768x512.Idx → EReal := m ((c : Thread nD τ).loc main_arg2)
abbrev aO : S1024x1024.Idx → EReal := m ((c : Thread nD τ).loc main_arg3)
abbrev aN : FVec Ideal S1024 .f32 := m ((c : Thread nD τ).loc main_arg4)
abbrev aG : S1024x2816.Idx → EReal := m ((c : Thread nD τ).loc main_arg5)
abbrev aU : S1024x2816.Idx → EReal := m ((c : Thread nD τ).loc main_arg6)
abbrev aD : S2816x1024.Idx → EReal := m ((c : Thread nD τ).loc main_arg7)

theorem V_output (y : S1024x1024.Idx) : V m c main_v0 y = aO m c y := by
  entry_read; rfl
theorem V_gain (d : Fin 1024) : V m c main_v1 (ix2 0 d) = aN m c (ix1 d) := by
  entry_read
  show shapeCast S1x1024 (aN m c) shapeCasts_S1024_S1x1024 (ix2 0 d) = _
  pointwise
theorem V_gate (y : S1024x2816.Idx) : V m c main_v2 y = aG m c y := by
  entry_read; rfl
theorem V_up (y : S1024x2816.Idx) : V m c main_v3 y = aU m c y := by
  entry_read; rfl
theorem V_down (y : S2816x1024.Idx) : V m c main_v4 y = aD m c y := by
  entry_read; rfl

theorem lt128 (t : Fin cfg0.N) : t.val < 128 := lt_of_lt_of_eq t.isLt (by decide)

/-- The row and the hidden column of the arrays that a block's row and column are. -/
def rowAt (t : Fin cfg0.N) (r : Fin 512) : Fin 32768 := ⟨t.val / 2 * 512 + r.val, by have := lt128 t; omega⟩
def hidAt (t : Fin cfg0.N) (h : Fin 1408) : Fin 2816 := ⟨t.val % 2 * 1408 + h.val, by omega⟩

theorem index0 : ∀ t : Fin grid0.N, win0_0.index t = ![t.val / 2, 0] := by decide +kernel
theorem index1 : ∀ t : Fin grid0.N, win0_1.index t = ![t.val / 2, 0] := by decide +kernel
theorem index2 : ∀ t : Fin grid0.N, win0_2.index t = ![t.val / 2, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, t.val % 2] := by decide +kernel
theorem index6 : ∀ t : Fin grid0.N, win0_6.index t = ![0, t.val % 2] := by decide +kernel
theorem index7 : ∀ t : Fin grid0.N, win0_7.index t = ![t.val % 2, 0] := by decide +kernel
theorem index8 : ∀ t : Fin grid0.N, win0_8.index t = ![t.val / 2, 0] := by decide +kernel

section Reads
variable (t : Fin cfg0.N)

theorem read_rows (r : Fin 512) (d : Fin 1024) : iblk m c 0 t (ix2 r d) = aX m c (ix2 (rowAt t r) d) := by
  unfold iblk
  refine Eq.trans ?_ (congrFun (V_main_arg0 m c) _)
  exact congrArg (V m c main_arg0) (emb_same (cfg0.win 0) t rfl _ (index0 t) (ix2 r d) (ix2 (rowAt t r) d) (Fin.forall_fin_two.mpr ⟨rfl, Nat.zero_add _⟩))
theorem read_first (r : Fin 512) (k : Fin 512) : iblk m c 1 t (ix2 r k) = aA m c (ix2 (rowAt t r) k) := by
  unfold iblk
  refine Eq.trans ?_ (congrFun (V_main_arg1 m c) _)
  exact congrArg (V m c main_arg1) (emb_same (cfg0.win 1) t rfl _ (index1 t) (ix2 r k) (ix2 (rowAt t r) k) (Fin.forall_fin_two.mpr ⟨rfl, Nat.zero_add _⟩))
theorem read_second (r : Fin 512) (k : Fin 512) : iblk m c 2 t (ix2 r k) = aB m c (ix2 (rowAt t r) k) := by
  unfold iblk
  refine Eq.trans ?_ (congrFun (V_main_arg2 m c) _)
  exact congrArg (V m c main_arg2) (emb_same (cfg0.win 2) t rfl _ (index2 t) (ix2 r k) (ix2 (rowAt t r) k) (Fin.forall_fin_two.mpr ⟨rfl, Nat.zero_add _⟩))
theorem read_output (d j : Fin 1024) : iblk m c 3 t (ix2 d j) = aO m c (ix2 d j) := by
  unfold iblk
  refine Eq.trans ?_ (V_output m c _)
  exact congrArg (V m c main_v0) (emb_same (cfg0.win 3) t rfl _ (index3 t) (ix2 d j) (ix2 d j) (Fin.forall_fin_two.mpr ⟨Nat.zero_add _, Nat.zero_add _⟩))
theorem read_gain (d : Fin 1024) : iblk m c 4 t (ix2 0 d) = aN m c (ix1 d) := by
  unfold iblk
  refine Eq.trans ?_ (V_gain m c _)
  exact congrArg (V m c main_v1) (emb_same (cfg0.win 4) t rfl _ (index4 t) (ix2 0 d) (ix2 0 d) (Fin.forall_fin_two.mpr ⟨Nat.zero_add _, Nat.zero_add _⟩))
theorem read_gate (d : Fin 1024) (h : Fin 1408) : iblk m c 5 t (ix2 d h) = aG m c (ix2 d (hidAt t h)) := by
  unfold iblk
  refine Eq.trans ?_ (V_gate m c _)
  exact congrArg (V m c main_v2) (emb_same (cfg0.win 5) t rfl _ (index5 t) (ix2 d h) (ix2 d (hidAt t h)) (Fin.forall_fin_two.mpr ⟨Nat.zero_add _, rfl⟩))
theorem read_up (d : Fin 1024) (h : Fin 1408) : iblk m c 6 t (ix2 d h) = aU m c (ix2 d (hidAt t h)) := by
  unfold iblk
  refine Eq.trans ?_ (V_up m c _)
  exact congrArg (V m c main_v3) (emb_same (cfg0.win 6) t rfl _ (index6 t) (ix2 d h) (ix2 d (hidAt t h)) (Fin.forall_fin_two.mpr ⟨Nat.zero_add _, rfl⟩))
theorem read_down (h : Fin 1408) (j : Fin 1024) : iblk m c 7 t (ix2 h j) = aD m c (ix2 (hidAt t h) j) := by
  unfold iblk
  refine Eq.trans ?_ (V_down m c _)
  exact congrArg (V m c main_v4) (emb_same (cfg0.win 7) t rfl _ (index7 t) (ix2 h j) (ix2 (hidAt t h) j) (Fin.forall_fin_two.mpr ⟨rfl, Nat.zero_add _⟩))

/-! ## What a point computes -/

/-- The projected rows of a point's tile, -/
abbrev rowsOf : FVec Ideal S512x1024 .f32 := k0_pay4 (iblk m c 0 t) (iblk m c 1 t) (top (iblk m c 3 t)) (iblk m c 2 t) (bottom (iblk m c 3 t))
/-- and the same rows, scaled and weighted. -/
abbrev scaledOf : FVec Ideal S512x1024 .bf16 :=
  k0_pay6 (iblk m c 0 t) (iblk m c 1 t) (top (iblk m c 3 t)) (iblk m c 2 t) (bottom (iblk m c 3 t)) (iblk m c 4 t)

theorem rowsOf_apply (r : Fin 512) (j : Fin 1024) : rowsOf m c t (ix2 r j) = hidden (aX m c) (aA m c) (aB m c) (aO m c) (rowAt t r) j := by
  have et (k : Fin 512) : top (iblk m c 3 t) (ix2 k j) = aO m c (ix2 ⟨k.val, by omega⟩ j) :=
    (congrArg (iblk m c 3 t) (idx2_same (a := 1024) (b := 1024) (by show 0 + 1 * k.val = k.val; omega) (by show 0 + 1 * j.val = j.val; omega))).trans
      (read_output m c t ⟨k.val, by omega⟩ j)
  have eb (k : Fin 512) : bottom (iblk m c 3 t) (ix2 k j) = aO m c (ix2 ⟨512 + k.val, by omega⟩ j) :=
    (congrArg (iblk m c 3 t) (idx2_same (a := 1024) (b := 1024) (by show 512 + 1 * k.val = 512 + k.val; omega) (by show 0 + 1 * j.val = j.val; omega))).trans
      (read_output m c t ⟨512 + k.val, by omega⟩ j)
  refine (mixed_apply _ _ _ _ _ r j).trans ?_
  unfold hidden mixed
  exact congrArg₂ (· + ·) (congrArg₂ (· + ·) (read_rows m c t r j) (Finset.sum_congr rfl fun k _ => congrArg₂ (· * ·) (read_first m c t r k) (et k)))
    (Finset.sum_congr rfl fun k _ => congrArg₂ (· * ·) (read_second m c t r k) (eb k))

theorem scaledOf_apply (r : Fin 512) (d : Fin 1024) :
    scaledOf m c t (ix2 r d) = scaled (aX m c) (aA m c) (aB m c) (aO m c) (aN m c) (rowAt t r) d := by
  refine (normed_apply _ _ _ _ _ _ r d).trans ?_
  unfold scaled
  exact congrFun (congrArg₂ normed (funext fun d => rowsOf_apply m c t r d) (funext fun d => read_gain m c t d)) d

/-- A point adds the shares of its half's hidden columns to the running sum. -/
theorem added (s : Fin cfg0.N) (hs : ∀ r, rowAt s r = rowAt t r) (acc : Vec Ideal S512x1024 .f32) (r : Fin 512) (j : Fin 1024) :
    k0_pay2 (scaledOf m c s) (iblk m c 5 t) (iblk m c 6 t) acc (iblk m c 7 t) (ix2 r j)
      = acc (ix2 r j) + ∑ h : Fin 1408, share (aX m c) (aA m c) (aB m c) (aO m c) (aN m c) (aG m c) (aU m c) (aD m c) (rowAt t r) j (hidAt t h) := by
  refine (step_apply _ _ _ acc _ r j).trans (congrArg (acc (ix2 r j) + ·) (Finset.sum_congr rfl fun h _ => ?_))
  unfold share
  have ey : (fun d => scaledOf m c s (ix2 r d)) = scaled (aX m c) (aA m c) (aB m c) (aO m c) (aN m c) (rowAt t r) :=
    funext fun d => (scaledOf_apply m c s r d).trans (by rw [hs])
  exact congr (congr (congrArg₂ term ey (funext fun d => read_gate m c t d h)) (funext fun d => read_up m c t d h)) (read_down m c t h j)
end Reads

/-- The first half's point of a tile, and the second's. -/
def before (t : Fin cfg0.N) : Fin cfg0.N := ⟨t.val - 1, Nat.lt_of_le_of_lt (Nat.sub_le _ _) t.isLt⟩

theorem rowAt_before (t : Fin cfg0.N) (h1 : t.val % 2 = 1) (r : Fin 512) : rowAt (before t) r = rowAt t r :=
  Fin.ext (by show (t.val - 1) / 2 * 512 + r.val = t.val / 2 * 512 + r.val; omega)

/-- What the kernel's own buffers hold after a tile's first point. -/
theorem carried (s : Fin cfg0.N) (h0 : s.val % 2 = 0) :
    (outsAt0 m c s.val s.isLt).2 = (rowsOf m c s, scaledOf m c s, k0_pay2 (scaledOf m c s) (iblk m c 5 s) (iblk m c 6 s) (k0_pay1 (F := Ideal) k0_pay7) (iblk m c 7 s)) := by
  rw [outsAt0_A m c s h0 (by omega)]
  dsimp only
  rw [first_rows, first_normed, first_sum]

/-- What a tile's second point leaves in the output's buffer. -/
theorem written (t : Fin cfg0.N) (h1 : t.val % 2 = 1) (r : Fin 512) (j : Fin 1024) :
    (outsAt0 m c t.val t.isLt).1 (ix2 r j)
      = result (aX m c) (aA m c) (aB m c) (aO m c) (aN m c) (aG m c) (aU m c) (aD m c) (ix2 (rowAt t r) j) := by
  have hp : (before t).val % 2 = 0 := by show (t.val - 1) % 2 = 0; omega
  have e := carried m c (before t) hp
  rw [outsAt0_B m c t (by omega) h1]
  dsimp only
  rw [last_out]
  have e1 : (outsAt0 m c (t.val - 1) (Nat.lt_of_le_of_lt (Nat.sub_le _ _) t.isLt)).2.1 = rowsOf m c (before t) := congrArg Prod.fst e
  have e2 : (outsAt0 m c (t.val - 1) (Nat.lt_of_le_of_lt (Nat.sub_le _ _) t.isLt)).2.2.1 = scaledOf m c (before t) := congrArg (·.2.1) e
  have e3 : (outsAt0 m c (t.val - 1) (Nat.lt_of_le_of_lt (Nat.sub_le _ _) t.isLt)).2.2.2 = _ := congrArg (·.2.2) e
  dsimp only at e3
  rw [e1, e2, e3]
  show rowsOf m c (before t) (ix2 r j) + _ = _
  refine (congrArg₂ (· + ·) ((rowsOf_apply m c (before t) r j).trans (by rw [rowAt_before t h1])) (added m c t (before t) (rowAt_before t h1) _ r j)).trans ?_
  rw [added m c (before t) (before t) (fun _ => rfl), start_apply, zero_add, rowAt_before t h1]
  unfold result
  rw [sum_halves]
  refine congrArg (_ + ·) (congrArg₂ (· + ·) (Finset.sum_congr rfl fun h _ => congrArg _ (Fin.ext ?_)) (Finset.sum_congr rfl fun h _ => congrArg _ (Fin.ext ?_)))
  · show (t.val - 1) % 2 * 1408 + h.val = h.val
    have : (t.val - 1) % 2 = 0 := hp
    omega
  · show t.val % 2 * 1408 + h.val = 1408 + h.val
    omega

/-! ## The whole array -/

/-- Where an entry of a block of rows sits. -/
def rowPlace (t : Fin cfg0.N) (y : S512x1024.Idx) : S32768x1024.Idx := ix2 (rowAt t (y (0 : Fin 2))) (y (1 : Fin 2))

theorem row_point (t : Fin cfg0.N) (h1 : t.val % 2 = 1) (y : S512x1024.Idx) :
    (outsAt0 m c t.val t.isLt).1 y = result (aX m c) (aA m c) (aB m c) (aO m c) (aN m c) (aG m c) (aU m c) (aD m c) (rowPlace t y) := by
  have e : y = ix2 (y (0 : Fin 2)) (y (1 : Fin 2)) := idx2_same (a := 512) (b := 1024) rfl rfl
  exact (congrArg (outsAt0 m c t.val t.isLt).1 e).trans (written m c t h1 (y (0 : Fin 2)) (y (1 : Fin 2)))

theorem array : (dats m 0 c).arrAt 8 cfg0.N = result (aX m c) (aA m c) (aB m c) (aO m c) (aN m c) (aG m c) (aU m c) (aD m c) :=
  (dats m 0 c).arrAt_eq_of_covers 8 _ (by decide +kernel) fun t hf y =>
    (congrFun (after0_8 m c t) y).trans ((row_point m c t ((flush0_8 t).mp hf) y).trans
      (congrArg (result (aX m c) (aA m c) (aB m c) (aO m c) (aN m c) (aG m c) (aU m c) (aD m c))
        (emb_same (cfg0.win 8) t rfl _ (index8 t) y (rowPlace t y) (Fin.forall_fin_two.mpr ⟨rfl, Nat.zero_add _⟩)).symm))

theorem run_value (ρ : Dev nD → PrngReg) : θ_run defs (onTc (τ := τ) (main (F := Ideal))) ⟨m, fun _ => 0, ρ⟩ fun r => ∀ c : Dev nD,
      r.2.mem ((c.tc : Thread nD τ).loc main_v5) = result (aX m c) (aA m c) (aB m c) (aO m c) (aN m c) (aG m c) (aU m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨(hr c).1.trans (array m c), (hr c).2⟩) (Value.run_blocks m ρ)

end Cert.Kernel4Ideal.Ffn

end
-- ==== Proof.Ffn.Ref.lean ====
/- What the reference of the feed-forward gives over the extended reals, and the equation with the kernel. -/
module

public import proofs.«01_k».proof.Defs
public import proofs.«01_k».proof.Proof.Gen.Reference4Ideal.Run
public import proofs.«01_k».proof.Proof.Ffn.Value
public import Idealize.ShloMosaic.Lib.Pointwise

@[expose] public section

set_option maxRecDepth 16384

noncomputable section

namespace Cert.Reference4Ideal.Ffn

open Cert.Reference4Ideal Cert.Reference4Ideal.Gen Cert.Reference4Ideal.Value
open Idealize.ShloMosaic Idealize.ShloMosaic.TcCoe Idealize.SL.Sem Idealize.ShloMosaic.StableHlo
open Cert.Proof.Rows
open Cert.KernelIdeal.Experts (act)
open Cert.Kernel4Ideal.Ffn (mixed term scaled share result)
open scoped BigOperators

variable (X : FVec Ideal S32768x1024 .f32) (A B : FVec Ideal S32768x512 .bf16) (Wo : FVec Ideal S1024x1024 .f32) (g : FVec Ideal S1024 .f32)
  (Wg Wu : FVec Ideal S1024x2816 .f32) (Wd : FVec Ideal S2816x1024 .f32)

/-- The two attention outputs side by side, -/
abbrev both : FVec Ideal S32768x1024 .f32 :=
  concatenate S32768x1024 1 [⟨S32768x512, extf .f32 A bitsLt_bf16_f32⟩, ⟨S32768x512, extf .f32 B bitsLt_bf16_f32⟩] concatenates_S32768x512_S32768x512_S32768x1024_d1

theorem both_first (r : Fin 32768) (k : Fin 512) : both A B (ix2 r (⟨k.val, by omega⟩ : Fin 1024)) = A (ix2 r k) := by
  have hk : k.val < 512 := k.isLt
  pointwise
theorem both_second (r : Fin 32768) (k : Fin 512) : both A B (ix2 r (⟨512 + k.val, by omega⟩ : Fin 1024)) = B (ix2 r k) := by
  have hk : ¬512 + k.val < 512 := by omega
  pointwise

/-- the rows after their projection, -/
abbrev rows : FVec Ideal S32768x1024 .f32 :=
  addf X (Host.dotGeneral dot_S32768x1024_S1024x1024_S32768x1024_1_0_0_1_n_n none (both A B) Wo)

/-- a row scaled by the inverse root of its mean square and weighted, -/
abbrev weighted (H : FVec Ideal S32768x1024 .f32) : FVec Ideal S32768x1024 .f32 :=
  mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- a product with the gate or up weights, -/
abbrev wide (Y : FVec Ideal S32768x1024 .f32) (W : FVec Ideal S1024x2816 .f32) : FVec Ideal S32768x2816 .f32 :=
  Host.dotGeneral dot_S32768x1024_S1024x2816_S32768x2816_1_0_0_1_n_n none Y W

/-- and the gated columns against the down weights. -/
abbrev gated (Z U : FVec Ideal S32768x2816 .f32) : FVec Ideal S32768x1024 .f32 :=
  Host.dotGeneral dot_S32768x2816_S2816x1024_S32768x1024_1_0_0_1_n_n none
    (mulf (mulf Z (Host.divf (broadcastInDim S32768x2816 ![] bcast_S_S32768x2816 (constant S_ .f32 0x3F800000#32))
      (addf (broadcastInDim S32768x2816 ![] bcast_S_S32768x2816 (constant S_ .f32 0x3F800000#32)) (Host.exp (Host.negf Z))))) U) Wd

theorem rows_dot (C : FVec Ideal S32768x1024 .f32) (r : Fin 32768) (j : Fin 1024) :
    Host.dotGeneral (F := Ideal) (φ₁ := .f32) (φ₂ := .f32) dot_S32768x1024_S1024x1024_S32768x1024_1_0_0_1_n_n none C Wo (ix2 r j)
      = ∑ d : Fin 1024, C (ix2 r d) * Wo (ix2 d j) := by
  pointwise [dot_S32768x1024_S1024x1024_S32768x1024_1_0_0_1_n_n]

theorem rows_apply (r : Fin 32768) (j : Fin 1024) : rows X A B Wo (ix2 r j) = Kernel4Ideal.Ffn.hidden X A B Wo r j := by
  refine (congrArg (X (ix2 r j) + ·) ((rows_dot Wo (both A B) r j).trans (Fin.sum_univ_add (a := 512) (b := 512) _))).trans ?_
  unfold Kernel4Ideal.Ffn.hidden mixed
  refine (add_assoc _ _ _).symm.trans ?_
  exact congrArg₂ (· + ·) (congrArg (X (ix2 r j) + ·) (Finset.sum_congr rfl fun k _ => congrArg (· * Wo (ix2 (⟨k.val, by omega⟩ : Fin 1024) j)) (both_first A B r k)))
    (Finset.sum_congr rfl fun k _ => congrArg (· * Wo (ix2 (⟨512 + k.val, by omega⟩ : Fin 1024) j)) (both_second A B r k))

theorem weighted_apply (H : FVec Ideal S32768x1024 .f32) (r : Fin 32768) (d : Fin 1024) :
    weighted g H (ix2 r d) = normed (fun d => H (ix2 r d)) (fun d => g (ix1 d)) d := by
  unfold normed
  pointwise
  rfl

theorem wide_apply (Y : FVec Ideal S32768x1024 .f32) (W : FVec Ideal S1024x2816 .f32) (r : Fin 32768) (h : Fin 2816) :
    wide Y W (ix2 r h) = ∑ d : Fin 1024, Y (ix2 r d) * W (ix2 d h) := by
  pointwise [dot_S32768x1024_S1024x2816_S32768x2816_1_0_0_1_n_n]

theorem gated_apply (Z U : FVec Ideal S32768x2816 .f32) (r : Fin 32768) (j : Fin 1024) :
    gated Wd Z U (ix2 r j) = ∑ h : Fin 2816, act (Z (ix2 r h)) * U (ix2 r h) * Wd (ix2 h j) := by
  unfold act
  pointwise [dot_S32768x2816_S2816x1024_S32768x1024_1_0_0_1_n_n]
  rfl

/-- The reference's result is the projected row plus its feed-forward. -/
theorem total_apply (r : Fin 32768) (j : Fin 1024) :
    (addf (rows X A B Wo) (gated Wd (wide (weighted g (rows X A B Wo)) Wg) (wide (weighted g (rows X A B Wo)) Wu)) : FVec Ideal S32768x1024 .f32) (ix2 r j)
      = result X A B Wo g Wg Wu Wd (ix2 r j) := by
  have ey (d : Fin 1024) : weighted g (rows X A B Wo) (ix2 r d) = scaled X A B Wo g r d :=
    (weighted_apply g _ r d).trans (congrArg (fun f => normed f _ d) (funext fun d => rows_apply X A B Wo r d))
  have ew (W : FVec Ideal S1024x2816 .f32) (h : Fin 2816) : wide (weighted g (rows X A B Wo)) W (ix2 r h) = ∑ d : Fin 1024, scaled X A B Wo g r d * W (ix2 d h) :=
    (wide_apply _ W r h).trans (Finset.sum_congr rfl fun d _ => congrArg (· * W (ix2 d h)) (ey d))
  refine congrArg₂ (· + ·) (rows_apply X A B Wo r j) ((gated_apply Wd _ _ r j).trans (Finset.sum_congr rfl fun h _ => ?_))
  unfold share term
  exact congrArg (· * Wd (ix2 h j)) (congrArg₂ (· * ·) (congrArg act (ew Wg h)) (ew Wu h))

variable (m : (ℓ : Loc nD τ sig) → Buf (Elt Ideal) ℓ) (ρ : Dev nD → PrngReg)

/-- The result from a device's arguments. -/
abbrev total (c : Dev nD) : S32768x1024.Idx → EReal :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem read (c : Dev nD) : res_main_v23 m c = total m c := by
  funext k
  have e : k = (ix2 (k (0 : Fin 2)) (k (1 : Fin 2)) : S32768x1024.Idx) := Cert.Proof.Index.idx2_same (a := 32768) (b := 1024) rfl rfl
  have h := total_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (k (0 : Fin 2)) (k (1 : Fin 2))
  exact (congrArg (res_main_v23 m c) e).trans (h.trans (congrArg (total m c) e).symm)

theorem run_value : θ_run defs (onTc (τ := τ) (main (F := Ideal))) ⟨m, fun _ => 0, ρ⟩ fun r => ∀ c : Dev nD,
      r.2.mem ((c.tc : Thread nD τ).loc main_v23) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨(hr c).1.trans (read m c), (hr c).2⟩) (Value.run m ρ)

end Cert.Reference4Ideal.Ffn

namespace Cert.Proof.Ffn

open Idealize.ShloMosaic Idealize.SL.Sem

/-- The equation of the output projection and feed-forward. -/
theorem equation_ffn : Cert.algebraic_Kernel4Ideal_Reference4Ideal (hKernel4Ideal := Cert.Kernel4Ideal.Gen.facts)
    (hReference4Ideal := Cert.Reference4Ideal.Gen.facts) := by
  intro m g m' g' hpre hargs
  refine ⟨_, Cert.Kernel4Ideal.Ffn.run_value m g, ?_⟩
  refine (θ_run Cert.Reference4Ideal.defs _ _).mono (fun r hr c => ?_) (Cert.Reference4Ideal.Ffn.run_value m' g')
  obtain ⟨e0, e1, e2, e3, e4, e5, e6, e7⟩ := hargs c
  have h := hr c
  unfold Cert.Reference4Ideal.Ffn.total at h
  rw [e0, e1, e2, e3, e4, e5, e6, e7] at h
  refine ⟨h.1, ?_⟩
  rw [e0, e1, e2, e3, e4, e5, e6, e7]
  exact h.2

end Cert.Proof.Ffn

end
-- ==== Proof.Ffn.Residual.lean ====
/- The second layer's output projection: what its kernel leaves, what its reference computes, and their equation. -/
module

public import proofs.«01_k».proof.Defs
public import proofs.«01_k».proof.Proof.Gen.Kernel5Ideal.Value
public import proofs.«01_k».proof.Proof.Gen.Reference5Ideal.Run
public import proofs.«01_k».proof.Proof.Ffn.Ref

@[expose] public section

set_option maxRecDepth 16384

noncomputable section

namespace Cert.Kernel5Ideal.Ffn

open Cert.Kernel5Ideal Cert.Kernel5Ideal.Gen Cert.Proof.Index
open Cert.Kernel4Ideal.Ffn (mixed hidden hz)
open Idealize.ShloMosaic Idealize.ShloMosaic.TcCoe
open Idealize.SL.Sem
open Idealize.ShloMosaic.Pipeline (Dat Window)
open scoped BigOperators

/-! ## The body -/

theorem mixed_apply (x : Vec Ideal S512x1024 .f32) (a : Vec Ideal S512x512 .bf16) (wt : Vec Ideal S512x1024 .bf16) (b : Vec Ideal S512x512 .bf16)
    (wb : Vec Ideal S512x1024 .bf16) (r : Fin 512) (j : Fin 1024) :
    k0_pay1 x a wt b wb (ix2 r j)
      = x (ix2 r j) + ∑ k : Fin 512, a (ix2 r k) * wt (ix2 k j) + ∑ k : Fin 512, b (ix2 r k) * wb (ix2 k j) :=
  Cert.Kernel4Ideal.Ffn.mixed_apply x a wt b wb r j

/-- The stored block, from the blocks that the body reads. -/
theorem out_apply (x : Vec Ideal S512x1024 .f32) (a b : Vec Ideal S512x512 .bf16) (w : Vec Ideal S1024x1024 .bf16) (r : Fin 512) (j : Fin 1024) :
    out0_4 x a b w (ix2 r j) = mixed (x (ix2 r j)) (fun k => a (ix2 r k)) (fun k => b (ix2 r k)) (fun d => w (ix2 d j)) := by
  unfold out0_4
  rw [View.canon_unit_zero hz, View.ld_unit_zero (S := S512x1024) hz, View.ld_unit_zero (S := S512x512) hz, View.ld_unit_zero (S := S512x512) hz]
  refine (mixed_apply _ _ _ _ _ r j).trans ?_
  unfold mixed
  exact congrArg₂ (· + ·) (congrArg (x (ix2 r j) + ·) (Finset.sum_congr rfl fun k _ => congrArg (a (ix2 r k) * ·)
      (congrArg w (idx2_same (a := 1024) (b := 1024) (by show 0 + 1 * k.val = k.val; omega) (by show 0 + 1 * j.val = j.val; omega)))))
    (Finset.sum_congr rfl fun k _ => congrArg (b (ix2 r k) * ·)
      (congrArg w (idx2_same (a := 1024) (b := 1024) (by show 512 + 1 * k.val = 512 + k.val; omega) (by show 0 + 1 * j.val = j.val; omega))))

/-! ## The array -/

/-- The result: each row after the projection. -/
def result (X : S32768x1024.Idx → EReal) (A B : S32768x512.Idx → EReal) (W : S1024x1024.Idx → EReal) (k : S32768x1024.Idx) : EReal :=
  hidden X A B W (k 0) (k 1)

variable (m : (ℓ : Loc nD τ sig) → Buf (Elt Ideal) ℓ) (c : Dev nD)

abbrev aX : S32768x1024.Idx → EReal := m ((c : Thread nD τ).loc main_arg0)
abbrev aA : S32768x512.Idx → EReal := m ((c : Thread nD τ).loc main_arg1)
abbrev aB : S32768x512.Idx → EReal := m ((c : Thread nD τ).loc main_arg2)
abbrev aW : S1024x1024.Idx → EReal := m ((c : Thread nD τ).loc main_arg3)

theorem V_weights (y : S1024x1024.Idx) : V m c main_v0 y = aW m c y := by
  entry_read; rfl

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

theorem lt64 (t : Fin cfg0.N) : t.val < 64 := lt_of_lt_of_eq t.isLt (by decide)

/-- The row of the arrays that a block's row is. -/
def rowAt (t : Fin cfg0.N) (r : Fin 512) : Fin 32768 := ⟨t.val * 512 + r.val, by have := lt64 t; omega⟩

section Reads
variable (t : Fin cfg0.N)

theorem read_rows (r : Fin 512) (d : Fin 1024) : iblk m c 0 t (ix2 r d) = aX m c (ix2 (rowAt t r) d) := by
  unfold iblk
  refine Eq.trans ?_ (congrFun (V_main_arg0 m c) _)
  exact congrArg (V m c main_arg0) (emb_same (cfg0.win 0) t rfl _ (index0 t) (ix2 r d) (ix2 (rowAt t r) d) (Fin.forall_fin_two.mpr ⟨rfl, Nat.zero_add _⟩))
theorem read_first (r : Fin 512) (k : Fin 512) : iblk m c 1 t (ix2 r k) = aA m c (ix2 (rowAt t r) k) := by
  unfold iblk
  refine Eq.trans ?_ (congrFun (V_main_arg1 m c) _)
  exact congrArg (V m c main_arg1) (emb_same (cfg0.win 1) t rfl _ (index1 t) (ix2 r k) (ix2 (rowAt t r) k) (Fin.forall_fin_two.mpr ⟨rfl, Nat.zero_add _⟩))
theorem read_second (r : Fin 512) (k : Fin 512) : iblk m c 2 t (ix2 r k) = aB m c (ix2 (rowAt t r) k) := by
  unfold iblk
  refine Eq.trans ?_ (congrFun (V_main_arg2 m c) _)
  exact congrArg (V m c main_arg2) (emb_same (cfg0.win 2) t rfl _ (index2 t) (ix2 r k) (ix2 (rowAt t r) k) (Fin.forall_fin_two.mpr ⟨rfl, Nat.zero_add _⟩))
theorem read_weights (d j : Fin 1024) : iblk m c 3 t (ix2 d j) = aW m c (ix2 d j) := by
  unfold iblk
  refine Eq.trans ?_ (V_weights m c _)
  exact congrArg (V m c main_v0) (emb_same (cfg0.win 3) t rfl _ (index3 t) (ix2 d j) (ix2 d j) (Fin.forall_fin_two.mpr ⟨Nat.zero_add _, Nat.zero_add _⟩))

theorem point_apply (r : Fin 512) (j : Fin 1024) :
    (dats m 0 c).after 4 t (ix2 r j) = result (aX m c) (aA m c) (aB m c) (aW m c) (ix2 (rowAt t r) j) := by
  refine (congrFun (after0_4 m c t) _).trans ((out_apply _ _ _ _ r j).trans ?_)
  show _ = hidden _ _ _ _ (rowAt t r) j
  unfold Kernel4Ideal.Ffn.hidden
  exact congr (congr (congrArg₂ mixed (read_rows m c t r j) (funext fun k => read_first m c t r k)) (funext fun k => read_second m c t r k))
    (funext fun d => read_weights m c t d j)

/-- Where an entry of a block of rows sits. -/
def rowPlace (y : S512x1024.Idx) : S32768x1024.Idx := ix2 (rowAt t (y (0 : Fin 2))) (y (1 : Fin 2))

theorem row_point (y : S512x1024.Idx) : (dats m 0 c).after 4 t y = result (aX m c) (aA m c) (aB m c) (aW m c) (rowPlace t y) := by
  have e : y = ix2 (y (0 : Fin 2)) (y (1 : Fin 2)) := idx2_same (a := 512) (b := 1024) rfl rfl
  exact (congrArg ((dats m 0 c).after 4 t) e).trans (point_apply m c t (y (0 : Fin 2)) (y (1 : Fin 2)))
end Reads

theorem array : (dats m 0 c).arrAt 4 cfg0.N = result (aX m c) (aA m c) (aB m c) (aW m c) :=
  (dats m 0 c).arrAt_eq_of_covers 4 _ (by decide +kernel) fun t _ y => (row_point m c t y).trans
    (congrArg (result (aX m c) (aA m c) (aB m c) (aW m c))
      (emb_same (cfg0.win 4) t rfl _ (index4 t) y (rowPlace t y) (Fin.forall_fin_two.mpr ⟨rfl, Nat.zero_add _⟩)).symm)

theorem run_value (ρ : Dev nD → PrngReg) : θ_run defs (onTc (τ := τ) (main (F := Ideal))) ⟨m, fun _ => 0, ρ⟩ fun r => ∀ c : Dev nD,
      r.2.mem ((c.tc : Thread nD τ).loc main_v1) = result (aX m c) (aA m c) (aB m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => ⟨(hr c).1.trans (array m c), (hr c).2⟩) (Value.run_blocks m ρ)

end Cert.Kernel5Ideal.Ffn

namespace Cert.Reference5Ideal.Ffn

open Cert.Reference5Ideal Cert.Reference5Ideal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result from a device's arguments. -/
abbrev total (c : Dev nD) : S32768x1024.Idx → EReal :=
  Cert.Kernel5Ideal.Ffn.result (m ((c.tc : Thread nD τ).loc main_arg0)) (m ((c.tc : Thread nD τ).loc main_arg1)) (m ((c.tc : Thread nD τ).loc main_arg2)) (m ((c.tc : Thread nD τ).loc main_arg3))

/-- The rows after their projection, as in the first layer. -/
theorem rows_eq (X : FVec Ideal S32768x1024 .f32) (A B : FVec Ideal S32768x512 .bf16) (W : FVec Ideal S1024x1024 .f32) :
    Cert.Reference4Ideal.Ffn.rows X A B W = Cert.Kernel5Ideal.Ffn.result X A B W := by
  funext k
  have e : k = (ix2 (k (0 : Fin 2)) (k (1 : Fin 2)) : S32768x1024.Idx) := Cert.Proof.Index.idx2_same (a := 32768) (b := 1024) rfl rfl
  exact (congrArg (Cert.Reference4Ideal.Ffn.rows X A B W) e).trans (Cert.Reference4Ideal.Ffn.rows_apply X A B W (k (0 : Fin 2)) (k (1 : Fin 2)))

theorem run_value : θ_run defs (onTc (τ := τ) (main (F := Ideal))) ⟨m, fun _ => 0, ρ⟩ fun r => ∀ c : Dev nD,
      r.2.mem ((c.tc : Thread nD τ).loc main_v4) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => ⟨(hr c).1.trans (rows_eq _ _ _ _), (hr c).2⟩) (Value.run m ρ)

end Cert.Reference5Ideal.Ffn

namespace Cert.Proof.Ffn

open Idealize.ShloMosaic Idealize.SL.Sem

/-- The equation of the second layer's output projection. -/
theorem equation_residual : Cert.algebraic_Kernel5Ideal_Reference5Ideal (hKernel5Ideal := Cert.Kernel5Ideal.Gen.facts)
    (hReference5Ideal := Cert.Reference5Ideal.Gen.facts) := by
  intro m g m' g' hpre hargs
  refine ⟨_, Cert.Kernel5Ideal.Ffn.run_value m g, ?_⟩
  refine (θ_run Cert.Reference5Ideal.defs _ _).mono (fun r hr c => ?_) (Cert.Reference5Ideal.Ffn.run_value m' g')
  obtain ⟨e0, e1, e2, e3⟩ := hargs c
  have h := hr c
  unfold Cert.Reference5Ideal.Ffn.total at h
  rw [e0, e1, e2, e3] at h
  refine ⟨h.1, ?_⟩
  rw [e0, e1, e2, e3]
  exact h.2

end Cert.Proof.Ffn

end
-- ==== Proof.Shift.Body.lean ====
/- The second layer's input projection and token shift over the extended reals: what the kernel's body leaves in the buffers it stores. -/
module

public import proofs.«01_k».proof.Proof.Gen.Kernel6Ideal.Value
public import proofs.«01_k».proof.Proof.Rows.Common
public import proofs.«01_k».proof.Proof.Rows.Index

@[expose] public section

set_option maxRecDepth 16384

noncomputable section

namespace Cert.Kernel6Ideal.Shift

open Cert.Kernel6Ideal Cert.Kernel6Ideal.Gen Cert.Proof.Rows Cert.Proof.Index
open Idealize.ShloMosaic Idealize.ShloMosaic.TcCoe
open scoped BigOperators

/-! ## The body's values -/

theorem normed_apply (x : Vec Ideal S512x1024 .f32) (g : Vec Ideal S1x1024 .f32) (r : Fin 512) (d : Fin 1024) :
    k0_pay6 x g (ix2 r d) = normed (fun d => x (ix2 r d)) (fun d => g (ix2 0 d)) d := by
  unfold k0_pay6 normed scale
  pointwise

/-- The normed last row. -/
theorem last_apply (x : Vec Ideal S512x1024 .f32) (g : Vec Ideal S1x1024 .f32) (d : Fin 1024) :
    k0_pay7 x g (ix3 0 0 d) = normed (fun d => x (ix2 511 d)) (fun d => g (ix2 0 d)) d := by
  refine Eq.trans ?_ (normed_apply x g 511 d)
  unfold k0_pay7
  generalize k0_pay6 x g = y
  pointwise

/-- The normed rows against a block of 512 columns, -/
theorem plain_apply (x : Vec Ideal S512x1024 .f32) (g : Vec Ideal S1x1024 .f32) (b : Vec Ideal S1024x512 .bf16) (r q : Fin 512) :
    k0_pay12 (k0_pay8 x g) b (ix2 r q) = product (fun d => x (ix2 r d)) (fun d => g (ix2 0 d)) (fun d => b (ix2 d q)) := by
  unfold product
  refine Eq.trans ?_ (Finset.sum_congr rfl fun d _ => congrArg (· * b (ix2 d q)) (normed_apply x g r d))
  unfold k0_pay12 k0_pay8
  generalize k0_pay6 x g = y
  pointwise [dot_S512x1024_S1024x512_S512x512_1_0_0_1_n_n]

/-- and against all the shifted columns. -/
theorem wide_apply (x : Vec Ideal S512x1024 .f32) (g : Vec Ideal S1x1024 .f32) (b : Vec Ideal S1024x1792 .bf16) (r : Fin 512) (p : Fin 1792) :
    k0_pay13 (k0_pay8 x g) b (ix2 r p) = product (fun d => x (ix2 r d)) (fun d => g (ix2 0 d)) (fun d => b (ix2 d p)) := by
  unfold product
  refine Eq.trans ?_ (Finset.sum_congr rfl fun d _ => congrArg (· * b (ix2 d p)) (normed_apply x g r d))
  unfold k0_pay13 k0_pay8
  generalize k0_pay6 x g = y
  pointwise [dot_S512x1024_S1024x1792_S512x1792_1_0_0_1_n_n]

/-- What is carried over: the last row's products, -/
theorem carry_apply (y : FVec Ideal S512x1024 .bf16) (b : Vec Ideal S1024x1792 .bf16) (p : Fin 1792) :
    k0_pay15 y b (ix2 0 p) = k0_pay13 y b (ix2 511 p) := by
  unfold k0_pay15
  generalize k0_pay13 y b = z
  pointwise

/-- or nothing, at a prompt's start. -/
theorem start_apply (y : S1x1792.Idx) : k0_pay14 (F := Ideal) y = 0 := by
  unfold k0_pay14
  pointwise

/-- The first row's difference is taken from what was carried over, -/
theorem first_apply (y : FVec Ideal S512x1024 .bf16) (b : Vec Ideal S1024x1792 .bf16) (v : Vec Ideal S1x1792 .f32) (p : Fin 1792) :
    k0_pay16 y b v (ix2 0 p) = v (ix2 0 p) - k0_pay13 y b (ix2 0 p) := by
  unfold k0_pay16
  generalize k0_pay13 y b = z
  pointwise

/-- every other row's from the row above it. -/
theorem other_apply (y : FVec Ideal S512x1024 .bf16) (b : Vec Ideal S1024x1792 .bf16) (v : Vec Ideal S1x1792 .f32) (r : Fin 512) (hr : r.val ≠ 0) (p : Fin 1792) :
    k0_pay16 y b v (ix2 r p) = k0_pay13 y b (ix2 ⟨r.val - 1, by omega⟩ p) - k0_pay13 y b (ix2 r p) := by
  unfold k0_pay16
  generalize k0_pay13 y b = z
  have h : IntOp.cmpi CmpIPredicate.eq (BitVec.ofNat 32 r.val) 0#32 = 0#1 := by
    have h' : ∀ r : Fin 512, r.val ≠ 0 → IntOp.cmpi CmpIPredicate.eq (BitVec.ofNat 32 r.val) 0#32 = 0#1 := by decide +kernel
    exact h' r hr
  have hi : (⟨(r.val + 512 - 1) % 512, by omega⟩ : Fin 512) = ⟨r.val - 1, by omega⟩ := Fin.ext (by dsimp only; omega)
  pointwise
  rw [h, hi]
  rfl

/-- A row moved towards the row above it by the weights. -/
theorem moved_apply (z d : FVec Ideal S512x1792 .f32) (w : Vec Ideal S1x1792 .f32) (r : Fin 512) (p : Fin 1792) :
    k0_pay1 z d w (ix2 r p) = z (ix2 r p) + d (ix2 r p) * w (ix2 0 p) := by
  unfold k0_pay1
  pointwise

/-- Four consecutive blocks of columns of the moved rows. -/
theorem received_apply (z d : FVec Ideal S512x1792 .f32) (w : Vec Ideal S1x1792 .f32) (r q : Fin 512) :
    k0_pay2 z d w (ix2 r q) = k0_pay1 z d w (ix2 r ⟨q.val, by omega⟩) := by
  unfold k0_pay2
  generalize k0_pay1 z d w = y
  pointwise

theorem keyed_apply (z d : FVec Ideal S512x1792 .f32) (w : Vec Ideal S1x1792 .f32) (r q : Fin 512) :
    k0_pay3 z d w (ix2 r q) = k0_pay1 z d w (ix2 r ⟨512 + q.val, by omega⟩) := by
  unfold k0_pay3
  generalize k0_pay1 z d w = y
  pointwise

theorem valued_apply (z d : FVec Ideal S512x1792 .f32) (w : Vec Ideal S1x1792 .f32) (r q : Fin 512) :
    k0_pay4 z d w (ix2 r q) = k0_pay1 z d w (ix2 r ⟨1024 + q.val, by omega⟩) := by
  unfold k0_pay4
  generalize k0_pay1 z d w = y
  pointwise

theorem low_apply (z d : FVec Ideal S512x1792 .f32) (w : Vec Ideal S1x1792 .f32) (r : Fin 512) (q : Fin 256) :
    k0_pay5 z d w (ix2 r q) = k0_pay1 z d w (ix2 r ⟨1536 + q.val, by omega⟩) := by
  unfold k0_pay5
  generalize k0_pay1 z d w = y
  pointwise

/-! ## What a point leaves -/

theorem hz : (![0, 0] : Fin 2 → Nat) = fun _ => 0 := funext fun a => by fin_cases a <;> rfl
theorem hz3 : (![0, 0, 0] : Fin 3 → Nat) = fun _ => 0 := funext fun a => by fin_cases a <;> rfl

section Leaves
variable (x : Vec Ideal S512x1024 .f32) (g : Vec Ideal S1x1024 .f32) (w : Vec Ideal S1024x3840 .bf16) (u v : Vec Ideal S1x1792 .f32)

/-- The columns that are shifted. -/
abbrev wide : Vec Ideal S1024x1792 .bf16 := View.ld w (Rect.unit (s := S1024x3840) ![0, 2048] S1024x1792.size inb_S1024x3840_S1024x1792_0_2048)
abbrev rows : FVec Ideal S512x1024 .bf16 := k0_pay8 x g
abbrev here : FVec Ideal S512x1792 .f32 := k0_pay13 (rows x g) (wide w)
abbrev change : FVec Ideal S512x1792 .f32 := k0_pay16 (rows x g) (wide w) v

/-- What a point leaves in its nine results' buffers and in the carried row, from its blocks and the carried row `v` it starts from. -/
def leaves : Vec Ideal S512x512 .f32 × Vec Ideal S512x512 .f32 × Vec Ideal S512x512 .f32 × Vec Ideal S512x512 .f32 × Vec Ideal S512x512 .f32 ×
    Vec Ideal S512x512 .f32 × Vec Ideal S512x512 .f32 × Vec Ideal S512x256 .f32 × Vec Ideal S1x1x1024 .f32 × Vec Ideal S1x1792 .f32 :=
  (k0_pay12 (rows x g) (View.ld w (Rect.unit (s := S1024x3840) ![0, 0] S1024x512.size inb_S1024x3840_S1024x512_0_0)),
    k0_pay12 (rows x g) (View.ld w (Rect.unit (s := S1024x3840) ![0, 512] S1024x512.size inb_S1024x3840_S1024x512_0_512)),
    k0_pay12 (rows x g) (View.ld w (Rect.unit (s := S1024x3840) ![0, 1024] S1024x512.size inb_S1024x3840_S1024x512_0_1024)),
    k0_pay12 (rows x g) (View.ld w (Rect.unit (s := S1024x3840) ![0, 1536] S1024x512.size inb_S1024x3840_S1024x512_0_1536)),
    k0_pay2 (here x g w) (change x g w v) u, k0_pay3 (here x g w) (change x g w v) u, k0_pay4 (here x g w) (change x g w v) u,
    k0_pay5 (here x g w) (change x g w v) u, k0_pay7 x g, k0_pay15 (rows x g) (wide w))
end Leaves

variable (m : (ℓ : Loc nD τ sig) → Buf (Elt Ideal) ℓ) (c : Dev nD)

theorem leaves_first (t : Fin cfg0.N) (h0 : t.val % 4 = 0) :
    outsAt0 m c t.val t.isLt = leaves (iblk m c 0 t) (iblk m c 1 t) (iblk m c 2 t) (iblk m c 3 t) (k0_pay14 (F := Ideal)) := by
  rw [outsAt0_A m c t h0]
  unfold leaves out0_A_4 out0_A_5 out0_A_6 out0_A_7 out0_A_8 out0_A_9 out0_A_10 out0_A_11 out0_A_12 sout0_A_0
  simp only [View.read_writes_eq_canon, cover0_A_4, cover0_A_5, cover0_A_6, cover0_A_7, cover0_A_8, cover0_A_9, cover0_A_10, cover0_A_11, cover0_A_12,
    scover0_A_0, implies_true]
  unfold kernelRun0_A
  dsimp only
  sl_unfold_words
  simp only [View.canon_unit_zero (S := S512x512) hz, View.canon_unit_zero (S := S512x256) hz, View.canon_unit_zero (S := S1x1x1024) hz3,
    View.canon_cons_unit_zero (S := S1x1792) hz, View.readCov_unit_zero (S := S1x1792) _ hz, View.readAt_eq_ld, (hs0_0 t).read_unread, (hs0_1 t).read_unread,
    (hs0_2 t).read_unread, (hs0_3 t).read_unread, View.ld_unit_zero (S := S512x1024) hz, View.ld_unit_zero (S := S1x1024) hz,
    View.ld_unit_zero (S := S1x1792) hz]
  rfl

theorem leaves_next (t : Fin cfg0.N) (h0 : ¬t.val % 4 = 0) :
    outsAt0 m c t.val t.isLt = leaves (iblk m c 0 t) (iblk m c 1 t) (iblk m c 2 t) (iblk m c 3 t)
      (outsAt0 m c (t.val - 1) (Nat.lt_of_le_of_lt (Nat.sub_le _ _) t.isLt)).2.2.2.2.2.2.2.2.2 := by
  rw [outsAt0_B m c t h0]
  generalize (outsAt0 m c (t.val - 1) (Nat.lt_of_le_of_lt (Nat.sub_le _ _) t.isLt)).2.2.2.2.2.2.2.2.2 = v
  unfold leaves out0_B_4 out0_B_5 out0_B_6 out0_B_7 out0_B_8 out0_B_9 out0_B_10 out0_B_11 out0_B_12 sout0_B_0
  simp only [View.read_writes_eq_canon, cover0_B_4, cover0_B_5, cover0_B_6, cover0_B_7, cover0_B_8, cover0_B_9, cover0_B_10, cover0_B_11, cover0_B_12,
    scover0_B_0, implies_true]
  unfold kernelRun0_B
  dsimp only
  sl_unfold_words
  simp only [View.canon_unit_zero (S := S512x512) hz, View.canon_unit_zero (S := S512x256) hz, View.canon_unit_zero (S := S1x1x1024) hz3,
    View.canon_unit_zero (S := S1x1792) hz, (Memref.isWhole_whole cc0_scratch0).read_unread, View.readAt_eq_ld, (hs0_0 t).read_unread, (hs0_1 t).read_unread,
    (hs0_2 t).read_unread, (hs0_3 t).read_unread, View.ld_unit_zero (S := S512x1024) hz, View.ld_unit_zero (S := S1x1024) hz,
    View.ld_unit_zero (S := S1x1792) hz]
  rfl

end Cert.Kernel6Ideal.Shift

end
-- ==== Proof.Shift.Host.lean ====
/- The second layer's projection weights and mixing weights as the kernel reads them: the caller's, their blocks of columns reordered and padded. -/
module

public import proofs.«01_k».proof.Proof.Gen.Kernel6Ideal.Value
public import proofs.«01_k».proof.Proof.Rows.Index

@[expose] public section

set_option maxRecDepth 16384

noncomputable section

namespace Cert.Kernel6Ideal.Shift

open Cert.Kernel6Ideal Cert.Kernel6Ideal.Gen Cert.Proof.Index
open Idealize.ShloMosaic Idealize.ShloMosaic.TcCoe Idealize.ShloMosaic.StableHlo
open Idealize.SL.Sem

/-- The weights with their blocks of columns reordered, zeros last. -/
abbrev joined (W : FVec Ideal S1024x3744 .f32) : FVec Ideal S1024x3840 .f32 :=
  concatenate S1024x3840 1 [⟨S1024x2048, extractStridedSlice S1024x2048 ![0, 0] W slices_S1024x3744_S1024x2048_0_0⟩,
    ⟨S1024x512, extractStridedSlice S1024x512 ![0, 2048] W slices_S1024x3744_S1024x512_0_2048⟩,
    ⟨S1024x512, extractStridedSlice S1024x512 ![0, 2592] W slices_S1024x3744_S1024x512_0_2592⟩,
    ⟨S1024x512, extractStridedSlice S1024x512 ![0, 3104] W slices_S1024x3744_S1024x512_0_3104⟩,
    ⟨S1024x32, extractStridedSlice S1024x32 ![0, 2560] W slices_S1024x3744_S1024x32_0_2560⟩,
    ⟨S1024x128, extractStridedSlice S1024x128 ![0, 3616] W slices_S1024x3744_S1024x128_0_3616⟩,
    ⟨S1024x96, broadcastInDim S1024x96 ![] bcast_S_S1024x96 (constant S_ .f32 0x00000000#32)⟩]
    concatenates_S1024x2048_S1024x512_S1024x512_S1024x512_S1024x32_S1024x128_S1024x96_S1024x3840_d1

/-- The mixing weights in the same order. -/
abbrev mixing (M : FVec Ideal S1696 .f32) : FVec Ideal S1792 .f32 :=
  concatenate S1792 0 [⟨S512, extractStridedSlice S512 ![0] M slices_S1696_S512_0⟩, ⟨S512, extractStridedSlice S512 ![544] M slices_S1696_S512_544⟩,
    ⟨S512, extractStridedSlice S512 ![1056] M slices_S1696_S512_1056⟩, ⟨S32, extractStridedSlice S32 ![512] M slices_S1696_S32_512⟩,
    ⟨S128, extractStridedSlice S128 ![1568] M slices_S1696_S128_1568⟩, ⟨S96, broadcastInDim S96 ![] bcast_S_S96 (constant S_ .f32 0x00000000#32)⟩]
    concatenates_S512_S512_S512_S32_S128_S96_S1792_d0

/-- The shifted columns in the kernel's order: the caller's are the receptance's, the decay's, the keys', the values' and the rest;
the kernel's have the decay's after the values', and zeros last. -/
def placed (f : Fin 1696 → EReal) (p : Fin 1792) : EReal :=
  if h : p.val < 512 then f ⟨p.val, by omega⟩
  else if h : p.val - 512 < 512 then f ⟨544 + (p.val - 512), by omega⟩
  else if h : p.val - 512 - 512 < 512 then f ⟨1056 + (p.val - 512 - 512), by omega⟩
  else if h : p.val - 512 - 512 - 512 < 32 then f ⟨512 + (p.val - 512 - 512 - 512), by omega⟩
  else if h : p.val - 512 - 512 - 512 - 32 < 128 then f ⟨1568 + (p.val - 512 - 512 - 512 - 32), by omega⟩
  else 0

/-- What a line of host operations leaves in an operation's result, when nothing after it writes the result or what it reads:
the operation's value at what the line leaves. -/
theorem left_by (op : HloOp τ sig (Elt Ideal)) (y : Ref sig .tc) (g : Valuation τ sig (Elt Ideal) → y.ty.Contents (Elt Ideal)) (hg : ∀ σ, op.result σ y = g σ)
    (post : List (HloOp τ sig (Elt Ideal))) (h : ∀ op ∈ post, (y : DevRef τ sig) ∉ op.writes) (hx : ∀ σ, g (after (op :: post) σ) = g σ) :
    ∀ (pre : List (HloOp τ sig (Elt Ideal))) (σ : Valuation τ sig (Elt Ideal)), after (pre ++ op :: post) σ y = g (after (pre ++ op :: post) σ)
  | [], σ => ((after_of_forall_not_mem post _ h).trans (hg σ)).trans (hx σ).symm
  | o :: pre, σ => left_by op y g hg post h hx pre (o.result σ)

variable (m : (ℓ : Loc nD τ sig) → Buf (Elt Ideal) ℓ) (c : Dev nD)

/-- The factors' array is the caller's pieces side by side, -/
theorem V_mixing_parts : V m c main_v14 = concatenate S1792 0 [⟨S512, (V m c main_v8 : FVec Ideal S512 .f32)⟩, ⟨S512, (V m c main_v9 : FVec Ideal S512 .f32)⟩,
    ⟨S512, (V m c main_v10 : FVec Ideal S512 .f32)⟩, ⟨S32, (V m c main_v11 : FVec Ideal S32 .f32)⟩, ⟨S128, (V m c main_v12 : FVec Ideal S128 .f32)⟩,
    ⟨S96, (V m c main_v13 : FVec Ideal S96 .f32)⟩] concatenates_S512_S512_S512_S32_S128_S96_S1792_d0 := by
  refine left_by _ main_v14 _ (nary_result _ _ _ _ _) (hostOps0.drop 17) (List.forall_iff_forall_mem.mp ?_)
    (fun σ => congrArg _ (funext fun k => after_of_forall_not_mem _ σ (List.forall_iff_forall_mem.mp ?_))) (hostOps0.take 16) (fun b => m (c, b))
  all_goals
    simp only [List.drop, List.Forall, unary_writes, nary_writes, reshape_writes, nullary_writes, Finset.mem_singleton]
    repeat' apply And.intro
    all_goals exact devRef_ne_of_ne (by first | decide | (revert k; decide))

/-- and so is the weights'. -/
theorem V_joined_parts : V m c main_v7 = concatenate S1024x3840 1 [⟨S1024x2048, (V m c main_v0 : FVec Ideal S1024x2048 .f32)⟩,
    ⟨S1024x512, (V m c main_v1 : FVec Ideal S1024x512 .f32)⟩, ⟨S1024x512, (V m c main_v2 : FVec Ideal S1024x512 .f32)⟩,
    ⟨S1024x512, (V m c main_v3 : FVec Ideal S1024x512 .f32)⟩, ⟨S1024x32, (V m c main_v4 : FVec Ideal S1024x32 .f32)⟩,
    ⟨S1024x128, (V m c main_v5 : FVec Ideal S1024x128 .f32)⟩, ⟨S1024x96, (V m c main_v6 : FVec Ideal S1024x96 .f32)⟩]
    concatenates_S1024x2048_S1024x512_S1024x512_S1024x512_S1024x32_S1024x128_S1024x96_S1024x3840_d1 := by
  refine left_by _ main_v7 _ (nary_result _ _ _ _ _) (hostOps0.drop 9) (List.forall_iff_forall_mem.mp ?_)
    (fun σ => congrArg _ (funext fun k => after_of_forall_not_mem _ σ (List.forall_iff_forall_mem.mp ?_))) (hostOps0.take 8) (fun b => m (c, b))
  all_goals
    simp only [List.drop, List.Forall, unary_writes, nary_writes, reshape_writes, nullary_writes, Finset.mem_singleton]
    repeat' apply And.intro
    all_goals exact devRef_ne_of_ne (by first | decide | (revert k; decide))

theorem V_mixing : V m c main_v14 = mixing (m ((c : Thread nD τ).loc main_arg3)) := by
  have e8 : V m c main_v8 = extractStridedSlice S512 ![0] (m ((c : Thread nD τ).loc main_arg3)) slices_S1696_S512_0 := by entry_read; rfl
  have e9 : V m c main_v9 = extractStridedSlice S512 ![544] (m ((c : Thread nD τ).loc main_arg3)) slices_S1696_S512_544 := by entry_read; rfl
  have e10 : V m c main_v10 = extractStridedSlice S512 ![1056] (m ((c : Thread nD τ).loc main_arg3)) slices_S1696_S512_1056 := by entry_read; rfl
  have e11 : V m c main_v11 = extractStridedSlice S32 ![512] (m ((c : Thread nD τ).loc main_arg3)) slices_S1696_S32_512 := by entry_read; rfl
  have e12 : V m c main_v12 = extractStridedSlice S128 ![1568] (m ((c : Thread nD τ).loc main_arg3)) slices_S1696_S128_1568 := by entry_read; rfl
  have e13 : V m c main_v13 = (broadcastInDim S96 ![] bcast_S_S96 (constant S_ .f32 0x00000000#32) : FVec Ideal S96 .f32) := by entry_read; rfl
  rw [V_mixing_parts, e8, e9, e10, e11, e12, e13]

theorem V_joined : V m c main_v7 = joined (m ((c : Thread nD τ).loc main_arg2)) := by
  have e0 : V m c main_v0 = extractStridedSlice S1024x2048 ![0, 0] (m ((c : Thread nD τ).loc main_arg2)) slices_S1024x3744_S1024x2048_0_0 := by entry_read; rfl
  have e1 : V m c main_v1 = extractStridedSlice S1024x512 ![0, 2048] (m ((c : Thread nD τ).loc main_arg2)) slices_S1024x3744_S1024x512_0_2048 := by entry_read; rfl
  have e2 : V m c main_v2 = extractStridedSlice S1024x512 ![0, 2592] (m ((c : Thread nD τ).loc main_arg2)) slices_S1024x3744_S1024x512_0_2592 := by entry_read; rfl
  have e3 : V m c main_v3 = extractStridedSlice S1024x512 ![0, 3104] (m ((c : Thread nD τ).loc main_arg2)) slices_S1024x3744_S1024x512_0_3104 := by entry_read; rfl
  have e4 : V m c main_v4 = extractStridedSlice S1024x32 ![0, 2560] (m ((c : Thread nD τ).loc main_arg2)) slices_S1024x3744_S1024x32_0_2560 := by entry_read; rfl
  have e5 : V m c main_v5 = extractStridedSlice S1024x128 ![0, 3616] (m ((c : Thread nD τ).loc main_arg2)) slices_S1024x3744_S1024x128_0_3616 := by entry_read; rfl
  have e6 : V m c main_v6 = (broadcastInDim S1024x96 ![] bcast_S_S1024x96 (constant S_ .f32 0x00000000#32) : FVec Ideal S1024x96 .f32) := by entry_read; rfl
  rw [V_joined_parts, e0, e1, e2, e3, e4, e5, e6]

/-- The weights and the mixing weights as the kernel's windows read them. -/
theorem V_rounded : V m c main_v16 = (truncf .bf16 (V m c main_v7 : FVec Ideal S1024x3840 .f32) bitsLt_bf16_f32 : FVec Ideal S1024x3840 .bf16) := by
  refine left_by _ main_v16 _ (unary_result _ _ _ _ _) (hostOps0.drop 19) (List.forall_iff_forall_mem.mp ?_)
    (fun σ => congrArg _ (after_of_forall_not_mem _ σ (List.forall_iff_forall_mem.mp ?_))) (hostOps0.take 18) (fun b => m (c, b))
  all_goals
    simp only [List.drop, List.Forall, unary_writes, nary_writes, reshape_writes, nullary_writes, Finset.mem_singleton]
    repeat' apply And.intro
    all_goals exact devRef_ne_of_ne (by decide)

theorem V_row : V m c main_v17 = shapeCast S1x1792 (V m c main_v14 : FVec Ideal S1792 .f32) shapeCasts_S1792_S1x1792 := by
  refine left_by _ main_v17 (fun σ => shapeCast S1x1792 (σ main_v14 : FVec Ideal S1792 .f32) shapeCasts_S1792_S1x1792) (reshape_result _ _ _ _ _ _) (hostOps0.drop 20)
    (List.forall_iff_forall_mem.mp ?_) (fun σ => congrArg (fun v : FVec Ideal S1792 .f32 => shapeCast S1x1792 v shapeCasts_S1792_S1x1792)
      (after_of_forall_not_mem _ σ (List.forall_iff_forall_mem.mp ?_))) (hostOps0.take 19) (fun b => m (c, b))
  all_goals
    simp only [List.drop, List.Forall, unary_writes, nary_writes, reshape_writes, nullary_writes, Finset.mem_singleton]
    all_goals exact devRef_ne_of_ne (by decide)

theorem mixing_apply (M : FVec Ideal S1696 .f32) (p : Fin 1792) : mixing M (ix1 p) = placed (fun s => M (ix1 s)) p := by
  unfold placed
  pointwise

theorem joined_apply (W : FVec Ideal S1024x3744 .f32) (d : Fin 1024) (p : Fin 3840) : joined W (ix2 d p)
    = if h : p.val < 2048 then W (ix2 d ⟨p.val, by omega⟩) else placed (fun s => W (ix2 d ⟨2048 + s.val, by omega⟩)) ⟨p.val - 2048, by omega⟩ := by
  unfold placed
  pointwise
  split_ifs <;> first | rfl | exact congrArg (fun s => W (ix2 d s)) (Fin.ext (by dsimp only; omega))

/-- The first columns are the caller's own, -/
theorem joined_plain (W : FVec Ideal S1024x3744 .f32) (d : Fin 1024) (p : Fin 3840) (h : p.val < 2048) : joined W (ix2 d p) = W (ix2 d ⟨p.val, by omega⟩) :=
  (joined_apply W d p).trans (dif_pos h)

/-- and the others the shifted ones, in the kernel's order. -/
theorem joined_shifted (W : FVec Ideal S1024x3744 .f32) (d : Fin 1024) (p : Fin 1792) :
    joined W (ix2 d ⟨2048 + p.val, by omega⟩) = placed (fun s => W (ix2 d ⟨2048 + s.val, by omega⟩)) p :=
  ((joined_apply W d _).trans (dif_neg (by dsimp only; omega))).trans (congrArg (placed _) (Fin.ext (by dsimp only; omega)))

end Cert.Kernel6Ideal.Shift

end
-- ==== Proof.Shift.Value.lean ====
/- The second layer's input projection over the extended reals: the kernel's result arrays, from its arguments. -/
module

public import proofs.«01_k».proof.Proof.Shift.Body
public import proofs.«01_k».proof.Proof.Shift.Host

@[expose] public section

set_option maxRecDepth 16384

noncomputable section

namespace Cert.Kernel6Ideal.Shift

open Cert.Kernel6Ideal Cert.Kernel6Ideal.Gen Cert.Proof.Rows Cert.Proof.Index
open Idealize.ShloMosaic Idealize.ShloMosaic.TcCoe
open Idealize.SL.Sem
open Idealize.ShloMosaic.Pipeline (Dat Window)
open scoped BigOperators

/-! ## The results as functions of the arguments -/

section Result
variable (X : S32768x1024.Idx → EReal) (G : S1024.Idx → EReal) (W : S1024x3744.Idx → EReal) (M : S1696.Idx → EReal)

/-- A normed row against a column, -/
def against (w : Fin 1024 → EReal) (R : Fin 32768) : EReal := product (fun d => X (ix2 R d)) (fun d => G (ix1 d)) w
/-- and the row above it, nothing for a sequence's first row. -/
def above (w : Fin 1024 → EReal) (R : Fin 32768) : EReal := if R.val % 2048 = 0 then 0 else against X G w ⟨R.val - 1, by omega⟩
/-- A row's product moved towards the product of the row above it. -/
def toward (w : Fin 1024 → EReal) (μ : EReal) (R : Fin 32768) : EReal := against X G w R + (above X G w R - against X G w R) * μ

/-- A shifted column of the kernel's, its mixing weight, and the moved products. -/
def shiftedColumn (p : Fin 1792) (d : Fin 1024) : EReal := placed (fun s => W (ix2 d ⟨2048 + s.val, by omega⟩)) p
def moved (p : Fin 1792) (R : Fin 32768) : EReal := toward X G (shiftedColumn W p) (placed (fun s => M (ix1 s)) p) R

/-- Part `j` of the four plain parts, -/
def plain (j : Fin 4) (k : S32768x512.Idx) : EReal := against X G (fun d => W (ix2 d ⟨512 * j.val + (k 1).val, by have := (k 1).isLt; show _ < 3744; have h : (k 1).val < 512 := (k 1).isLt; omega⟩)) (k 0)
/-- part `j` of the three shifted ones, -/
def part (j : Fin 3) (k : S32768x512.Idx) : EReal := moved X G W M ⟨512 * j.val + (k 1).val, by have h : (k 1).val < 512 := (k 1).isLt; omega⟩ (k 0)
/-- the shifted columns that are left, -/
def low (k : S32768x256.Idx) : EReal := moved X G W M ⟨1536 + (k 1).val, by have h : (k 1).val < 256 := (k 1).isLt; omega⟩ (k 0)
/-- and each sequence's last row, normed. -/
def final (k : S16x1x1024.Idx) : EReal :=
  normed (fun d => X (ix2 ⟨(k 0).val * 2048 + 2047, by have h : (k 0).val < 16 := (k 0).isLt; omega⟩ d)) (fun d => G (ix1 d)) (k 2)
end Result

/-! ## The blocks that a point reads -/

variable (m : (ℓ : Loc nD τ sig) → Buf (Elt Ideal) ℓ) (c : Dev nD)

abbrev aX : S32768x1024.Idx → EReal := m ((c : Thread nD τ).loc main_arg0)
abbrev aG : FVec Ideal S1024 .f32 := m ((c : Thread nD τ).loc main_arg1)
abbrev aW : FVec Ideal S1024x3744 .f32 := m ((c : Thread nD τ).loc main_arg2)
abbrev aM : FVec Ideal S1696 .f32 := m ((c : Thread nD τ).loc main_arg3)

theorem V_gain (d : Fin 1024) : V m c main_v15 (ix2 0 d) = aG m c (ix1 d) := by
  entry_read
  show shapeCast S1x1024 (aG m c) shapeCasts_S1024_S1x1024 (ix2 0 d) = _
  pointwise
theorem V_mix (p : Fin 1792) : V m c main_v17 (ix2 0 p) = placed (fun s => aM m c (ix1 s)) p := by
  refine Eq.trans ?_ (mixing_apply (aM m c) p)
  rw [V_row, V_mixing]
  generalize mixing (m ((c : Thread nD τ).loc main_arg3)) = v
  pointwise
theorem V_weights (y : S1024x3840.Idx) : V m c main_v16 y = joined (aW m c) y := by
  rw [V_rounded, V_joined]
  rfl

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel

theorem lt64 (t : Fin cfg0.N) : t.val < 64 := lt_of_lt_of_eq t.isLt (by decide)

/-- The row of the arrays that a block's row is. -/
def rowAt (t : Fin cfg0.N) (r : Fin 512) : Fin 32768 := ⟨t.val * 512 + r.val, by have := lt64 t; omega⟩

section Reads
variable (t : Fin cfg0.N)

theorem read_rows (r : Fin 512) (d : Fin 1024) : iblk m c 0 t (ix2 r d) = aX m c (ix2 (rowAt t r) d) := by
  unfold iblk
  refine Eq.trans ?_ (congrFun (V_main_arg0 m c) _)
  exact congrArg (V m c main_arg0) (emb_same (cfg0.win 0) t rfl _ (index0 t) (ix2 r d) (ix2 (rowAt t r) d) (Fin.forall_fin_two.mpr ⟨rfl, Nat.zero_add _⟩))
theorem read_gain (d : Fin 1024) : iblk m c 1 t (ix2 0 d) = aG m c (ix1 d) := by
  unfold iblk
  refine Eq.trans ?_ (V_gain m c _)
  exact congrArg (V m c main_v15) (emb_same (cfg0.win 1) t rfl _ (index1 t) (ix2 0 d) (ix2 0 d) (Fin.forall_fin_two.mpr ⟨Nat.zero_add _, Nat.zero_add _⟩))
theorem read_weights (d : Fin 1024) (p : Fin 3840) : iblk m c 2 t (ix2 d p) = joined (aW m c) (ix2 d p) := by
  unfold iblk
  refine Eq.trans ?_ (V_weights m c _)
  exact congrArg (V m c main_v16) (emb_same (cfg0.win 2) t rfl _ (index2 t) (ix2 d p) (ix2 d p) (Fin.forall_fin_two.mpr ⟨Nat.zero_add _, Nat.zero_add _⟩))
theorem read_mix (p : Fin 1792) : iblk m c 3 t (ix2 0 p) = placed (fun s => aM m c (ix1 s)) p := by
  unfold iblk
  refine Eq.trans ?_ (V_mix m c _)
  exact congrArg (V m c main_v17) (emb_same (cfg0.win 3) t rfl _ (index3 t) (ix2 0 p) (ix2 0 p) (Fin.forall_fin_two.mpr ⟨Nat.zero_add _, Nat.zero_add _⟩))

/-- A column of a block of the weights, in the whole. -/
theorem column_read (o n : ℕ) (inb : ∀ a, (![0, o] : Fin 2 → ℕ) a + (![1024, n] : Fin 2 → ℕ) a ≤ S1024x3840.size a) (d : Fin 1024) (q : Fin n) (h : o + q.val < 3840) :
    View.ld (iblk m c 2 t) (Rect.unit (s := S1024x3840) ![0, o] ![1024, n] inb) (ix2 d q) = joined (aW m c) (ix2 d ⟨o + q.val, h⟩) :=
  (congrArg (iblk m c 2 t) (idx2_same (a := 1024) (b := 3840) (by show 0 + 1 * d.val = d.val; omega) (by show o + 1 * q.val = o + q.val; omega))).trans
    (read_weights m c t d ⟨o + q.val, h⟩)

/-! ## What a point computes -/

/-- The products of a point's rows with the shifted columns, -/
abbrev hereOf : FVec Ideal S512x1792 .f32 := here (iblk m c 0 t) (iblk m c 1 t) (iblk m c 2 t)

theorem hereOf_apply (r : Fin 512) (p : Fin 1792) : hereOf m c t (ix2 r p) = against (aX m c) (aG m c) (shiftedColumn (aW m c) p) (rowAt t r) := by
  refine (wide_apply _ _ _ r p).trans ?_
  unfold against
  exact congr (congr (congrArg product (funext fun d => read_rows m c t r d)) (funext fun d => read_gain m c t d))
    (funext fun d => (column_read m c t 2048 1792 inb_S1024x3840_S1024x1792_0_2048 d p (by omega)).trans (joined_shifted (aW m c) d p))

theorem plain_block (j : Fin 4) (o : ℕ) (ho : o = 512 * j.val) (inb : ∀ a, (![0, o] : Fin 2 → ℕ) a + S1024x512.size a ≤ S1024x3840.size a) (r q : Fin 512) :
    k0_pay12 (rows (iblk m c 0 t) (iblk m c 1 t)) (View.ld (iblk m c 2 t) (Rect.unit (s := S1024x3840) ![0, o] S1024x512.size inb)) (ix2 r q)
      = plain (aX m c) (aG m c) (aW m c) j (ix2 (rowAt t r) q) := by
  subst ho
  refine (plain_apply _ _ _ r q).trans ?_
  unfold plain against
  exact congr (congr (congrArg product (funext fun d => read_rows m c t r d)) (funext fun d => read_gain m c t d))
    (funext fun d => (column_read m c t (512 * j.val) 512 inb d q (by omega)).trans (joined_plain (aW m c) d _ (by dsimp only; omega)))

/-- What every point leaves carried over: the products of its last row. -/
theorem carried (p : Fin 1792) : (outsAt0 m c t.val t.isLt).2.2.2.2.2.2.2.2.2 (ix2 0 p)
    = against (aX m c) (aG m c) (shiftedColumn (aW m c) p) (rowAt t 511) := by
  refine Eq.trans ?_ (hereOf_apply m c t 511 p)
  by_cases h0 : t.val % 4 = 0
  · rw [leaves_first m c t h0]
    exact carry_apply _ _ p
  · rw [leaves_next m c t h0]
    exact carry_apply _ _ p

/-- A point starts from the products of the row above its first, or from nothing at a sequence's start. -/
theorem point : ∃ v : Vec Ideal S1x1792 .f32, outsAt0 m c t.val t.isLt = leaves (iblk m c 0 t) (iblk m c 1 t) (iblk m c 2 t) (iblk m c 3 t) v
    ∧ ∀ p, v (ix2 0 p) = above (aX m c) (aG m c) (shiftedColumn (aW m c) p) (rowAt t 0) := by
  by_cases h0 : t.val % 4 = 0
  · refine ⟨_, leaves_first m c t h0, fun p => ?_⟩
    unfold above
    rw [if_pos (show (rowAt t 0).val % 2048 = 0 from (by omega : (t.val * 512 + 0) % 2048 = 0))]
    exact start_apply _
  · refine ⟨_, leaves_next m c t h0, fun p => ?_⟩
    unfold above
    rw [if_neg (show ¬(rowAt t 0).val % 2048 = 0 from (by omega : ¬(t.val * 512 + 0) % 2048 = 0))]
    refine (carried m c ⟨t.val - 1, Nat.lt_of_le_of_lt (Nat.sub_le _ _) t.isLt⟩ p).trans (congrArg _ (Fin.ext ?_))
    show (t.val - 1) * 512 + 511 = t.val * 512 + 0 - 1
    omega

/-- The moved products of a point's rows. -/
theorem moved_block (v : Vec Ideal S1x1792 .f32) (hv : ∀ p, v (ix2 0 p) = above (aX m c) (aG m c) (shiftedColumn (aW m c) p) (rowAt t 0)) (r : Fin 512) (p : Fin 1792) :
    k0_pay1 (hereOf m c t) (change (iblk m c 0 t) (iblk m c 1 t) (iblk m c 2 t) v) (iblk m c 3 t) (ix2 r p)
      = moved (aX m c) (aG m c) (aW m c) (aM m c) p (rowAt t r) := by
  have hd : change (iblk m c 0 t) (iblk m c 1 t) (iblk m c 2 t) v (ix2 r p)
      = above (aX m c) (aG m c) (shiftedColumn (aW m c) p) (rowAt t r) - against (aX m c) (aG m c) (shiftedColumn (aW m c) p) (rowAt t r) := by
    by_cases hr : r.val = 0
    · obtain rfl : r = 0 := Fin.ext hr
      exact (first_apply _ _ v p).trans (congrArg₂ (· - ·) (hv p) (hereOf_apply m c t 0 p))
    · refine (other_apply _ _ v r hr p).trans (congrArg₂ (· - ·) ((hereOf_apply m c t _ p).trans ?_) (hereOf_apply m c t r p))
      unfold above
      rw [if_neg (show ¬(rowAt t r).val % 2048 = 0 from (by omega : ¬(t.val * 512 + r.val) % 2048 = 0))]
      exact congrArg _ (Fin.ext (by show t.val * 512 + (r.val - 1) = t.val * 512 + r.val - 1; omega))
  refine (moved_apply _ _ _ r p).trans ?_
  unfold moved toward
  exact congrArg₂ (· + ·) (hereOf_apply m c t r p) (congrArg₂ (· * ·) hd (read_mix m c t p))

/-! ## The result arrays -/

/-- Where an entry of a block of rows sits, -/
def rowPlace (y : S512x512.Idx) : S32768x512.Idx := ix2 (rowAt t (y (0 : Fin 2))) (y (1 : Fin 2))
def lowPlace (y : S512x256.Idx) : S32768x256.Idx := ix2 (rowAt t (y (0 : Fin 2))) (y (1 : Fin 2))
/-- and an entry of a last row. -/
def lastPlace (y : S1x1x1024.Idx) : S16x1x1024.Idx := ix3 (⟨t.val / 4, by have := lt64 t; omega⟩ : Fin 16) 0 (y (2 : Fin 3))

theorem row_point (v : S512x512.Idx → EReal) (G : S32768x512.Idx → EReal) (h : ∀ r q, v (ix2 r q) = G (ix2 (rowAt t r) q)) (y : S512x512.Idx) : v y = G (rowPlace t y) := by
  have e : y = ix2 (y (0 : Fin 2)) (y (1 : Fin 2)) := idx2_same (a := 512) (b := 512) rfl rfl
  exact (congrArg v e).trans (h (y (0 : Fin 2)) (y (1 : Fin 2)))
theorem low_point (v : S512x256.Idx → EReal) (G : S32768x256.Idx → EReal) (h : ∀ r q, v (ix2 r q) = G (ix2 (rowAt t r) q)) (y : S512x256.Idx) : v y = G (lowPlace t y) := by
  have e : y = ix2 (y (0 : Fin 2)) (y (1 : Fin 2)) := idx2_same (a := 512) (b := 256) rfl rfl
  exact (congrArg v e).trans (h (y (0 : Fin 2)) (y (1 : Fin 2)))
theorem last_point (h3 : t.val % 4 = 3) (y : S1x1x1024.Idx) :
    k0_pay7 (iblk m c 0 t) (iblk m c 1 t) y = final (aX m c) (aG m c) (lastPlace t y) := by
  have hy0 : (y 0).val = 0 := by have : (y 0).val < 1 := (y 0).isLt; omega
  have hy1 : (y 1).val = 0 := by have : (y 1).val < 1 := (y 1).isLt; omega
  have e : y = ix3 0 0 (y (2 : Fin 3)) := idx3_same (a := 1) (b := 1) (c := 1024) hy0 hy1 rfl
  refine (congrArg _ e).trans ((last_apply _ _ (y (2 : Fin 3))).trans ?_)
  unfold final
  refine congr (congrArg₂ normed (funext fun d => (read_rows m c t 511 d).trans (congrArg (aX m c) ?_)) (funext fun d => read_gain m c t d)) rfl
  exact idx2_same (a := 32768) (b := 1024) (by show t.val * 512 + 511 = t.val / 4 * 2048 + 2047; omega) rfl

/-- Each result's block at a point. -/
theorem parts : (∀ y, (outsAt0 m c t.val t.isLt).1 y = plain (aX m c) (aG m c) (aW m c) 0 (rowPlace t y))
    ∧ (∀ y, (outsAt0 m c t.val t.isLt).2.1 y = plain (aX m c) (aG m c) (aW m c) 1 (rowPlace t y))
    ∧ (∀ y, (outsAt0 m c t.val t.isLt).2.2.1 y = plain (aX m c) (aG m c) (aW m c) 2 (rowPlace t y))
    ∧ (∀ y, (outsAt0 m c t.val t.isLt).2.2.2.1 y = plain (aX m c) (aG m c) (aW m c) 3 (rowPlace t y))
    ∧ (∀ y, (outsAt0 m c t.val t.isLt).2.2.2.2.1 y = part (aX m c) (aG m c) (aW m c) (aM m c) 0 (rowPlace t y))
    ∧ (∀ y, (outsAt0 m c t.val t.isLt).2.2.2.2.2.1 y = part (aX m c) (aG m c) (aW m c) (aM m c) 1 (rowPlace t y))
    ∧ (∀ y, (outsAt0 m c t.val t.isLt).2.2.2.2.2.2.1 y = part (aX m c) (aG m c) (aW m c) (aM m c) 2 (rowPlace t y))
    ∧ (∀ y, (outsAt0 m c t.val t.isLt).2.2.2.2.2.2.2.1 y = low (aX m c) (aG m c) (aW m c) (aM m c) (lowPlace t y))
    ∧ (t.val % 4 = 3 → ∀ y, (outsAt0 m c t.val t.isLt).2.2.2.2.2.2.2.2.1 y = final (aX m c) (aG m c) (lastPlace t y)) := by
  obtain ⟨v, e, hv⟩ := point m c t
  rw [e]
  unfold leaves
  dsimp only
  refine ⟨row_point t _ _ (plain_block m c t 0 0 rfl inb_S1024x3840_S1024x512_0_0), row_point t _ _ (plain_block m c t 1 512 rfl inb_S1024x3840_S1024x512_0_512),
    row_point t _ _ (plain_block m c t 2 1024 rfl inb_S1024x3840_S1024x512_0_1024), row_point t _ _ (plain_block m c t 3 1536 rfl inb_S1024x3840_S1024x512_0_1536),
    row_point t _ _ fun r q => ?_, row_point t _ _ fun r q => ?_, row_point t _ _ fun r q => ?_, low_point t _ _ fun r q => ?_, last_point m c t⟩
  · refine (received_apply _ _ _ r q).trans ((moved_block m c t v hv r _).trans ?_)
    exact congrArg (fun p => moved _ _ _ _ p (rowAt t r)) (Fin.ext (by show q.val = 512 * 0 + q.val; omega))
  · exact (keyed_apply _ _ _ r q).trans (moved_block m c t v hv r _)
  · exact (valued_apply _ _ _ r q).trans (moved_block m c t v hv r _)
  · exact (low_apply _ _ _ r q).trans (moved_block m c t v hv r _)
end Reads

theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val, 0] := by decide +kernel
theorem index11 : ∀ t : Fin grid0.N, win0_11.index t = ![t.val, 0] := by decide +kernel
theorem index12 : ∀ t : Fin grid0.N, win0_12.index t = ![t.val / 4, 0, 0] := by decide +kernel

theorem array4 : (dats m 0 c).arrAt 4 cfg0.N = plain (aX m c) (aG m c) (aW m c) 0 :=
  (dats m 0 c).arrAt_eq_of_covers 4 _ (by decide +kernel) fun t _ y => (congrFun (after0_4 m c t) y).trans (((parts m c t).1 y).trans
    (congrArg (plain (aX m c) (aG m c) (aW m c) 0)
      (emb_same (cfg0.win 4) t rfl _ (index4 t) y (rowPlace t y) (Fin.forall_fin_two.mpr ⟨rfl, Nat.zero_add _⟩)).symm))
theorem array5 : (dats m 0 c).arrAt 5 cfg0.N = plain (aX m c) (aG m c) (aW m c) 1 :=
  (dats m 0 c).arrAt_eq_of_covers 5 _ (by decide +kernel) fun t _ y => (congrFun (after0_5 m c t) y).trans (((parts m c t).2.1 y).trans
    (congrArg (plain (aX m c) (aG m c) (aW m c) 1)
      (emb_same (cfg0.win 5) t rfl _ (index5 t) y (rowPlace t y) (Fin.forall_fin_two.mpr ⟨rfl, Nat.zero_add _⟩)).symm))
theorem array6 : (dats m 0 c).arrAt 6 cfg0.N = plain (aX m c) (aG m c) (aW m c) 2 :=
  (dats m 0 c).arrAt_eq_of_covers 6 _ (by decide +kernel) fun t _ y => (congrFun (after0_6 m c t) y).trans (((parts m c t).2.2.1 y).trans
    (congrArg (plain (aX m c) (aG m c) (aW m c) 2)
      (emb_same (cfg0.win 6) t rfl _ (index6 t) y (rowPlace t y) (Fin.forall_fin_two.mpr ⟨rfl, Nat.zero_add _⟩)).symm))
theorem array7 : (dats m 0 c).arrAt 7 cfg0.N = plain (aX m c) (aG m c) (aW m c) 3 :=
  (dats m 0 c).arrAt_eq_of_covers 7 _ (by decide +kernel) fun t _ y => (congrFun (after0_7 m c t) y).trans (((parts m c t).2.2.2.1 y).trans
    (congrArg (plain (aX m c) (aG m c) (aW m c) 3)
      (emb_same (cfg0.win 7) t rfl _ (index7 t) y (rowPlace t y) (Fin.forall_fin_two.mpr ⟨rfl, Nat.zero_add _⟩)).symm))
theorem array8 : (dats m 0 c).arrAt 8 cfg0.N = part (aX m c) (aG m c) (aW m c) (aM m c) 0 :=
  (dats m 0 c).arrAt_eq_of_covers 8 _ (by decide +kernel) fun t _ y => (congrFun (after0_8 m c t) y).trans (((parts m c t).2.2.2.2.1 y).trans
    (congrArg (part (aX m c) (aG m c) (aW m c) (aM m c) 0)
      (emb_same (cfg0.win 8) t rfl _ (index8 t) y (rowPlace t y) (Fin.forall_fin_two.mpr ⟨rfl, Nat.zero_add _⟩)).symm))
theorem array9 : (dats m 0 c).arrAt 9 cfg0.N = part (aX m c) (aG m c) (aW m c) (aM m c) 1 :=
  (dats m 0 c).arrAt_eq_of_covers 9 _ (by decide +kernel) fun t _ y => (congrFun (after0_9 m c t) y).trans (((parts m c t).2.2.2.2.2.1 y).trans
    (congrArg (part (aX m c) (aG m c) (aW m c) (aM m c) 1)
      (emb_same (cfg0.win 9) t rfl _ (index9 t) y (rowPlace t y) (Fin.forall_fin_two.mpr ⟨rfl, Nat.zero_add _⟩)).symm))
theorem array10 : (dats m 0 c).arrAt 10 cfg0.N = part (aX m c) (aG m c) (aW m c) (aM m c) 2 :=
  (dats m 0 c).arrAt_eq_of_covers 10 _ (by decide +kernel) fun t _ y => (congrFun (after0_10 m c t) y).trans (((parts m c t).2.2.2.2.2.2.1 y).trans
    (congrArg (part (aX m c) (aG m c) (aW m c) (aM m c) 2)
      (emb_same (cfg0.win 10) t rfl _ (index10 t) y (rowPlace t y) (Fin.forall_fin_two.mpr ⟨rfl, Nat.zero_add _⟩)).symm))
theorem array11 : (dats m 0 c).arrAt 11 cfg0.N = low (aX m c) (aG m c) (aW m c) (aM m c) :=
  (dats m 0 c).arrAt_eq_of_covers 11 _ (by decide +kernel) fun t _ y => (congrFun (after0_11 m c t) y).trans (((parts m c t).2.2.2.2.2.2.2.1 y).trans
    (congrArg (low (aX m c) (aG m c) (aW m c) (aM m c))
      (emb_same (cfg0.win 11) t rfl _ (index11 t) y (lowPlace t y) (Fin.forall_fin_two.mpr ⟨rfl, Nat.zero_add _⟩)).symm))

theorem last_place (t : Fin cfg0.N) (y : S1x1x1024.Idx) (a : Fin 3) :
    (![t.val / 4, 0, 0] : Fin 3 → ℕ) a * S1x1x1024.size a + (y a).val = (lastPlace t y a).val := by
  have hy0 : (y 0).val = 0 := by have : (y 0).val < 1 := (y 0).isLt; omega
  have hy1 : (y 1).val = 0 := by have : (y 1).val < 1 := (y 1).isLt; omega
  match a with
  | 0 => show t.val / 4 * 1 + (y 0).val = t.val / 4; omega
  | 1 => show 0 * 1 + (y 1).val = 0; omega
  | 2 => show 0 * 1024 + (y 2).val = (y 2).val; omega

theorem array12 : (dats m 0 c).arrAt 12 cfg0.N = final (aX m c) (aG m c) :=
  (dats m 0 c).arrAt_eq_of_covers 12 _ (by decide +kernel) fun t hf y => (congrFun (after0_12 m c t) y).trans
    (((parts m c t).2.2.2.2.2.2.2.2 ((flush0_12 t).mp hf) y).trans (congrArg (final (aX m c) (aG m c))
      (emb_same (cfg0.win 12) t rfl _ (index12 t) y (lastPlace t y) (last_place t y)).symm))

/-- The kernel's results after its run. -/
theorem run_value (ρ : Dev nD → PrngReg) : θ_run defs (onTc (τ := τ) (main (F := Ideal))) ⟨m, fun _ => 0, ρ⟩ fun r => ∀ c : Dev nD,
      r.2.mem ((c.tc : Thread nD τ).loc main_v18_0) = plain (aX m c) (aG m c) (aW m c) 0
      ∧ r.2.mem ((c.tc : Thread nD τ).loc main_v18_1) = plain (aX m c) (aG m c) (aW m c) 1
      ∧ r.2.mem ((c.tc : Thread nD τ).loc main_v18_2) = plain (aX m c) (aG m c) (aW m c) 2
      ∧ r.2.mem ((c.tc : Thread nD τ).loc main_v18_3) = plain (aX m c) (aG m c) (aW m c) 3
      ∧ r.2.mem ((c.tc : Thread nD τ).loc main_v18_4) = part (aX m c) (aG m c) (aW m c) (aM m c) 0
      ∧ r.2.mem ((c.tc : Thread nD τ).loc main_v18_5) = part (aX m c) (aG m c) (aW m c) (aM m c) 1
      ∧ r.2.mem ((c.tc : Thread nD τ).loc main_v18_6) = part (aX m c) (aG m c) (aW m c) (aM m c) 2
      ∧ r.2.mem ((c.tc : Thread nD τ).loc main_v18_7) = low (aX m c) (aG m c) (aW m c) (aM m c)
      ∧ r.2.mem ((c.tc : Thread nD τ).loc main_v18_8) = final (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    obtain ⟨h4, h5, h6, h7, h8, h9, h10, h11, h12, hargs⟩ := hr c
    exact ⟨h4.trans (array4 m c), h5.trans (array5 m c), h6.trans (array6 m c), h7.trans (array7 m c), h8.trans (array8 m c), h9.trans (array9 m c),
      h10.trans (array10 m c), h11.trans (array11 m c), h12.trans (array12 m c), hargs⟩) (Value.run_blocks m ρ)

end Cert.Kernel6Ideal.Shift

end
-- ==== Proof.Shift.Ref.lean ====
/- The second layer's input projection: what its reference computes, and that its kernel gives the same. -/
module

public import proofs.«01_k».proof.Defs
public import proofs.«01_k».proof.Proof.Gen.Reference6Ideal.Run
public import proofs.«01_k».proof.Proof.Rows.PromptArrays
public import proofs.«01_k».proof.Proof.Shift.Value

@[expose] public section

set_option maxRecDepth 16384

noncomputable section

namespace Cert.Reference6Ideal.Shift

open Cert.Reference6Ideal Cert.Reference6Ideal.Gen Cert.Reference6Ideal.Value Cert.Proof.Rows Cert.Proof.Index
open Cert.Kernel3Ideal.Rows (prompt position)
open Cert.Kernel6Ideal.Shift (against above toward shiftedColumn moved plain part low final placed)
open Idealize.ShloMosaic Idealize.ShloMosaic.TcCoe Idealize.ShloMosaic.StableHlo
open Idealize.SL.Sem
open scoped BigOperators

/-! ## The reference's arrays -/

/-- The rows by sequence and position, -/
abbrev sequences (X : FVec Ideal S32768x1024 .f32) : FVec Ideal S16x2048x1024 .f32 := shapeCast S16x2048x1024 X shapeCasts_S32768x1024_S16x2048x1024
/-- scaled and weighted, -/
abbrev weighted (x : FVec Ideal S16x2048x1024 .f32) (g : FVec Ideal S1024 .f32) : FVec Ideal S16x2048x1024 .f32 :=
  (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g)))
/-- under a row of zeros, -/
abbrev padded (y : FVec Ideal S16x2048x1024 .f32) : FVec Ideal S16x2049x1024 .f32 :=
  concatenate S16x2049x1024 1 [⟨S16x1x1024, broadcastInDim S16x1x1024 ![] bcast_S_S16x1x1024 (constant S_ .f32 0x00000000#32)⟩, ⟨S16x2048x1024, y⟩]
    concatenates_S16x1x1024_S16x2048x1024_S16x2049x1024_d1
/-- and against the weights. -/
abbrev all (z : FVec Ideal S16x2049x1024 .f32) (W : FVec Ideal S1024x3744 .f32) : FVec Ideal S16x2049x3744 .f32 :=
  Host.dotGeneral (F := Ideal) (φ₁ := .f32) (φ₂ := .f32) dot_S16x2049x1024_S1024x3744_S16x2049x3744_2_0_01_1_n_n none z W
/-- The shifted columns moved towards the row above. -/
abbrev shifted (a : FVec Ideal S16x2049x3744 .f32) (M : FVec Ideal S1696 .f32) : FVec Ideal S16x2048x1696 .f32 :=
  addf (extractStridedSlice S16x2048x1696 ![0, 1, 2048] a slices_S16x2049x3744_S16x2048x1696_0_1_2048)
    (mulf (subf (extractStridedSlice S16x2048x1696 ![0, 0, 2048] a slices_S16x2049x3744_S16x2048x1696_0_0_2048)
        (extractStridedSlice S16x2048x1696 ![0, 1, 2048] a slices_S16x2049x3744_S16x2048x1696_0_1_2048))
      (broadcastInDim S16x2048x1696 ![0, 1, 2] bcast_S1x1x1696_S16x2048x1696_0_1_2 (broadcastInDim S1x1x1696 ![2] bcast_S1696_S1x1x1696_2 M)))

variable (X : FVec Ideal S32768x1024 .f32) (G : FVec Ideal S1024 .f32) (W : FVec Ideal S1024x3744 .f32) (M : FVec Ideal S1696 .f32)

/-- A sequence's row at a position, among all the rows. -/
def rowOf (b : Fin 16) (p : Fin 2048) : Fin 32768 := ⟨b.val * 2048 + p.val, by omega⟩

theorem rowOf_self (r : Fin 32768) : rowOf (prompt r) (position r) = r := Fin.ext (by show r.val / 2048 * 2048 + r.val % 2048 = r.val; omega)

theorem weighted_apply (b : Fin 16) (p : Fin 2048) (d : Fin 1024) :
    weighted (sequences X) G (ix3 b p d) = normed (fun d => X (ix2 (rowOf b p) d)) (fun d => G (ix1 d)) d := by
  have e (d : Fin 1024) : sequences X (ix3 b p d) = X (ix2 (rowOf b p) d) := by
    unfold rowOf
    pointwise
  rw [← funext e]
  generalize sequences X = x
  unfold normed scale
  pointwise

theorem padded_first (y : FVec Ideal S16x2048x1024 .f32) (b : Fin 16) (d : Fin 1024) : padded y (ix3 b 0 d) = 0 := by
  pointwise
theorem padded_next (y : FVec Ideal S16x2048x1024 .f32) (b : Fin 16) (p : Fin 2048) (d : Fin 1024) : padded y (ix3 b ⟨1 + p.val, by omega⟩ d) = y (ix3 b p d) := by
  have h : ¬1 + p.val < 1 := by omega
  pointwise

theorem all_dot (z : FVec Ideal S16x2049x1024 .f32) (b : Fin 16) (p : Fin 2049) (q : Fin 3744) :
    all z W (ix3 b p q) = ∑ d : Fin 1024, z (ix3 b p d) * W (ix2 d q) := by
  pointwise [dot_S16x2049x1024_S1024x3744_S16x2049x3744_2_0_01_1_n_n]

/-- Every product that the reference takes. -/
abbrev products : FVec Ideal S16x2049x3744 .f32 := all (padded (weighted (sequences X) G)) W

theorem products_next (b : Fin 16) (p : Fin 2048) (q : Fin 3744) :
    products X G W (ix3 b ⟨1 + p.val, by omega⟩ q) = against X G (fun d => W (ix2 d q)) (rowOf b p) := by
  refine (all_dot W _ b _ q).trans ?_
  unfold against product
  exact Finset.sum_congr rfl fun d _ => congrArg (· * W (ix2 d q)) ((padded_next _ b p d).trans (weighted_apply X G b p d))

theorem products_above (b : Fin 16) (p : Fin 2048) (q : Fin 3744) :
    products X G W (ix3 b ⟨p.val, by omega⟩ q) = above X G (fun d => W (ix2 d q)) (rowOf b p) := by
  unfold above
  by_cases h : p.val = 0
  · obtain rfl : p = 0 := Fin.ext h
    rw [if_pos (show (rowOf b 0).val % 2048 = 0 from (by omega : (b.val * 2048 + 0) % 2048 = 0))]
    refine (all_dot W _ b _ q).trans (Finset.sum_eq_zero fun d _ => ?_)
    exact (congrArg (· * W (ix2 d q)) (padded_first _ b d)).trans (zero_mul _)
  · rw [if_neg (show ¬(rowOf b p).val % 2048 = 0 from (by omega : ¬(b.val * 2048 + p.val) % 2048 = 0))]
    have e (a : FVec Ideal S16x2049x3744 .f32) : a (ix3 b ⟨p.val, by omega⟩ q) = a (ix3 b ⟨1 + (p.val - 1), by omega⟩ q) :=
      congrArg (fun r : Fin 2049 => a (ix3 b r q)) (Fin.ext (by dsimp only; omega))
    refine (e _).trans ((products_next X G W b ⟨p.val - 1, by omega⟩ q).trans ?_)
    exact congrArg _ (Fin.ext (by show b.val * 2048 + (p.val - 1) = b.val * 2048 + p.val - 1; omega))

theorem shifted_apply (b : Fin 16) (p : Fin 2048) (s : Fin 1696) :
    shifted (products X G W) M (ix3 b p s) = toward X G (fun d => W (ix2 d ⟨2048 + s.val, by omega⟩)) (M (ix1 s)) (rowOf b p) := by
  unfold toward
  rw [← products_next X G W b p, ← products_above X G W b p]
  generalize products X G W = a
  pointwise

/-! ## The results -/

theorem flat_read (s : FVec Ideal S16x2048x512 .f32) (r : Fin 32768) (q : Fin 512) :
    shapeCast S32768x512 s shapeCasts_S16x2048x512_S32768x512 (ix2 r q) = s (ix3 (prompt r) (position r) q) := by
  unfold prompt position
  pointwise

theorem flat_eq (s : FVec Ideal S16x2048x512 .f32) (F : S32768x512.Idx → EReal) (h : ∀ b p q, s (ix3 b p q) = F (ix2 (rowOf b p) q)) :
    shapeCast S32768x512 s shapeCasts_S16x2048x512_S32768x512 = F :=
  funext fun k => by
    have e : k = (ix2 (k (0 : Fin 2)) (k (1 : Fin 2)) : S32768x512.Idx) := idx2_same (a := 32768) (b := 512) rfl rfl
    refine (congrArg _ e).trans ((flat_read s _ _).trans ((h _ _ _).trans ((congrArg (fun r => F (ix2 r (k (1 : Fin 2)))) (rowOf_self (k (0 : Fin 2)))).trans (congrArg F e.symm))))

/-- A block of the plain columns. -/
theorem plain_eq (o : ℕ) (ho : S16x2048x2048.Slices ![0, 0, o] S16x2048x512) (j : Fin 4) (hj : o = 512 * j.val) (b : Fin 16) (p : Fin 2048) (q : Fin 512) :
    extractStridedSlice S16x2048x512 ![0, 0, o] (extractStridedSlice S16x2048x2048 ![0, 1, 0] (products X G W) slices_S16x2049x3744_S16x2048x2048_0_1_0) ho (ix3 b p q)
      = plain X G W j (ix2 (rowOf b p) q) := by
  subst hj
  unfold plain
  refine Eq.trans ?_ (products_next X G W b p ⟨512 * j.val + q.val, by omega⟩)
  generalize products X G W = a
  pointwise

/-- A moved column of the kernel's is the caller's that was put there, -/
theorem moved_at (k : Fin 1792) (s : Fin 1696) (h : ∀ f : Fin 1696 → EReal, placed f k = f s) (R : Fin 32768) :
    moved X G W M k R = toward X G (fun d => W (ix2 d ⟨2048 + s.val, by omega⟩)) (M (ix1 s)) R := by
  unfold moved
  exact congr (congrArg₂ (toward X G) (funext fun d => h _) (h _)) rfl

/-- and nothing where none was put. -/
theorem moved_none (k : Fin 1792) (h : ∀ f : Fin 1696 → EReal, placed f k = 0) (R : Fin 32768) : moved X G W M k R = 0 := by
  have e : shiftedColumn W k = fun _ => 0 := funext fun d => h _
  have z (R : Fin 32768) : against X G (fun _ => 0) R = 0 := by
    unfold against product
    exact Finset.sum_eq_zero fun d _ => mul_zero _
  unfold moved toward
  rw [e, h, mul_zero, z, add_zero]

/-- A block of the moved columns. -/
theorem part_eq (o : ℕ) (ho : S16x2048x1696.Slices ![0, 0, o] S16x2048x512) (j : Fin 3) (ho' : o + 512 ≤ 1696)
    (hj : ∀ (q : Fin 512) (f : Fin 1696 → EReal), placed f ⟨512 * j.val + q.val, by omega⟩ = f ⟨o + q.val, by omega⟩) (b : Fin 16) (p : Fin 2048) (q : Fin 512) :
    extractStridedSlice S16x2048x512 ![0, 0, o] (shifted (products X G W) M) ho (ix3 b p q) = part X G W M j (ix2 (rowOf b p) q) := by
  unfold part
  refine Eq.trans ?_ ((shifted_apply X G W M b p ⟨o + q.val, by omega⟩).trans (moved_at X G W M _ _ (hj q) (rowOf b p)).symm)
  generalize shifted (products X G W) M = a
  pointwise

/-- The columns that are left, side by side. -/
abbrev rest (a : FVec Ideal S16x2048x1696 .f32) : FVec Ideal S16x2048x256 .f32 :=
  concatenate S16x2048x256 2 [⟨S16x2048x32, extractStridedSlice S16x2048x32 ![0, 0, 512] a slices_S16x2048x1696_S16x2048x32_0_0_512⟩,
    ⟨S16x2048x32, extractStridedSlice S16x2048x32 ![0, 0, 1568] a slices_S16x2048x1696_S16x2048x32_0_0_1568⟩,
    ⟨S16x2048x96, extractStridedSlice S16x2048x96 ![0, 0, 1600] a slices_S16x2048x1696_S16x2048x96_0_0_1600⟩,
    ⟨S16x2048x96, broadcastInDim S16x2048x96 ![] bcast_S_S16x2048x96 (constant S_ .f32 0x00000000#32)⟩]
    concatenates_S16x2048x32_S16x2048x32_S16x2048x96_S16x2048x96_S16x2048x256_d2

/-- Where the kernel's places take the caller's columns from. -/
theorem placed_first (f : Fin 1696 → EReal) (k : Fin 1792) (h : k.val < 512) : placed f k = f ⟨k.val, by omega⟩ := by
  unfold placed
  rw [dif_pos h]
theorem placed_second (f : Fin 1696 → EReal) (k : Fin 1792) (h : 512 ≤ k.val) (h' : k.val < 1024) : placed f k = f ⟨544 + (k.val - 512), by omega⟩ := by
  unfold placed
  rw [dif_neg (by omega), dif_pos (by omega)]
theorem placed_third (f : Fin 1696 → EReal) (k : Fin 1792) (h : 1024 ≤ k.val) (h' : k.val < 1536) : placed f k = f ⟨1056 + (k.val - 1024), by omega⟩ := by
  unfold placed
  rw [dif_neg (by omega), dif_neg (by omega), dif_pos (by omega)]
  exact congrArg f (Fin.ext (by dsimp only; omega))
theorem placed_fourth (f : Fin 1696 → EReal) (k : Fin 1792) (h : 1536 ≤ k.val) (h' : k.val < 1568) : placed f k = f ⟨512 + (k.val - 1536), by omega⟩ := by
  unfold placed
  rw [dif_neg (by omega), dif_neg (by omega), dif_neg (by omega), dif_pos (by omega)]
  exact congrArg f (Fin.ext (by dsimp only; omega))
theorem placed_fifth (f : Fin 1696 → EReal) (k : Fin 1792) (h : 1568 ≤ k.val) (h' : k.val < 1696) : placed f k = f ⟨k.val, h'⟩ := by
  unfold placed
  rw [dif_neg (by omega), dif_neg (by omega), dif_neg (by omega), dif_neg (by omega), dif_pos (by omega)]
  exact congrArg f (Fin.ext (by dsimp only; omega))
theorem placed_last (f : Fin 1696 → EReal) (k : Fin 1792) (h : 1696 ≤ k.val) : placed f k = 0 := by
  unfold placed
  rw [dif_neg (by omega), dif_neg (by omega), dif_neg (by omega), dif_neg (by omega), dif_neg (by omega)]

/-- The same of the reference's columns that are left. -/
theorem rest_first (a : FVec Ideal S16x2048x1696 .f32) (b : Fin 16) (p : Fin 2048) (q : Fin 256) (h : q.val < 32) :
    rest a (ix3 b p q) = a (ix3 b p ⟨512 + q.val, by omega⟩) := by
  pointwise
  rw [dif_pos h]
theorem rest_second (a : FVec Ideal S16x2048x1696 .f32) (b : Fin 16) (p : Fin 2048) (q : Fin 256) (h : 32 ≤ q.val) (h' : q.val < 160) :
    rest a (ix3 b p q) = a (ix3 b p ⟨1536 + q.val, by omega⟩) := by
  have n : ¬q.val < 32 := by omega
  by_cases l : q.val - 32 < 32
  · pointwise
    rw [dif_neg n, dif_pos l]
    exact congrArg (fun s : Fin 1696 => a (ix3 b p s)) (Fin.ext (by dsimp only; omega))
  · have l' : q.val - 32 - 32 < 96 := by omega
    pointwise
    rw [dif_neg n, dif_neg l, dif_pos l']
    exact congrArg (fun s : Fin 1696 => a (ix3 b p s)) (Fin.ext (by dsimp only; omega))
theorem rest_last (a : FVec Ideal S16x2048x1696 .f32) (b : Fin 16) (p : Fin 2048) (q : Fin 256) (h : 160 ≤ q.val) : rest a (ix3 b p q) = 0 := by
  have n : ¬q.val < 32 := by omega
  have n' : ¬q.val - 32 < 32 := by omega
  have n'' : ¬q.val - 32 - 32 < 96 := by omega
  pointwise
  rw [dif_neg n, dif_neg n', dif_neg n'']

theorem low_eq (b : Fin 16) (p : Fin 2048) (q : Fin 256) : rest (shifted (products X G W) M) (ix3 b p q) = low X G W M (ix2 (rowOf b p) q) := by
  unfold low
  by_cases h : q.val < 32
  · refine (rest_first _ b p q h).trans ((shifted_apply X G W M b p _).trans (moved_at X G W M _ _ (fun f => ?_) _).symm)
    exact (placed_fourth f ⟨1536 + q.val, by omega⟩ (by dsimp only; omega) (by dsimp only; omega)).trans (congrArg f (Fin.ext (by dsimp only; omega)))
  by_cases h' : q.val < 160
  · refine (rest_second _ b p q (by omega) h').trans ((shifted_apply X G W M b p _).trans (moved_at X G W M _ _ (fun f => ?_) _).symm)
    exact placed_fifth f ⟨1536 + q.val, by omega⟩ (by dsimp only; omega) (by dsimp only; omega)
  · refine (rest_last _ b p q (by omega)).trans (moved_none X G W M _ (fun f => ?_) _).symm
    exact placed_last f ⟨1536 + q.val, by omega⟩ (by dsimp only; omega)

theorem low_read (s : FVec Ideal S16x2048x256 .f32) (r : Fin 32768) (q : Fin 256) :
    shapeCast S32768x256 s shapeCasts_S16x2048x256_S32768x256 (ix2 r q) = s (ix3 (prompt r) (position r) q) := by
  unfold prompt position
  pointwise

theorem low_flat : shapeCast S32768x256 (rest (shifted (products X G W) M)) shapeCasts_S16x2048x256_S32768x256 = low X G W M :=
  funext fun k => by
    have e : k = (ix2 (k (0 : Fin 2)) (k (1 : Fin 2)) : S32768x256.Idx) := idx2_same (a := 32768) (b := 256) rfl rfl
    refine (congrArg _ e).trans ((low_read _ _ _).trans ((low_eq X G W M _ _ _).trans ((congrArg (fun r => low X G W M (ix2 r (k (1 : Fin 2)))) (rowOf_self (k (0 : Fin 2)))).trans (congrArg (low X G W M) e.symm))))

theorem final_eq : extractStridedSlice S16x1x1024 ![0, 2047, 0] (weighted (sequences X) G) slices_S16x2048x1024_S16x1x1024_0_2047_0 = final X G :=
  funext fun k => by
    have u : (k (1 : Fin 3)).val < 1 := (k (1 : Fin 3)).isLt
    have e : k = (ix3 (k (0 : Fin 3)) (k (1 : Fin 3)) (k (2 : Fin 3)) : S16x1x1024.Idx) := idx3_same (a := 16) (b := 1) (c := 1024) rfl rfl rfl
    have read (y : FVec Ideal S16x2048x1024 .f32) (b : Fin 16) (o : Fin 1) (d : Fin 1024) :
        extractStridedSlice S16x1x1024 ![0, 2047, 0] y slices_S16x2048x1024_S16x1x1024_0_2047_0 (ix3 b o d) = y (ix3 b ⟨2047, by omega⟩ d) := by
      obtain rfl : o = 0 := Fin.ext (by omega)
      pointwise
    exact (congrArg _ e).trans ((read _ _ _ _).trans (weighted_apply X G _ _ _))

variable (m : (ℓ : Loc nD τ sig) → Buf (Elt Ideal) ℓ) (ρ : Dev nD → PrngReg)

abbrev aX (c : Dev nD) : FVec Ideal S32768x1024 .f32 := m ((c.tc : Thread nD τ).loc main_arg0)
abbrev aG (c : Dev nD) : FVec Ideal S1024 .f32 := m ((c.tc : Thread nD τ).loc main_arg1)
abbrev aW (c : Dev nD) : FVec Ideal S1024x3744 .f32 := m ((c.tc : Thread nD τ).loc main_arg2)
abbrev aM (c : Dev nD) : FVec Ideal S1696 .f32 := m ((c.tc : Thread nD τ).loc main_arg3)

/-- The reference's results after its run. -/
theorem run_value : θ_run defs (onTc (τ := τ) (main (F := Ideal))) ⟨m, fun _ => 0, ρ⟩ fun r => ∀ c : Dev nD,
      r.2.mem ((c.tc : Thread nD τ).loc main_v37) = plain (aX m c) (aG m c) (aW m c) 0
      ∧ r.2.mem ((c.tc : Thread nD τ).loc main_v38) = plain (aX m c) (aG m c) (aW m c) 1
      ∧ r.2.mem ((c.tc : Thread nD τ).loc main_v39) = plain (aX m c) (aG m c) (aW m c) 2
      ∧ r.2.mem ((c.tc : Thread nD τ).loc main_v40) = plain (aX m c) (aG m c) (aW m c) 3
      ∧ r.2.mem ((c.tc : Thread nD τ).loc main_v41) = part (aX m c) (aG m c) (aW m c) (aM m c) 0
      ∧ r.2.mem ((c.tc : Thread nD τ).loc main_v42) = part (aX m c) (aG m c) (aW m c) (aM m c) 1
      ∧ r.2.mem ((c.tc : Thread nD τ).loc main_v43) = part (aX m c) (aG m c) (aW m c) (aM m c) 2
      ∧ r.2.mem ((c.tc : Thread nD τ).loc main_v44) = low (aX m c) (aG m c) (aW m c) (aM m c)
      ∧ r.2.mem ((c.tc : Thread nD τ).loc main_v45) = final (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    obtain ⟨h0, h1, h2, h3, h4, h5, h6, h7, h8, hargs⟩ := hr c
    exact ⟨h0.trans (flat_eq _ _ (plain_eq _ _ _ 0 slices_S16x2048x2048_S16x2048x512_0_0_0 0 rfl)),
      h1.trans (flat_eq _ _ (plain_eq _ _ _ 512 slices_S16x2048x2048_S16x2048x512_0_0_512 1 rfl)),
      h2.trans (flat_eq _ _ (plain_eq _ _ _ 1024 slices_S16x2048x2048_S16x2048x512_0_0_1024 2 rfl)),
      h3.trans (flat_eq _ _ (plain_eq _ _ _ 1536 slices_S16x2048x2048_S16x2048x512_0_0_1536 3 rfl)),
      h4.trans (flat_eq _ _ (part_eq _ _ _ _ 0 slices_S16x2048x1696_S16x2048x512_0_0_0 0 (by decide) fun q f =>
        placed_first f ⟨512 * 0 + q.val, by omega⟩ (by dsimp only; omega))),
      h5.trans (flat_eq _ _ (part_eq _ _ _ _ 544 slices_S16x2048x1696_S16x2048x512_0_0_544 1 (by decide) fun q f =>
        (placed_second f ⟨512 * 1 + q.val, by omega⟩ (by dsimp only; omega) (by dsimp only; omega)).trans (congrArg f (Fin.ext (by dsimp only; omega))))),
      h6.trans (flat_eq _ _ (part_eq _ _ _ _ 1056 slices_S16x2048x1696_S16x2048x512_0_0_1056 2 (by decide) fun q f =>
        (placed_third f ⟨512 * 2 + q.val, by omega⟩ (by dsimp only; omega) (by dsimp only; omega)).trans (congrArg f (Fin.ext (by dsimp only; omega))))),
      h7.trans (low_flat _ _ _ _), h8.trans (final_eq _ _), hargs⟩) (Value.run m ρ)

end Cert.Reference6Ideal.Shift

namespace Cert.Proof.Shift

open Idealize.ShloMosaic Idealize.SL.Sem

/-- The equation of the second layer's input projection. -/
theorem equation_shift : Cert.algebraic_Kernel6Ideal_Reference6Ideal (hKernel6Ideal := Cert.Kernel6Ideal.Gen.facts)
    (hReference6Ideal := Cert.Reference6Ideal.Gen.facts) := by
  intro m g m' g' hpre hargs
  refine ⟨_, _, _, _, _, _, _, _, _, Cert.Kernel6Ideal.Shift.run_value m g, ?_⟩
  refine (θ_run Cert.Reference6Ideal.defs _ _).mono (fun r hr c => ?_) (Cert.Reference6Ideal.Shift.run_value m' g')
  obtain ⟨e0, e1, e2, e3⟩ := hargs c
  obtain ⟨h0, h1, h2, h3, h4, h5, h6, h7, h8, hk⟩ := hr c
  unfold Cert.Reference6Ideal.Shift.aX Cert.Reference6Ideal.Shift.aG at h0 h1 h2 h3 h4 h5 h6 h7 h8
  unfold Cert.Reference6Ideal.Shift.aW at h0 h1 h2 h3 h4 h5 h6 h7
  unfold Cert.Reference6Ideal.Shift.aM at h4 h5 h6 h7
  rw [e0, e1, e2] at h0 h1 h2 h3
  rw [e0, e1, e2, e3] at h4 h5 h6 h7
  rw [e0, e1] at h8
  exact ⟨h0, h1, h2, h3, h4, h5, h6, h7, h8, hk⟩

end Cert.Proof.Shift

end
-- ==== Proof.Shift.Sample.lean ====
/- The second layer's input projection of the sample's rows over the extended reals: the kernel's result arrays, from its arguments. -/
module

public import proofs.«01_k».proof.Proof.Gen.Kernel9Ideal.Value
public import proofs.«01_k».proof.Proof.Shift.Value

@[expose] public section

set_option maxRecDepth 16384

noncomputable section

namespace Cert.Kernel9Ideal.Shift

open Cert.Kernel9Ideal Cert.Kernel9Ideal.Gen Cert.Proof.Rows Cert.Proof.Index
open Cert.Kernel6Ideal.Shift (placed shiftedColumn joined mixing joined_plain joined_shifted mixing_apply)
open Idealize.ShloMosaic Idealize.ShloMosaic.TcCoe
open Idealize.SL.Sem
open Idealize.ShloMosaic.Pipeline (Dat Window)
open scoped BigOperators

/-! ## The results as functions of the arguments -/

section Result
variable (X P : S32x1024.Idx → EReal) (G : S1024.Idx → EReal) (W : S1024x3744.Idx → EReal) (M : S1696.Idx → EReal)

/-- A normed row against a column, -/
def current (w : Fin 1024 → EReal) (R : Fin 32) : EReal := product (fun d => X (ix2 R d)) (fun d => G (ix1 d)) w
/-- and the row kept from the token before. -/
def before (w : Fin 1024 → EReal) (R : Fin 32) : EReal := ∑ d : Fin 1024, P (ix2 R d) * w d
/-- A row's product moved towards the product of the kept row. -/
def toward (w : Fin 1024 → EReal) (μ : EReal) (R : Fin 32) : EReal := current X G w R + (before P w R - current X G w R) * μ
/-- The moved products, by the kernel's columns. -/
def moved (p : Fin 1792) (R : Fin 32) : EReal := toward X P G (shiftedColumn W p) (placed (fun s => M (ix1 s)) p) R

/-- Part `j` of the four plain parts, -/
def plain (j : Fin 4) (k : S32x512.Idx) : EReal := current X G (fun d => W (ix2 d ⟨512 * j.val + (k 1).val, by have h : (k 1).val < 512 := (k 1).isLt; show _ < 3744; omega⟩)) (k 0)
/-- part `j` of the three shifted ones, -/
def part (j : Fin 3) (k : S32x512.Idx) : EReal := moved X P G W M ⟨512 * j.val + (k 1).val, by have h : (k 1).val < 512 := (k 1).isLt; omega⟩ (k 0)
/-- the shifted columns that are left, -/
def low (k : S32x256.Idx) : EReal := moved X P G W M ⟨1536 + (k 1).val, by have h : (k 1).val < 256 := (k 1).isLt; omega⟩ (k 0)
/-- and the normed rows. -/
def final (k : S32x1024.Idx) : EReal := normed (fun d => X (ix2 (k 0) d)) (fun d => G (ix1 d)) (k 1)
end Result

/-! ## The body's values -/

theorem normed_apply (x : Vec Ideal S32x1024 .f32) (g : Vec Ideal S1x1024 .f32) (r : Fin 32) (d : Fin 1024) :
    k0_pay7 x g (ix2 r d) = normed (fun d => x (ix2 r d)) (fun d => g (ix2 0 d)) d := by
  unfold k0_pay7 normed scale
  pointwise

/-- The normed rows against a block of 512 columns, -/
theorem plain_apply (x : Vec Ideal S32x1024 .f32) (g : Vec Ideal S1x1024 .f32) (b : Vec Ideal S1024x512 .bf16) (r : Fin 32) (q : Fin 512) :
    k0_pay1 (k0_pay8 x g) b (ix2 r q) = product (fun d => x (ix2 r d)) (fun d => g (ix2 0 d)) (fun d => b (ix2 d q)) := by
  unfold product
  refine Eq.trans ?_ (Finset.sum_congr rfl fun d _ => congrArg (· * b (ix2 d q)) (normed_apply x g r d))
  unfold k0_pay1 k0_pay8
  generalize k0_pay7 x g = y
  pointwise [dot_S32x1024_S1024x512_S32x512_1_0_0_1_n_n]

/-- and moved, against all the shifted columns. -/
theorem wide_apply (x p : Vec Ideal S32x1024 .f32) (g : Vec Ideal S1x1024 .f32) (b : Vec Ideal S1024x1792 .bf16) (u : Vec Ideal S1x1792 .f32) (r : Fin 32) (q : Fin 1792) :
    k0_pay2 (k0_pay8 x g) b p b u (ix2 r q) = product (fun d => x (ix2 r d)) (fun d => g (ix2 0 d)) (fun d => b (ix2 d q))
      + ((∑ d : Fin 1024, p (ix2 r d) * b (ix2 d q)) - product (fun d => x (ix2 r d)) (fun d => g (ix2 0 d)) (fun d => b (ix2 d q))) * u (ix2 0 q) := by
  have e : product (fun d => x (ix2 r d)) (fun d => g (ix2 0 d)) (fun d => b (ix2 d q)) = ∑ d : Fin 1024, k0_pay7 x g (ix2 r d) * b (ix2 d q) := by
    unfold product
    exact Finset.sum_congr rfl fun d _ => congrArg (· * b (ix2 d q)) (normed_apply x g r d).symm
  rw [e]
  unfold k0_pay2 k0_pay8
  generalize k0_pay7 x g = y
  pointwise [dot_S32x1024_S1024x1792_S32x1792_1_0_0_1_n_n]

/-! ## The blocks that the body reads -/

variable (m : (ℓ : Loc nD τ sig) → Buf (Elt Ideal) ℓ) (c : Dev nD)

abbrev aX : S32x1024.Idx → EReal := m ((c : Thread nD τ).loc main_arg0)
abbrev aG : FVec Ideal S1024 .f32 := m ((c : Thread nD τ).loc main_arg1)
abbrev aW : FVec Ideal S1024x3744 .f32 := m ((c : Thread nD τ).loc main_arg2)
abbrev aM : FVec Ideal S1696 .f32 := m ((c : Thread nD τ).loc main_arg3)
abbrev aP : S32x1024.Idx → EReal := m ((c : Thread nD τ).loc main_arg4)

theorem V_gain (d : Fin 1024) : V m c main_v15 (ix2 0 d) = aG m c (ix1 d) := by
  entry_read
  show shapeCast S1x1024 (aG m c) shapeCasts_S1024_S1x1024 (ix2 0 d) = _
  pointwise

/-- The weights and the mixing weights as the kernel's windows read them. -/
theorem V_weights : V m c main_v16 = joined (aW m c) := by
  show StableHlo.after hostOps0 _ _ = _
  unfold hostOps0
  after_results_simp
  dsimp only [Matrix.cons_val]
  rfl
theorem V_mixing : V m c main_v17 = shapeCast S1x1792 (mixing (aM m c)) shapeCasts_S1792_S1x1792 := by
  show StableHlo.after hostOps0 _ _ = _
  unfold hostOps0
  after_results_simp
  dsimp only [Matrix.cons_val]
  rfl
theorem V_mix (p : Fin 1792) : V m c main_v17 (ix2 0 p) = placed (fun s => aM m c (ix1 s)) p := by
  refine Eq.trans ?_ (mixing_apply (aM m c) p)
  rw [V_mixing]
  generalize mixing (aM m c) = v
  pointwise

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel

section Reads
variable (t : Fin cfg0.N)

theorem read_rows (r : Fin 32) (d : Fin 1024) : iblk m c 0 t (ix2 r d) = aX m c (ix2 r d) := by
  unfold iblk
  refine Eq.trans ?_ (congrFun (V_main_arg0 m c) _)
  exact congrArg (V m c main_arg0) (emb_same (cfg0.win 0) t rfl _ (index0 t) (ix2 r d) (ix2 r d) (Fin.forall_fin_two.mpr ⟨Nat.zero_add _, Nat.zero_add _⟩))
theorem read_gain (d : Fin 1024) : iblk m c 1 t (ix2 0 d) = aG m c (ix1 d) := by
  unfold iblk
  refine Eq.trans ?_ (V_gain m c _)
  exact congrArg (V m c main_v15) (emb_same (cfg0.win 1) t rfl _ (index1 t) (ix2 0 d) (ix2 0 d) (Fin.forall_fin_two.mpr ⟨Nat.zero_add _, Nat.zero_add _⟩))
theorem read_weights (d : Fin 1024) (p : Fin 3840) : iblk m c 2 t (ix2 d p) = joined (aW m c) (ix2 d p) := by
  unfold iblk
  refine Eq.trans ?_ (congrFun (V_weights m c) _)
  exact congrArg (V m c main_v16) (emb_same (cfg0.win 2) t rfl _ (index2 t) (ix2 d p) (ix2 d p) (Fin.forall_fin_two.mpr ⟨Nat.zero_add _, Nat.zero_add _⟩))
theorem read_mix (p : Fin 1792) : iblk m c 3 t (ix2 0 p) = placed (fun s => aM m c (ix1 s)) p := by
  unfold iblk
  refine Eq.trans ?_ (V_mix m c _)
  exact congrArg (V m c main_v17) (emb_same (cfg0.win 3) t rfl _ (index3 t) (ix2 0 p) (ix2 0 p) (Fin.forall_fin_two.mpr ⟨Nat.zero_add _, Nat.zero_add _⟩))
theorem read_kept (r : Fin 32) (d : Fin 1024) : iblk m c 4 t (ix2 r d) = aP m c (ix2 r d) := by
  unfold iblk
  refine Eq.trans ?_ (congrFun (V_main_arg4 m c) _)
  exact congrArg (V m c main_arg4) (emb_same (cfg0.win 4) t rfl _ (index4 t) (ix2 r d) (ix2 r d) (Fin.forall_fin_two.mpr ⟨Nat.zero_add _, Nat.zero_add _⟩))

/-- A column of a block of the weights, in the whole. -/
theorem column_read (o n : ℕ) (inb : ∀ a, (![0, o] : Fin 2 → ℕ) a + (![1024, n] : Fin 2 → ℕ) a ≤ S1024x3840.size a) (d : Fin 1024) (q : Fin n) (h : o + q.val < 3840) :
    View.ld (iblk m c 2 t) (Rect.unit (s := S1024x3840) ![0, o] ![1024, n] inb) (ix2 d q) = joined (aW m c) (ix2 d ⟨o + q.val, h⟩) :=
  (congrArg (iblk m c 2 t) (idx2_same (a := 1024) (b := 3840) (by show 0 + 1 * d.val = d.val; omega) (by show o + 1 * q.val = o + q.val; omega))).trans
    (read_weights m c t d ⟨o + q.val, h⟩)

/-! ## What the body leaves -/

/-- The products of the block's rows with the columns from `o` on, -/
theorem plain_block (j : Fin 4) (o : ℕ) (ho : o = 512 * j.val) (inb : ∀ a, (![0, o] : Fin 2 → ℕ) a + S1024x512.size a ≤ S1024x3840.size a) (r : Fin 32) (q : Fin 512) :
    k0_pay1 (k0_pay8 (iblk m c 0 t) (iblk m c 1 t)) (View.ld (iblk m c 2 t) (Rect.unit (s := S1024x3840) ![0, o] S1024x512.size inb)) (ix2 r q)
      = plain (aX m c) (aG m c) (aW m c) j (ix2 r q) := by
  subst ho
  refine (plain_apply _ _ _ r q).trans ?_
  unfold plain current
  exact congr (congr (congrArg product (funext fun d => read_rows m c t r d)) (funext fun d => read_gain m c t d))
    (funext fun d => (column_read m c t (512 * j.val) 512 inb d q (by omega)).trans (joined_plain (aW m c) d _ (by dsimp only; omega)))

/-- and the moved products. -/
abbrev movedOf : FVec Ideal S32x1792 .f32 :=
  k0_pay2 (k0_pay8 (iblk m c 0 t) (iblk m c 1 t)) (View.ld (iblk m c 2 t) r0_7) (iblk m c 4 t) (View.ld (iblk m c 2 t) r0_7) (iblk m c 3 t)

theorem moved_block (r : Fin 32) (p : Fin 1792) : movedOf m c t (ix2 r p) = moved (aX m c) (aP m c) (aG m c) (aW m c) (aM m c) p r := by
  have hw (d : Fin 1024) : View.ld (iblk m c 2 t) r0_7 (ix2 d p) = shiftedColumn (aW m c) p d :=
    (column_read m c t 2048 1792 inb_S1024x3840_S1024x1792_0_2048 d p (by omega)).trans (joined_shifted (aW m c) d p)
  have hc : product (fun d => iblk m c 0 t (ix2 r d)) (fun d => iblk m c 1 t (ix2 0 d)) (fun d => View.ld (iblk m c 2 t) r0_7 (ix2 d p))
      = current (aX m c) (aG m c) (shiftedColumn (aW m c) p) r := by
    unfold current
    exact congr (congr (congrArg product (funext fun d => read_rows m c t r d)) (funext fun d => read_gain m c t d)) (funext hw)
  have hb : (∑ d : Fin 1024, (fun a b : EReal => a * b) (iblk m c 4 t (ix2 r d)) (View.ld (iblk m c 2 t) r0_7 (ix2 d p))) = before (aP m c) (shiftedColumn (aW m c) p) r := by
    unfold before
    exact Finset.sum_congr rfl fun d _ => congrArg₂ (fun a b : EReal => a * b) (read_kept m c t r d) (hw d)
  refine (wide_apply _ _ _ _ _ r p).trans ?_
  unfold moved toward
  exact congrArg₂ (· + ·) hc (congrArg₂ (· * ·) (congrArg₂ (· - ·) hb hc) (read_mix m c t p))

theorem whole_rows (x : Vec Ideal S32x1024 .f32) : View.ld x r0_0 = x :=
  funext fun y => congrArg x (idx2_same (a := 32) (b := 1024) (by show 0 + 1 * (y 0).val = _; omega) (by show 0 + 1 * (y 1).val = _; omega))
theorem whole_gain (g : Vec Ideal S1x1024 .f32) : View.ld g r0_1 = g :=
  funext fun y => congrArg g (idx2_same (a := 1) (b := 1024) (by show 0 + 1 * (y 0).val = _; omega) (by show 0 + 1 * (y 1).val = _; omega))
theorem whole_mix (g : Vec Ideal S1x1792 .f32) : View.ld g r0_8 = g :=
  funext fun y => congrArg g (idx2_same (a := 1) (b := 1792) (by show 0 + 1 * (y 0).val = _; omega) (by show 0 + 1 * (y 1).val = _; omega))

/-- A buffer of plain products. -/
theorem plain_buffer (j : Fin 4) (o : ℕ) (ho : o = 512 * j.val) (inb : ∀ a, (![0, o] : Fin 2 → ℕ) a + S1024x512.size a ≤ S1024x3840.size a) (y : S32x512.Idx) :
    (View.canon [⟨r0_3, k0_pay1 (k0_pay8 (View.ld (iblk m c 0 t) r0_0) (View.ld (iblk m c 1 t) r0_1))
      (View.ld (iblk m c 2 t) (Rect.unit (s := S1024x3840) ![0, o] S1024x512.size inb))⟩] : Vec Ideal S32x512 .f32) y = plain (aX m c) (aG m c) (aW m c) j y := by
  have e : y = ix2 (y (0 : Fin 2)) (y (1 : Fin 2)) := idx2_same (a := 32) (b := 512) rfl rfl
  rw [View.canon_unit_zero (by decide), whole_rows, whole_gain]
  exact (congrArg _ e).trans ((plain_block m c t j o ho inb _ _).trans (congrArg (plain (aX m c) (aG m c) (aW m c) j) e.symm))

/-- A buffer of moved products: the columns from `o` on. -/
theorem part_buffer (j : Fin 3) (o : ℕ) (ho : o = 512 * j.val) (h : S32x1792.Slices ![0, o] S32x512) (y : S32x512.Idx) :
    (View.canon [⟨r0_3, extractStridedSlice S32x512 ![0, o] (movedOf m c t) h⟩] : Vec Ideal S32x512 .f32) y
      = part (aX m c) (aP m c) (aG m c) (aW m c) (aM m c) j y := by
  subst ho
  have e : y = ix2 (y (0 : Fin 2)) (y (1 : Fin 2)) := idx2_same (a := 32) (b := 512) rfl rfl
  have read (v : FVec Ideal S32x1792 .f32) (r : Fin 32) (q : Fin 512) : extractStridedSlice S32x512 ![0, 512 * j.val] v h (ix2 r q) = v (ix2 r ⟨512 * j.val + q.val, by omega⟩) := by
    pointwise
  rw [View.canon_unit_zero (by decide)]
  exact (congrArg _ e).trans ((read _ _ _).trans (moved_block m c t _ _))

theorem low_buffer (y : S32x256.Idx) :
    (View.canon [⟨r0_9, extractStridedSlice S32x256 ![0, 1536] (movedOf m c t) slices_S32x1792_o0_1536_S32x256⟩] : Vec Ideal S32x256 .f32) y
      = low (aX m c) (aP m c) (aG m c) (aW m c) (aM m c) y := by
  have e : y = ix2 (y (0 : Fin 2)) (y (1 : Fin 2)) := idx2_same (a := 32) (b := 256) rfl rfl
  have read (v : FVec Ideal S32x1792 .f32) (r : Fin 32) (q : Fin 256) :
      extractStridedSlice S32x256 ![0, 1536] v slices_S32x1792_o0_1536_S32x256 (ix2 r q) = v (ix2 r ⟨1536 + q.val, by omega⟩) := by
    pointwise
  rw [View.canon_unit_zero (by decide)]
  exact (congrArg _ e).trans ((read _ _ _).trans (moved_block m c t _ _))

theorem final_buffer (y : S32x1024.Idx) : out0_13 (iblk m c 0 t) (iblk m c 1 t) (iblk m c 2 t) (iblk m c 3 t) (iblk m c 4 t) y = final (aX m c) (aG m c) y := by
  have e : y = ix2 (y (0 : Fin 2)) (y (1 : Fin 2)) := idx2_same (a := 32) (b := 1024) rfl rfl
  unfold_out out0_13
  rw [View.canon_unit_zero (by decide), whole_rows, whole_gain]
  refine (congrArg _ e).trans ((normed_apply _ _ _ _).trans ?_)
  unfold final
  exact congr (congrArg₂ normed (funext fun d => read_rows m c t _ d) (funext fun d => read_gain m c t d)) rfl
end Reads

/-! ## The result arrays -/

theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel

theorem array5 : (dats m 0 c).arrAt 5 cfg0.N = plain (aX m c) (aG m c) (aW m c) 0 :=
  (dats m 0 c).arrAt_eq_of_covers 5 _ (by decide +kernel) fun t _ y => (congrFun (after0_5 m c t) y).trans
    ((plain_buffer m c t 0 0 rfl inb_S1024x3840_S1024x512_0_0 y).trans (congrArg (plain (aX m c) (aG m c) (aW m c) 0)
      (emb_same (cfg0.win 5) t rfl _ (index5 t) y y (Fin.forall_fin_two.mpr ⟨Nat.zero_add _, Nat.zero_add _⟩)).symm))
theorem array6 : (dats m 0 c).arrAt 6 cfg0.N = plain (aX m c) (aG m c) (aW m c) 1 :=
  (dats m 0 c).arrAt_eq_of_covers 6 _ (by decide +kernel) fun t _ y => (congrFun (after0_6 m c t) y).trans
    ((plain_buffer m c t 1 512 rfl inb_S1024x3840_S1024x512_0_512 y).trans (congrArg (plain (aX m c) (aG m c) (aW m c) 1)
      (emb_same (cfg0.win 6) t rfl _ (index6 t) y y (Fin.forall_fin_two.mpr ⟨Nat.zero_add _, Nat.zero_add _⟩)).symm))
theorem array7 : (dats m 0 c).arrAt 7 cfg0.N = plain (aX m c) (aG m c) (aW m c) 2 :=
  (dats m 0 c).arrAt_eq_of_covers 7 _ (by decide +kernel) fun t _ y => (congrFun (after0_7 m c t) y).trans
    ((plain_buffer m c t 2 1024 rfl inb_S1024x3840_S1024x512_0_1024 y).trans (congrArg (plain (aX m c) (aG m c) (aW m c) 2)
      (emb_same (cfg0.win 7) t rfl _ (index7 t) y y (Fin.forall_fin_two.mpr ⟨Nat.zero_add _, Nat.zero_add _⟩)).symm))
/-- The fourth is left through the name of the rounded rows, as are those after it. -/
theorem array8 : (dats m 0 c).arrAt 8 cfg0.N = plain (aX m c) (aG m c) (aW m c) 3 :=
  (dats m 0 c).arrAt_eq_of_covers 8 _ (by decide +kernel) fun t _ y => (congrFun (after0_8 m c t) y).trans
    ((plain_buffer m c t 3 1536 rfl inb_S1024x3840_S1024x512_0_1536 y).trans (congrArg (plain (aX m c) (aG m c) (aW m c) 3)
      (emb_same (cfg0.win 8) t rfl _ (index8 t) y y (Fin.forall_fin_two.mpr ⟨Nat.zero_add _, Nat.zero_add _⟩)).symm))

section Moved
variable (t : Fin cfg0.N)

theorem received (y : S32x512.Idx) : out0_9 (iblk m c 0 t) (iblk m c 1 t) (iblk m c 2 t) (iblk m c 3 t) (iblk m c 4 t) y
    = part (aX m c) (aP m c) (aG m c) (aW m c) (aM m c) 0 y := by
  unfold_out out0_9
  rw [whole_rows, whole_gain, whole_mix, whole_rows]
  exact part_buffer m c t 0 0 rfl slices_S32x1792_o0_0_S32x512 y
theorem keyed (y : S32x512.Idx) : out0_10 (iblk m c 0 t) (iblk m c 1 t) (iblk m c 2 t) (iblk m c 3 t) (iblk m c 4 t) y
    = part (aX m c) (aP m c) (aG m c) (aW m c) (aM m c) 1 y := by
  unfold_out out0_10
  rw [whole_rows, whole_gain, whole_mix, whole_rows]
  exact part_buffer m c t 1 512 rfl slices_S32x1792_o0_512_S32x512 y
theorem valued (y : S32x512.Idx) : out0_11 (iblk m c 0 t) (iblk m c 1 t) (iblk m c 2 t) (iblk m c 3 t) (iblk m c 4 t) y
    = part (aX m c) (aP m c) (aG m c) (aW m c) (aM m c) 2 y := by
  unfold_out out0_11
  rw [whole_rows, whole_gain, whole_mix, whole_rows]
  exact part_buffer m c t 2 1024 rfl slices_S32x1792_o0_1024_S32x512 y
theorem remaining (y : S32x256.Idx) : out0_12 (iblk m c 0 t) (iblk m c 1 t) (iblk m c 2 t) (iblk m c 3 t) (iblk m c 4 t) y
    = low (aX m c) (aP m c) (aG m c) (aW m c) (aM m c) y := by
  unfold_out out0_12
  rw [whole_rows, whole_gain, whole_mix, whole_rows]
  exact low_buffer m c t y
end Moved

theorem array9 : (dats m 0 c).arrAt 9 cfg0.N = part (aX m c) (aP m c) (aG m c) (aW m c) (aM m c) 0 :=
  (dats m 0 c).arrAt_eq_of_covers 9 _ (by decide +kernel) fun t _ y => (congrFun (after0_9 m c t) y).trans ((received m c t y).trans
    (congrArg (part (aX m c) (aP m c) (aG m c) (aW m c) (aM m c) 0)
      (emb_same (cfg0.win 9) t rfl _ (index9 t) y y (Fin.forall_fin_two.mpr ⟨Nat.zero_add _, Nat.zero_add _⟩)).symm))
theorem array10 : (dats m 0 c).arrAt 10 cfg0.N = part (aX m c) (aP m c) (aG m c) (aW m c) (aM m c) 1 :=
  (dats m 0 c).arrAt_eq_of_covers 10 _ (by decide +kernel) fun t _ y => (congrFun (after0_10 m c t) y).trans ((keyed m c t y).trans
    (congrArg (part (aX m c) (aP m c) (aG m c) (aW m c) (aM m c) 1)
      (emb_same (cfg0.win 10) t rfl _ (index10 t) y y (Fin.forall_fin_two.mpr ⟨Nat.zero_add _, Nat.zero_add _⟩)).symm))
theorem array11 : (dats m 0 c).arrAt 11 cfg0.N = part (aX m c) (aP m c) (aG m c) (aW m c) (aM m c) 2 :=
  (dats m 0 c).arrAt_eq_of_covers 11 _ (by decide +kernel) fun t _ y => (congrFun (after0_11 m c t) y).trans ((valued m c t y).trans
    (congrArg (part (aX m c) (aP m c) (aG m c) (aW m c) (aM m c) 2)
      (emb_same (cfg0.win 11) t rfl _ (index11 t) y y (Fin.forall_fin_two.mpr ⟨Nat.zero_add _, Nat.zero_add _⟩)).symm))
theorem array12 : (dats m 0 c).arrAt 12 cfg0.N = low (aX m c) (aP m c) (aG m c) (aW m c) (aM m c) :=
  (dats m 0 c).arrAt_eq_of_covers 12 _ (by decide +kernel) fun t _ y => (congrFun (after0_12 m c t) y).trans ((remaining m c t y).trans
    (congrArg (low (aX m c) (aP m c) (aG m c) (aW m c) (aM m c))
      (emb_same (cfg0.win 12) t rfl _ (index12 t) y y (Fin.forall_fin_two.mpr ⟨Nat.zero_add _, Nat.zero_add _⟩)).symm))
theorem array13 : (dats m 0 c).arrAt 13 cfg0.N = final (aX m c) (aG m c) :=
  (dats m 0 c).arrAt_eq_of_covers 13 _ (by decide +kernel) fun t _ y => (congrFun (after0_13 m c t) y).trans ((final_buffer m c t y).trans
    (congrArg (final (aX m c) (aG m c))
      (emb_same (cfg0.win 13) t rfl _ (index13 t) y y (Fin.forall_fin_two.mpr ⟨Nat.zero_add _, Nat.zero_add _⟩)).symm))

/-- The kernel's results after its run. -/
theorem run_value (ρ : Dev nD → PrngReg) : θ_run defs (onTc (τ := τ) (main (F := Ideal))) ⟨m, fun _ => 0, ρ⟩ fun r => ∀ c : Dev nD,
      r.2.mem ((c.tc : Thread nD τ).loc main_v18_0) = plain (aX m c) (aG m c) (aW m c) 0
      ∧ r.2.mem ((c.tc : Thread nD τ).loc main_v18_1) = plain (aX m c) (aG m c) (aW m c) 1
      ∧ r.2.mem ((c.tc : Thread nD τ).loc main_v18_2) = plain (aX m c) (aG m c) (aW m c) 2
      ∧ r.2.mem ((c.tc : Thread nD τ).loc main_v18_3) = plain (aX m c) (aG m c) (aW m c) 3
      ∧ r.2.mem ((c.tc : Thread nD τ).loc main_v18_4) = part (aX m c) (aP m c) (aG m c) (aW m c) (aM m c) 0
      ∧ r.2.mem ((c.tc : Thread nD τ).loc main_v18_5) = part (aX m c) (aP m c) (aG m c) (aW m c) (aM m c) 1
      ∧ r.2.mem ((c.tc : Thread nD τ).loc main_v18_6) = part (aX m c) (aP m c) (aG m c) (aW m c) (aM m c) 2
      ∧ r.2.mem ((c.tc : Thread nD τ).loc main_v18_7) = low (aX m c) (aP m c) (aG m c) (aW m c) (aM m c)
      ∧ r.2.mem ((c.tc : Thread nD τ).loc main_v18_8) = final (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => by
    obtain ⟨h5, h6, h7, h8, h9, h10, h11, h12, h13, hargs⟩ := hr c
    exact ⟨h5.trans (array5 m c), h6.trans (array6 m c), h7.trans (array7 m c), h8.trans (array8 m c), h9.trans (array9 m c), h10.trans (array10 m c),
      h11.trans (array11 m c), h12.trans (array12 m c), h13.trans (array13 m c), hargs⟩) (Value.run_blocks m ρ)

end Cert.Kernel9Ideal.Shift

end
-- ==== Proof.Shift.SampleRef.lean ====
/- The second layer's input projection of the sample's rows: what its reference computes, and that its kernel gives the same. -/
module

public import proofs.«01_k».proof.Defs
public import proofs.«01_k».proof.Proof.Gen.Reference9Ideal.Run
public import proofs.«01_k».proof.Proof.Shift.Ref
public import proofs.«01_k».proof.Proof.Shift.Sample

@[expose] public section

set_option maxRecDepth 16384

noncomputable section

namespace Cert.Reference9Ideal.Shift

open Cert.Reference9Ideal Cert.Reference9Ideal.Gen Cert.Reference9Ideal.Value Cert.Proof.Rows Cert.Proof.Index
open Cert.Kernel6Ideal.Shift (placed shiftedColumn)
open Cert.Reference6Ideal.Shift (placed_first placed_second placed_third placed_fourth placed_fifth placed_last)
open Cert.Kernel9Ideal.Shift (current before toward moved plain part low final)
open Idealize.ShloMosaic Idealize.ShloMosaic.TcCoe Idealize.ShloMosaic.StableHlo
open Idealize.SL.Sem
open scoped BigOperators

/-! ## The reference's arrays -/

/-- The rows as sequences of one token, -/
abbrev sequences (X : FVec Ideal S32x1024 .f32) : FVec Ideal S32x1x1024 .f32 := shapeCast S32x1x1024 X shapeCasts_S32x1024_S32x1x1024
/-- scaled and weighted, -/
abbrev weighted (x : FVec Ideal S32x1x1024 .f32) (g : FVec Ideal S1024 .f32) : FVec Ideal S32x1x1024 .f32 :=
  (mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 g)))
/-- under the kept rows, -/
abbrev stacked (P : FVec Ideal S32x1024 .f32) (y : FVec Ideal S32x1x1024 .f32) : FVec Ideal S32x2x1024 .f32 :=
  concatenate S32x2x1024 1 [⟨S32x1x1024, broadcastInDim S32x1x1024 ![0, 2] bcast_S32x1024_S32x1x1024_0_2 P⟩, ⟨S32x1x1024, y⟩]
    concatenates_S32x1x1024_S32x1x1024_S32x2x1024_d1
/-- and against the weights. -/
abbrev all (z : FVec Ideal S32x2x1024 .f32) (W : FVec Ideal S1024x3744 .f32) : FVec Ideal S32x2x3744 .f32 :=
  Host.dotGeneral (F := Ideal) (φ₁ := .f32) (φ₂ := .f32) dot_S32x2x1024_S1024x3744_S32x2x3744_2_0_01_1_n_n none z W
/-- The shifted columns moved towards the kept row. -/
abbrev shifted (a : FVec Ideal S32x2x3744 .f32) (M : FVec Ideal S1696 .f32) : FVec Ideal S32x1x1696 .f32 :=
  addf (extractStridedSlice S32x1x1696 ![0, 1, 2048] a slices_S32x2x3744_S32x1x1696_0_1_2048)
    (mulf (subf (extractStridedSlice S32x1x1696 ![0, 0, 2048] a slices_S32x2x3744_S32x1x1696_0_0_2048)
        (extractStridedSlice S32x1x1696 ![0, 1, 2048] a slices_S32x2x3744_S32x1x1696_0_1_2048))
      (broadcastInDim S32x1x1696 ![0, 1, 2] bcast_S1x1x1696_S32x1x1696_0_1_2 (broadcastInDim S1x1x1696 ![2] bcast_S1696_S1x1x1696_2 M)))

variable (X P : FVec Ideal S32x1024 .f32) (G : FVec Ideal S1024 .f32) (W : FVec Ideal S1024x3744 .f32) (M : FVec Ideal S1696 .f32)

theorem weighted_apply (b : Fin 32) (d : Fin 1024) :
    weighted (sequences X) G (ix3 b 0 d) = normed (fun d => X (ix2 b d)) (fun d => G (ix1 d)) d := by
  have e (d : Fin 1024) : sequences X (ix3 b 0 d) = X (ix2 b d) := by
    pointwise
  rw [← funext e]
  generalize sequences X = x
  unfold normed scale
  pointwise

theorem stacked_first (y : FVec Ideal S32x1x1024 .f32) (b : Fin 32) (d : Fin 1024) : stacked P y (ix3 b 0 d) = P (ix2 b d) := by
  pointwise
theorem stacked_next (y : FVec Ideal S32x1x1024 .f32) (b : Fin 32) (d : Fin 1024) : stacked P y (ix3 b 1 d) = y (ix3 b 0 d) := by
  pointwise

theorem all_dot (z : FVec Ideal S32x2x1024 .f32) (b : Fin 32) (p : Fin 2) (q : Fin 3744) :
    all z W (ix3 b p q) = ∑ d : Fin 1024, z (ix3 b p d) * W (ix2 d q) := by
  pointwise [dot_S32x2x1024_S1024x3744_S32x2x3744_2_0_01_1_n_n]

/-- Every product that the reference takes. -/
abbrev products : FVec Ideal S32x2x3744 .f32 := all (stacked P (weighted (sequences X) G)) W

theorem products_next (b : Fin 32) (q : Fin 3744) : products X P G W (ix3 b 1 q) = current X G (fun d => W (ix2 d q)) b := by
  refine (all_dot W _ b 1 q).trans ?_
  unfold current product
  exact Finset.sum_congr rfl fun d _ => congrArg (· * W (ix2 d q)) ((stacked_next P _ b d).trans (weighted_apply X G b d))

theorem products_before (b : Fin 32) (q : Fin 3744) : products X P G W (ix3 b 0 q) = before P (fun d => W (ix2 d q)) b := by
  refine (all_dot W _ b 0 q).trans ?_
  unfold before
  exact Finset.sum_congr rfl fun d _ => congrArg (· * W (ix2 d q)) (stacked_first P _ b d)

theorem shifted_apply (b : Fin 32) (s : Fin 1696) :
    shifted (products X P G W) M (ix3 b 0 s) = toward X P G (fun d => W (ix2 d ⟨2048 + s.val, by omega⟩)) (M (ix1 s)) b := by
  unfold toward
  rw [← products_next X P G W b, ← products_before X P G W b]
  generalize products X P G W = a
  pointwise

/-! ## The results -/

theorem flat_eq (s : FVec Ideal S32x1x512 .f32) (F : S32x512.Idx → EReal) (h : ∀ b q, s (ix3 b 0 q) = F (ix2 b q)) :
    shapeCast S32x512 s shapeCasts_S32x1x512_S32x512 = F :=
  funext fun k => by
    have e : k = (ix2 (k (0 : Fin 2)) (k (1 : Fin 2)) : S32x512.Idx) := idx2_same (a := 32) (b := 512) rfl rfl
    have read (r : Fin 32) (q : Fin 512) : shapeCast S32x512 s shapeCasts_S32x1x512_S32x512 (ix2 r q) = s (ix3 r 0 q) := by
      pointwise
    exact (congrArg _ e).trans ((read _ _).trans ((h _ _).trans (congrArg F e.symm)))

/-- A block of the plain columns. -/
theorem plain_eq (o : ℕ) (ho : S32x1x2048.Slices ![0, 0, o] S32x1x512) (j : Fin 4) (hj : o = 512 * j.val) (b : Fin 32) (q : Fin 512) :
    extractStridedSlice S32x1x512 ![0, 0, o] (extractStridedSlice S32x1x2048 ![0, 1, 0] (products X P G W) slices_S32x2x3744_S32x1x2048_0_1_0) ho (ix3 b 0 q)
      = plain X G W j (ix2 b q) := by
  subst hj
  unfold plain
  refine Eq.trans ?_ (products_next X P G W b ⟨512 * j.val + q.val, by omega⟩)
  generalize products X P G W = a
  pointwise

/-- A moved column of the kernel's is the caller's that was put there, -/
theorem moved_at (k : Fin 1792) (s : Fin 1696) (h : ∀ f : Fin 1696 → EReal, placed f k = f s) (R : Fin 32) :
    moved X P G W M k R = toward X P G (fun d => W (ix2 d ⟨2048 + s.val, by omega⟩)) (M (ix1 s)) R := by
  unfold moved
  exact congr (congrArg₂ (toward X P G) (funext fun d => h _) (h _)) rfl

/-- and nothing where none was put. -/
theorem moved_none (k : Fin 1792) (h : ∀ f : Fin 1696 → EReal, placed f k = 0) (R : Fin 32) : moved X P G W M k R = 0 := by
  have e : shiftedColumn W k = fun _ => 0 := funext fun d => h _
  have z : current X G (fun _ => 0) R = 0 := by
    unfold current product
    exact Finset.sum_eq_zero fun d _ => mul_zero _
  unfold moved toward
  rw [e, h, mul_zero, z, add_zero]

/-- A block of the moved columns. -/
theorem part_eq (o : ℕ) (ho : S32x1x1696.Slices ![0, 0, o] S32x1x512) (j : Fin 3) (ho' : o + 512 ≤ 1696)
    (hj : ∀ (q : Fin 512) (f : Fin 1696 → EReal), placed f ⟨512 * j.val + q.val, by omega⟩ = f ⟨o + q.val, by omega⟩) (b : Fin 32) (q : Fin 512) :
    extractStridedSlice S32x1x512 ![0, 0, o] (shifted (products X P G W) M) ho (ix3 b 0 q) = part X P G W M j (ix2 b q) := by
  unfold part
  refine Eq.trans ?_ ((shifted_apply X P G W M b ⟨o + q.val, by omega⟩).trans (moved_at X P G W M _ _ (hj q) b).symm)
  generalize shifted (products X P G W) M = a
  pointwise

/-- The columns that are left, side by side. -/
abbrev rest (a : FVec Ideal S32x1x1696 .f32) : FVec Ideal S32x1x256 .f32 :=
  concatenate S32x1x256 2 [⟨S32x1x32, extractStridedSlice S32x1x32 ![0, 0, 512] a slices_S32x1x1696_S32x1x32_0_0_512⟩,
    ⟨S32x1x32, extractStridedSlice S32x1x32 ![0, 0, 1568] a slices_S32x1x1696_S32x1x32_0_0_1568⟩,
    ⟨S32x1x96, extractStridedSlice S32x1x96 ![0, 0, 1600] a slices_S32x1x1696_S32x1x96_0_0_1600⟩,
    ⟨S32x1x96, broadcastInDim S32x1x96 ![] bcast_S_S32x1x96 (constant S_ .f32 0x00000000#32)⟩]
    concatenates_S32x1x32_S32x1x32_S32x1x96_S32x1x96_S32x1x256_d2

theorem rest_first (a : FVec Ideal S32x1x1696 .f32) (b : Fin 32) (q : Fin 256) (h : q.val < 32) :
    rest a (ix3 b 0 q) = a (ix3 b 0 ⟨512 + q.val, by omega⟩) := by
  pointwise
  rw [dif_pos h]
theorem rest_second (a : FVec Ideal S32x1x1696 .f32) (b : Fin 32) (q : Fin 256) (h : 32 ≤ q.val) (h' : q.val < 160) :
    rest a (ix3 b 0 q) = a (ix3 b 0 ⟨1536 + q.val, by omega⟩) := by
  have n : ¬q.val < 32 := by omega
  by_cases l : q.val - 32 < 32
  · pointwise
    rw [dif_neg n, dif_pos l]
    exact congrArg (fun s : Fin 1696 => a (ix3 b 0 s)) (Fin.ext (by dsimp only; omega))
  · have l' : q.val - 32 - 32 < 96 := by omega
    pointwise
    rw [dif_neg n, dif_neg l, dif_pos l']
    exact congrArg (fun s : Fin 1696 => a (ix3 b 0 s)) (Fin.ext (by dsimp only; omega))
theorem rest_last (a : FVec Ideal S32x1x1696 .f32) (b : Fin 32) (q : Fin 256) (h : 160 ≤ q.val) : rest a (ix3 b 0 q) = 0 := by
  have n : ¬q.val < 32 := by omega
  have n' : ¬q.val - 32 < 32 := by omega
  have n'' : ¬q.val - 32 - 32 < 96 := by omega
  pointwise
  rw [dif_neg n, dif_neg n', dif_neg n'']

theorem low_eq (b : Fin 32) (q : Fin 256) : rest (shifted (products X P G W) M) (ix3 b 0 q) = low X P G W M (ix2 b q) := by
  unfold low
  by_cases h : q.val < 32
  · refine (rest_first _ b q h).trans ((shifted_apply X P G W M b _).trans (moved_at X P G W M _ _ (fun f => ?_) _).symm)
    exact (placed_fourth f ⟨1536 + q.val, by omega⟩ (by dsimp only; omega) (by dsimp only; omega)).trans (congrArg f (Fin.ext (by dsimp only; omega)))
  by_cases h' : q.val < 160
  · refine (rest_second _ b q (by omega) h').trans ((shifted_apply X P G W M b _).trans (moved_at X P G W M _ _ (fun f => ?_) _).symm)
    exact placed_fifth f ⟨1536 + q.val, by omega⟩ (by dsimp only; omega) (by dsimp only; omega)
  · refine (rest_last _ b q (by omega)).trans (moved_none X P G W M _ (fun f => ?_) _).symm
    exact placed_last f ⟨1536 + q.val, by omega⟩ (by dsimp only; omega)

theorem low_flat : shapeCast S32x256 (rest (shifted (products X P G W) M)) shapeCasts_S32x1x256_S32x256 = low X P G W M :=
  funext fun k => by
    have e : k = (ix2 (k (0 : Fin 2)) (k (1 : Fin 2)) : S32x256.Idx) := idx2_same (a := 32) (b := 256) rfl rfl
    have read (s : FVec Ideal S32x1x256 .f32) (r : Fin 32) (q : Fin 256) : shapeCast S32x256 s shapeCasts_S32x1x256_S32x256 (ix2 r q) = s (ix3 r 0 q) := by
      pointwise
    exact (congrArg _ e).trans ((read _ _ _).trans ((low_eq X P G W M _ _).trans (congrArg (low X P G W M) e.symm)))

theorem final_eq : shapeCast S32x1024 (weighted (sequences X) G) shapeCasts_S32x1x1024_S32x1024 = final X G :=
  funext fun k => by
    have e : k = (ix2 (k (0 : Fin 2)) (k (1 : Fin 2)) : S32x1024.Idx) := idx2_same (a := 32) (b := 1024) rfl rfl
    have read (y : FVec Ideal S32x1x1024 .f32) (r : Fin 32) (d : Fin 1024) : shapeCast S32x1024 y shapeCasts_S32x1x1024_S32x1024 (ix2 r d) = y (ix3 r 0 d) := by
      pointwise
    exact (congrArg _ e).trans ((read _ _ _).trans (weighted_apply X G _ _))

variable (m : (ℓ : Loc nD τ sig) → Buf (Elt Ideal) ℓ) (ρ : Dev nD → PrngReg)

abbrev aX (c : Dev nD) : FVec Ideal S32x1024 .f32 := m ((c.tc : Thread nD τ).loc main_arg0)
abbrev aG (c : Dev nD) : FVec Ideal S1024 .f32 := m ((c.tc : Thread nD τ).loc main_arg1)
abbrev aW (c : Dev nD) : FVec Ideal S1024x3744 .f32 := m ((c.tc : Thread nD τ).loc main_arg2)
abbrev aM (c : Dev nD) : FVec Ideal S1696 .f32 := m ((c.tc : Thread nD τ).loc main_arg3)
abbrev aP (c : Dev nD) : FVec Ideal S32x1024 .f32 := m ((c.tc : Thread nD τ).loc main_arg4)

/-- The reference's results after its run. -/
theorem run_value : θ_run defs (onTc (τ := τ) (main (F := Ideal))) ⟨m, fun _ => 0, ρ⟩ fun r => ∀ c : Dev nD,
      r.2.mem ((c.tc : Thread nD τ).loc main_v37) = plain (aX m c) (aG m c) (aW m c) 0
      ∧ r.2.mem ((c.tc : Thread nD τ).loc main_v38) = plain (aX m c) (aG m c) (aW m c) 1
      ∧ r.2.mem ((c.tc : Thread nD τ).loc main_v39) = plain (aX m c) (aG m c) (aW m c) 2
      ∧ r.2.mem ((c.tc : Thread nD τ).loc main_v40) = plain (aX m c) (aG m c) (aW m c) 3
      ∧ r.2.mem ((c.tc : Thread nD τ).loc main_v41) = part (aX m c) (aP m c) (aG m c) (aW m c) (aM m c) 0
      ∧ r.2.mem ((c.tc : Thread nD τ).loc main_v42) = part (aX m c) (aP m c) (aG m c) (aW m c) (aM m c) 1
      ∧ r.2.mem ((c.tc : Thread nD τ).loc main_v43) = part (aX m c) (aP m c) (aG m c) (aW m c) (aM m c) 2
      ∧ r.2.mem ((c.tc : Thread nD τ).loc main_v44) = low (aX m c) (aP m c) (aG m c) (aW m c) (aM m c)
      ∧ r.2.mem ((c.tc : Thread nD τ).loc main_v45) = final (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => by
    obtain ⟨h0, h1, h2, h3, h4, h5, h6, h7, h8, hargs⟩ := hr c
    exact ⟨h0.trans (flat_eq _ _ (plain_eq _ _ _ _ 0 slices_S32x1x2048_S32x1x512_0_0_0 0 rfl)),
      h1.trans (flat_eq _ _ (plain_eq _ _ _ _ 512 slices_S32x1x2048_S32x1x512_0_0_512 1 rfl)),
      h2.trans (flat_eq _ _ (plain_eq _ _ _ _ 1024 slices_S32x1x2048_S32x1x512_0_0_1024 2 rfl)),
      h3.trans (flat_eq _ _ (plain_eq _ _ _ _ 1536 slices_S32x1x2048_S32x1x512_0_0_1536 3 rfl)),
      h4.trans (flat_eq _ _ (part_eq _ _ _ _ _ 0 slices_S32x1x1696_S32x1x512_0_0_0 0 (by decide) fun q f =>
        placed_first f ⟨512 * 0 + q.val, by omega⟩ (by dsimp only; omega))),
      h5.trans (flat_eq _ _ (part_eq _ _ _ _ _ 544 slices_S32x1x1696_S32x1x512_0_0_544 1 (by decide) fun q f =>
        (placed_second f ⟨512 * 1 + q.val, by omega⟩ (by dsimp only; omega) (by dsimp only; omega)).trans (congrArg f (Fin.ext (by dsimp only; omega))))),
      h6.trans (flat_eq _ _ (part_eq _ _ _ _ _ 1056 slices_S32x1x1696_S32x1x512_0_0_1056 2 (by decide) fun q f =>
        (placed_third f ⟨512 * 2 + q.val, by omega⟩ (by dsimp only; omega) (by dsimp only; omega)).trans (congrArg f (Fin.ext (by dsimp only; omega))))),
      h7.trans (low_flat _ _ _ _ _), h8.trans (final_eq _ _), hargs⟩) (Value.run m ρ)

end Cert.Reference9Ideal.Shift

namespace Cert.Proof.Shift

open Idealize.ShloMosaic Idealize.SL.Sem

/-- The equation of the second layer's input projection of the sample's rows. -/
theorem equation_sample : Cert.algebraic_Kernel9Ideal_Reference9Ideal (hKernel9Ideal := Cert.Kernel9Ideal.Gen.facts)
    (hReference9Ideal := Cert.Reference9Ideal.Gen.facts) := by
  intro m g m' g' hpre hargs
  refine ⟨_, _, _, _, _, _, _, _, _, Cert.Kernel9Ideal.Shift.run_value m g, ?_⟩
  refine (θ_run Cert.Reference9Ideal.defs _ _).mono (fun r hr c => ?_) (Cert.Reference9Ideal.Shift.run_value m' g')
  obtain ⟨e0, e1, e2, e3, e4⟩ := hargs c
  obtain ⟨h0, h1, h2, h3, h4, h5, h6, h7, h8, hk⟩ := hr c
  unfold Cert.Reference9Ideal.Shift.aX Cert.Reference9Ideal.Shift.aG at h0 h1 h2 h3 h4 h5 h6 h7 h8
  unfold Cert.Reference9Ideal.Shift.aW at h0 h1 h2 h3 h4 h5 h6 h7
  unfold Cert.Reference9Ideal.Shift.aM Cert.Reference9Ideal.Shift.aP at h4 h5 h6 h7
  rw [e0, e1, e2] at h0 h1 h2 h3
  rw [e0, e1, e2, e3, e4] at h4 h5 h6 h7
  rw [e0, e1] at h8
  exact ⟨h0, h1, h2, h3, h4, h5, h6, h7, h8, hk⟩

end Cert.Proof.Shift

end
-- ==== Proof.Bias.Value.lean ====
/- The relative-position bias: what its kernel leaves. -/
module

public import proofs.«01_k».proof.Defs
public import proofs.«01_k».proof.Proof.Gen.Kernel7Ideal.Value
public import proofs.«01_k».proof.Proof.Rows.Index

@[expose] public section

set_option maxRecDepth 16384

noncomputable section

namespace Cert.Kernel7Ideal.Bias

open Cert.Kernel7Ideal Cert.Kernel7Ideal.Gen Cert.Proof.Index
open Idealize.ShloMosaic Idealize.ShloMosaic.TcCoe Idealize.SL.Sem
open Idealize.ShloMosaic.Pipeline (Dat Window)
open scoped BigOperators

/-! ## One bucket's entry of a table -/

/-- The value `v` where the bucket `w` is the number `n`, and the old one elsewhere. -/
def pick (w n : BitVec 32) (v old : EReal) : EReal := Scalar.select (IntOp.cmpi .eq w n) v old

theorem pick_eq (w n : BitVec 32) (v old : EReal) : pick w n v old = if w = n then v else old := by
  unfold pick
  rw [WordCmp.cmpi_eq_eq, WordCmp.select_ofBool]
  simp only [decide_eq_true_eq]

/-- The first `n` entries of a table, each put in turn where the bucket is its number. -/
def among (f : ℕ → EReal) (w : BitVec 32) : ℕ → EReal
  | 0 => 0
  | n + 1 => pick w (BitVec.ofNat 32 n) (f n) (among f w n)

theorem among_step (f : ℕ → EReal) (w : BitVec 32) (n : ℕ) {v old : EReal} (hv : v = f n) (ho : old = among f w n) :
    pick w (BitVec.ofNat 32 n) v old = among f w (n + 1) := congrArg₂ (pick w (BitVec.ofNat 32 n)) hv ho

/-- They are the sum of the entries, each times its mark. -/
theorem among_eq (f : ℕ → EReal) (w : BitVec 32) : ∀ n : ℕ, n ≤ 32 →
    among f w n = ∑ e : Fin n, (if w = BitVec.ofNat 32 e.val then (1 : EReal) else 0) * f e.val
  | 0, _ => by simp [among]
  | n + 1, hn => by
    rw [Fin.sum_univ_castSucc]
    show pick w (BitVec.ofNat 32 n) (f n) (among f w n) = _
    rw [pick_eq, among_eq f w n (by omega)]
    by_cases h : w = BitVec.ofNat 32 n
    · rw [if_pos h]
      have z : ∑ e : Fin n, (if w = BitVec.ofNat 32 (e.castSucc).val then (1 : EReal) else 0) * f (e.castSucc).val = 0 :=
        Finset.sum_eq_zero fun e _ => by
          have hne : w ≠ BitVec.ofNat 32 (e.castSucc).val := fun h' => by
            have e1 := congrArg BitVec.toNat (h.symm.trans h')
            have e2 := e.isLt
            simp only [BitVec.toNat_ofNat, Fin.val_castSucc] at e1
            omega
          rw [if_neg hne, zero_mul]
      rw [z, zero_add]
      show f n = (if w = BitVec.ofNat 32 n then (1 : EReal) else 0) * f n
      rw [if_pos h, one_mul]
    · rw [if_neg h]
      show _ = _ + (if w = BitVec.ofNat 32 n then (1 : EReal) else 0) * f n
      rw [if_neg h, zero_mul, add_zero]
      rfl

theorem all_three {p : Fin 3 → Prop} (h0 : p 0) (h1 : p 1) (h2 : p 2) : ∀ a, p a
  | 0 => h0 | 1 => h1 | 2 => h2

/-! ## The stored values -/

section Payloads
variable (w : Vec Ideal S2x256x256 .i32) (z : FVec Ideal S2x256x256 .f32) (p : Fin 2) (a b : Fin 256)

theorem first_apply (u0 u1 u2 u3 u4 u5 : EReal) : k0_pay2 (F := Ideal) w u0 u1 u2 u3 u4 u5 (ix3 p a b) =
    pick (w (ix3 p a b)) 5#32 u5 (pick (w (ix3 p a b)) 4#32 u4 (pick (w (ix3 p a b)) 3#32 u3 (pick (w (ix3 p a b)) 2#32 u2
      (pick (w (ix3 p a b)) 1#32 u1 (pick (w (ix3 p a b)) 0#32 u0 0))))) := by
  unfold k0_pay2 pick
  pointwise
theorem second_apply (u0 u1 u2 u3 u4 u5 u6 u7 : EReal) : k0_pay4 (F := Ideal) w z (k0_pay3 (F := Ideal) w) u0 u1 u2 u3 u4 u5 u6 u7 (ix3 p a b) =
    pick (w (ix3 p a b)) 13#32 u7 (pick (w (ix3 p a b)) 12#32 u6 (pick (w (ix3 p a b)) 11#32 u5 (pick (w (ix3 p a b)) 10#32 u4
      (pick (w (ix3 p a b)) 9#32 u3 (pick (w (ix3 p a b)) 8#32 u2 (pick (w (ix3 p a b)) 7#32 u1 (pick (w (ix3 p a b)) 6#32 u0 (z (ix3 p a b))))))))) := by
  unfold k0_pay4 k0_pay3 pick
  pointwise
theorem third_apply (n : BitVec 32) (u0 u1 u2 u3 u4 u5 u6 : EReal) : k0_pay5 (F := Ideal) w z n u0 u1 u2 u3 u4 u5 u6 (ix3 p a b) =
    pick (w (ix3 p a b)) 20#32 u6 (pick (w (ix3 p a b)) 19#32 u5 (pick (w (ix3 p a b)) 18#32 u4 (pick (w (ix3 p a b)) 17#32 u3
      (pick (w (ix3 p a b)) 16#32 u2 (pick (w (ix3 p a b)) 15#32 u1 (pick (w (ix3 p a b)) n u0 (z (ix3 p a b)))))))) := by
  unfold k0_pay5 pick
  pointwise
theorem fourth_apply (u0 u1 u2 u3 u4 u5 u6 u7 : EReal) : k0_pay7 (F := Ideal) w z (k0_pay6 (F := Ideal) w) u0 u1 u2 u3 u4 u5 u6 u7 (ix3 p a b) =
    pick (w (ix3 p a b)) 28#32 u7 (pick (w (ix3 p a b)) 27#32 u6 (pick (w (ix3 p a b)) 26#32 u5 (pick (w (ix3 p a b)) 25#32 u4
      (pick (w (ix3 p a b)) 24#32 u3 (pick (w (ix3 p a b)) 23#32 u2 (pick (w (ix3 p a b)) 22#32 u1 (pick (w (ix3 p a b)) 21#32 u0 (z (ix3 p a b))))))))) := by
  unfold k0_pay7 k0_pay6 pick
  pointwise
theorem last_apply (n : BitVec 32) (u0 u1 u2 : EReal) : k0_pay1 (F := Ideal) w z n u0 u1 u2 (ix4 0 p a b) =
    pick (w (ix3 p a b)) 31#32 u2 (pick (w (ix3 p a b)) 30#32 u1 (pick (w (ix3 p a b)) n u0 (z (ix3 p a b)))) := by
  unfold k0_pay1 pick
  pointwise
end Payloads

/-! ## What a point leaves -/

/-- The entries of one head, by number. -/
abbrev entries (X : S32x8.Idx → EReal) (h : Fin 8) (n : ℕ) : EReal := X (ix2 (Fin.ofNat 32 n) h)

/-- A word read from the table is the entry at its offset, the head being the point's. -/
theorem load (i : grid0.Coords) (arg1 : Memref sig .tc .smem S32x8 .f32) (harg1 : arg1.IsWhole) (x0 : Vec Ideal S32x8 .f32) (off : Fin 2 → ℕ)
    (hoff : ∀ a, off a + S1x1.size a ≤ S32x8.size a) (n : ℕ) (hn : n < 32) (h0 : off 0 = n) (h1 : off 1 = (BitVec.ofNat 32 (i 0).val).toNat) (hp) :
    View.readAt (Elt Ideal) arg1.view (Rect.unit (s := S32x8) off S1x1.size hoff).toLoadRect (harg1.unread x0) (Shape.Idx.first hp)
      = entries x0 (i 0) n := by
  rw [View.readAt_eq_ld, harg1.read_unread]
  have hi : (BitVec.ofNat 32 (i 0).val).toNat = (i 0).val := Nat.mod_eq_of_lt (lt_trans (i 0).isLt (by decide))
  refine congrArg x0 (idx2_same (a := 32) (b := 8) ?_ ?_)
  · show off 0 + 1 * 0 = n % 32
    rw [h0, Nat.mod_eq_of_lt hn, Nat.mul_zero, Nat.add_zero]
  · show off 1 + 1 * 0 = (i 0).val
    rw [h1, hi, Nat.mul_zero, Nat.add_zero]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point leaves, at each place, its head's entry at the place's bucket. -/
theorem out_apply (c : Dev nD) (i : grid0.Coords) (arg1 : Memref sig .tc .smem S32x8 .f32) (harg1 : arg1.IsWhole)
    (arg2 : Memref sig .tc .vmem S2x256x256 .i32) (harg2 : arg2.IsWhole) (arg3 : Memref sig .tc .vmem S1x2x256x256 .f32) (harg3 : arg3.IsWhole)
    (x0 : Vec Ideal S32x8 .f32) (x1 : Vec Ideal S2x256x256 .i32) (p : Fin 2) (a b : Fin 256) :
    out0_A_2 c i arg1 harg1 arg2 harg2 arg3 harg3 x0 x1 (ix4 0 p a b) = among (entries x0 (i 0)) (x1 (ix3 p a b)) 32 := by
  unfold out0_A_2
  simp only [View.read_writes_eq_canon, cover0_A_2, implies_true]
  unfold kernelRun0_A
  dsimp only
  sl_unfold_words
  simp only [View.canon_unit_zero (S := S1x2x256x256) hz4, last_apply, first_apply, second_apply, third_apply, fourth_apply]
  have hw : View.readAt (Elt Ideal) arg2.view (Rect.unit (s := S2x256x256) ![0, 0, 0] ![2, 256, 256] inb_S2x256x256_S2x256x256_0_0_0).toLoadRect
      (harg2.unread x1) (ix3 p a b) = x1 (ix3 p a b) := by
    rw [View.readAt_eq_ld, harg2.read_unread]
    exact congrFun (View.ld_unit_zero (S := S2x256x256) hz3 _ x1) _
  rw [hw]
  repeat refine among_step _ _ _ (load i arg1 harg1 x0 _ _ _ (Nat.le_of_ble_eq_true rfl) rfl rfl _) ?_
  rfl

/-! ## The array -/

variable (m : (ℓ : Loc nD τ sig) → Buf (Elt Ideal) ℓ) (c : Dev nD)

abbrev aX : S32x8.Idx → EReal := m ((c : Thread nD τ).loc main_arg0)
abbrev aB : S2x256x256.Idx → BitVec 32 := m ((c : Thread nD τ).loc main_arg1)

/-- The bias of each head at each place: the table's entry at the place's bucket, as the sum over the table of its entries times their marks. -/
def result (X : S32x8.Idx → EReal) (B : S2x256x256.Idx → BitVec 32) (k : S8x2x256x256.Idx) : EReal :=
  ∑ e : Fin 32, (if B (ix3 (k 1) (k 2) (k 3)) = BitVec.ofNat 32 e.val then (1 : EReal) else 0) * X (ix2 e (k 0))

theorem index0 : ∀ t : Fin grid0.N, win0_0.index t = ![0, 0] := by decide +kernel
theorem index1 : ∀ t : Fin grid0.N, win0_1.index t = ![0, 0, 0] := by decide +kernel
theorem index2 : ∀ t : Fin grid0.N, win0_2.index t = ![(grid0.coords t 0).val, 0, 0, 0] := by decide +kernel

theorem read_table (t : Fin cfg0.N) (e : Fin 32) (h : Fin 8) : iblk m c 0 t (ix2 e h) = aX m c (ix2 e h) := by
  unfold iblk
  exact congrArg (aX m c) (emb_same (cfg0.win 0) t rfl _ (index0 t) (ix2 e h) (ix2 e h) (Fin.forall_fin_two.mpr ⟨Nat.zero_add _, Nat.zero_add _⟩))
theorem read_buckets (t : Fin cfg0.N) (p : Fin 2) (a b : Fin 256) : iblk m c 1 t (ix3 p a b) = aB m c (ix3 p a b) := by
  unfold iblk
  exact congrArg (aB m c) (emb_same (cfg0.win 1) t rfl _ (index1 t) (ix3 p a b) (ix3 p a b) (all_three (Nat.zero_add _) (Nat.zero_add _) (Nat.zero_add _)))

theorem point (t : Fin cfg0.N) (p : Fin 2) (a b : Fin 256) :
    outsAt0 m c t (ix4 0 p a b) = result (aX m c) (aB m c) (ix4 (grid0.coords t 0) p a b) := by
  unfold outsAt0
  refine (out_apply c _ _ _ _ _ _ _ _ _ p a b).trans ?_
  rw [among_eq _ _ 32 (le_refl _), read_buckets]
  refine Finset.sum_congr rfl fun e _ => congrArg (fun v : EReal => (if aB m c (ix3 p a b) = BitVec.ofNat 32 e.val then (1 : EReal) else 0) * v) ?_
  show iblk m c 0 t (ix2 (Fin.ofNat 32 e.val) (grid0.coords t 0)) = _
  refine (read_table m c t _ (grid0.coords t 0)).trans ?_
  exact congrArg (fun e => aX m c (ix2 e (grid0.coords t 0))) (Fin.ext (Nat.mod_eq_of_lt e.isLt))

theorem array : (dats m 0 c).arrAt 2 cfg0.N = result (aX m c) (aB m c) :=
  (dats m 0 c).arrAt_eq_of_covers 2 _ (by decide +kernel) fun t _ y => by
    have e : y = ix4 (0 : Fin 1) (y (1 : Fin 4)) (y (2 : Fin 4)) (y (3 : Fin 4)) :=
      idx4_same (a := 1) (b := 2) (c := 256) (d := 256) (Nat.lt_one_iff.mp (y (0 : Fin 4)).isLt) rfl rfl rfl
    exact ((congrFun (after0_2 m c t) _).trans ((congrArg (outsAt0 m c t) e).trans (point m c t _ _ _))).trans
      (congrArg (result (aX m c) (aB m c)) (emb_same (cfg0.win 2) t rfl _ (index2 t) y _
        (all_four (by show (grid0.coords t 0).val * 1 + (y (0 : Fin 4)).val = (grid0.coords t 0).val; have h := Nat.lt_one_iff.mp (y (0 : Fin 4)).isLt; omega)
          (Nat.zero_add _) (Nat.zero_add _) (Nat.zero_add _))).symm)

/-- The kernel's result after its run. -/
theorem run_value (g : Dev nD → PrngReg) : θ_run defs (onTc (τ := τ) (main (F := Ideal))) ⟨m, fun _ => 0, g⟩ fun r => ∀ c : Dev nD,
      r.2.mem ((c : Thread nD τ).loc main_v0) = result (aX m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans (array m c), (hr c).2⟩) (Value.run_blocks m g)

end Cert.Kernel7Ideal.Bias

end
-- ==== Proof.Bias.Ref.lean ====
/- The relative-position bias: what its reference computes, and that its kernel gives the same. -/
module

public import proofs.«01_k».proof.Defs
public import proofs.«01_k».proof.Proof.Gen.Reference7Ideal.Run
public import proofs.«01_k».proof.Proof.Bias.Value

@[expose] public section

set_option maxRecDepth 16384

noncomputable section

namespace Cert.Reference7Ideal.Bias

open Cert.Reference7Ideal Cert.Reference7Ideal.Gen Cert.Reference7Ideal.Value Cert.Proof.Index
open Idealize.ShloMosaic Idealize.ShloMosaic.TcCoe Idealize.SL.Sem
open scoped BigOperators

/-- A mark is one at its bucket and zero elsewhere. -/
theorem mark_eq (a : BitVec 32) (e : ℕ) :
    FloatOps.uitofp (F := Ideal) FTy.f32 (IntOp.cmpi CmpIPredicate.eq a (BitVec.ofNat 32 e)) = if a = BitVec.ofNat 32 e then (1 : EReal) else 0 := by
  show (((BitVec.ofBool (a == BitVec.ofNat 32 e)).toNat : ℝ) : EReal) = _
  by_cases h : a = BitVec.ofNat 32 e
  · rw [if_pos h, h, beq_self_eq_true]; simp
  · rw [if_neg h, beq_false_of_ne h]; simp

/-- The marks of every place: one at the number that is its bucket. -/
abbrev marks (B : IVec S2x256x256 32) : FVec Ideal S2x256x256x32 .f32 :=
  uitofp .f32 (cmpi .eq (broadcastInDim S2x256x256x32 ![0, 1, 2, 3] bcast_S2x256x256x1_S2x256x256x32_0_1_2_3
      (broadcastInDim S2x256x256x1 ![0, 1, 2] bcast_S2x256x256_S2x256x256x1_0_1_2 B))
    (broadcastInDim S2x256x256x32 ![0, 1, 2, 3] bcast_S1x1x1x32_S2x256x256x32_0_1_2_3 (iotaInDim S1x1x1x32 32 3)))

theorem marks_apply (B : IVec S2x256x256 32) (p : Fin 2) (a b : Fin 256) (e : Fin 32) :
    marks B (ix4 p a b e) = if B (ix3 p a b) = BitVec.ofNat 32 e.val then (1 : EReal) else 0 := by
  refine Eq.trans ?_ (mark_eq _ _)
  unfold marks
  pointwise

theorem value_apply (X : FVec Ideal S32x8 .f32) (M : FVec Ideal S2x256x256x32 .f32) (h : Fin 8) (p : Fin 2) (a b : Fin 256) :
    transpose S8x2x256x256 [3, 0, 1, 2] (Host.dotGeneral dot_S2x256x256x32_S32x8_S2x256x256x8_3_0_012_1_n_n none M X)
      transposes_S2x256x256x8_S8x2x256x256_3_0_1_2 (ix4 h p a b) = ∑ e : Fin 32, M (ix4 p a b e) * X (ix2 e h) := by
  pointwise [dot_S2x256x256x32_S32x8_S2x256x256x8_3_0_012_1_n_n]

theorem value_eq (X : FVec Ideal S32x8 .f32) (B : IVec S2x256x256 32) :
    transpose S8x2x256x256 [3, 0, 1, 2] (Host.dotGeneral dot_S2x256x256x32_S32x8_S2x256x256x8_3_0_012_1_n_n none (marks B) X)
      transposes_S2x256x256x8_S8x2x256x256_3_0_1_2 = Cert.Kernel7Ideal.Bias.result X B := by
  funext k
  have e : k = ix4 (k (0 : Fin 4)) (k (1 : Fin 4)) (k (2 : Fin 4)) (k (3 : Fin 4)) := idx4_same (a := 8) (b := 2) (c := 256) (d := 256) rfl rfl rfl rfl
  refine (congrArg _ e).trans ((value_apply X (marks B) _ _ _ _).trans ?_)
  unfold Cert.Kernel7Ideal.Bias.result
  exact Finset.sum_congr rfl fun e _ => congrArg (· * _) (marks_apply B _ _ _ e)

variable (m : (ℓ : Loc nD τ sig) → Buf (Elt Ideal) ℓ) (ρ : Dev nD → PrngReg)

abbrev bias (c : Dev nD) : S8x2x256x256.Idx → EReal :=
  Cert.Kernel7Ideal.Bias.result (m ((c.tc : Thread nD τ).loc main_arg0)) (m ((c.tc : Thread nD τ).loc main_arg1))

/-- The reference's result after its run. -/
theorem run_value : θ_run defs (onTc (τ := τ) (main (F := Ideal))) ⟨m, fun _ => 0, ρ⟩ fun r => ∀ c : Dev nD,
      r.2.mem ((c.tc : Thread nD τ).loc main_v2) = bias m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => ⟨(hr c).1.trans (value_eq _ _), (hr c).2⟩) (Value.run m ρ)

end Cert.Reference7Ideal.Bias

namespace Cert.Proof.Bias

open Idealize.ShloMosaic Idealize.SL.Sem

/-- The equation of the bias. -/
theorem equation_bias : Cert.algebraic_Kernel7Ideal_Reference7Ideal (hKernel7Ideal := Cert.Kernel7Ideal.Gen.facts)
    (hReference7Ideal := Cert.Reference7Ideal.Gen.facts) := by
  intro m g m' g' hpre hargs
  refine ⟨_, Cert.Kernel7Ideal.Bias.run_value m g, ?_⟩
  refine (θ_run Cert.Reference7Ideal.defs _ _).mono (fun r hr c => ?_) (Cert.Reference7Ideal.Bias.run_value m' g')
  obtain ⟨e0, e1⟩ := hargs c
  have h := hr c
  unfold Cert.Reference7Ideal.Bias.bias at h
  rw [e0, e1] at h
  refine ⟨h.1, ?_⟩
  rw [e0, e1]
  exact h.2

end Cert.Proof.Bias

end
-- ==== Proof.Step.Value.lean ====
/- One step of the two recurrences: the states its kernel leaves. -/
module

public import proofs.«01_k».proof.Defs
public import proofs.«01_k».proof.Proof.Gen.Kernel8Ideal.Value
public import proofs.«01_k».proof.Proof.Rows.Index

@[expose] public section

set_option maxRecDepth 16384

noncomputable section

namespace Cert.Kernel8Ideal.Step

open Cert.Kernel8Ideal Cert.Kernel8Ideal.Gen Cert.Proof.Index
open Idealize.ShloMosaic Idealize.ShloMosaic.TcCoe Idealize.SL.Sem
open Idealize.ShloMosaic.Pipeline (Dat Window)
open scoped BigOperators

/-! ## A row stood up as a column -/

/-- A row laid on the diagonal of a square, and the lines of the square summed. -/
def column128 (r : FVec Ideal S1x128 .f32) : FVec Ideal S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128 r shapeCasts_S1x128_S1x128) broadcasts_S1x128_S128x128)
      (broadcast S128x128 (Scalar.ofBits .f32 0x00000000#32 : Ideal .f32)))
    0x00000000#32 reduces_S128x128_S128 (.inl rfl) rfl) shapeCasts_S128_S128x1
def column64 (r : FVec Ideal S1x64 .f32) : FVec Ideal S64x1 .f32 :=
  shapeCast S64x1 (multiReduction .add [1] S64
    (select (cmpi .eq (iota .tc S64x64 32 [0] iota_S64x64_d0_w32) (iota .tc S64x64 32 [1] iota_S64x64_d1_w32))
      (broadcastTo S64x64 (shapeCast S1x64 r shapeCasts_S1x64_S1x64) broadcasts_S1x64_S64x64)
      (broadcast S64x64 (Scalar.ofBits .f32 0x00000000#32 : Ideal .f32)))
    0x00000000#32 reduces_S64x64_S64 (.inl rfl) rfl) shapeCasts_S64_S64x1

/-- The sum along a line of the square has one entry in it that is not zero. -/
theorem diagonal {n : ℕ} (hn : n ≤ 128) (i : Fin n) (r : Fin n → EReal) :
    ∑ j : Fin n, Scalar.select (IntOp.cmpi .eq (BitVec.ofNat 32 i.val) (BitVec.ofNat 32 j.val)) (r j) 0 = r i := by
  refine (Finset.sum_eq_single i (fun j _ hj => ?_) (fun h => absurd (Finset.mem_univ i) h)).trans ?_
  · have hne : ¬ BitVec.ofNat 32 i.val = BitVec.ofNat 32 j.val := fun h => hj (Fin.ext (by
      have e := congrArg BitVec.toNat h
      have hi := i.isLt
      have hj := j.isLt
      simp only [BitVec.toNat_ofNat] at e
      omega))
    rw [WordCmp.cmpi_eq_eq, WordCmp.select_ofBool]
    simp only [decide_eq_true_eq]
    exact if_neg hne
  · rw [WordCmp.cmpi_eq_eq, WordCmp.select_ofBool]
    simp only [decide_eq_true_eq]
    exact if_pos trivial

theorem column128_apply (r : FVec Ideal S1x128 .f32) (d : Fin 128) : column128 r (ix2 d 0) = r (ix2 0 d) := by
  unfold column128
  refine Eq.trans ?_ (diagonal (by decide) d fun j => r (ix2 0 j))
  pointwise
theorem column64_apply (r : FVec Ideal S1x64 .f32) (d : Fin 64) : column64 r (ix2 d 0) = r (ix2 0 d) := by
  unfold column64
  refine Eq.trans ?_ (diagonal (by decide) d fun j => r (ix2 0 j))
  pointwise

/-! ## One head of each recurrence -/

/-- One head of the gated linear recurrence: the state forgotten by the gate, and the input written where the gate is not. -/
def hgrnHead (o : ℕ) (hs : S1x512.Slices ![0, o] S1x128) (f k i : FVec Ideal S1x512 .f32) (s : FVec Ideal S1x1x128x128 .f32) : FVec Ideal S1x1x128x128 .f32 :=
  shapeCast S1x1x128x128 (addf
    (mulf (shapeCast S128x128 s shapeCasts_S1x1x128x128_S128x128)
      (broadcastTo S128x128 (column128 (extractStridedSlice S1x128 ![0, o] f hs)) broadcasts_S128x1_S128x128))
    (mulf (broadcastTo S128x128 (column128 (extractStridedSlice S1x128 ![0, o] k hs)) broadcasts_S128x1_S128x128)
      (broadcastTo S128x128 (extractStridedSlice S1x128 ![0, o] i hs) broadcasts_S1x128_S128x128))) shapeCasts_S128x128_S1x1x128x128

/-- One head of the delta-rule recurrence: the state decayed, its row along the key removed, and the value written along the key. -/
def rwkvHead (o : ℕ) (hs : S1x512.Slices ![0, o] S1x64) (w k v kk kka : FVec Ideal S1x512 .f32) (s : FVec Ideal S1x1x64x64 .f32) : FVec Ideal S1x1x64x64 .f32 :=
  shapeCast S1x1x64x64 (addf (addf
    (mulf (shapeCast S64x64 s shapeCasts_S1x1x64x64_S64x64) (broadcastTo S64x64 (extractStridedSlice S1x64 ![0, o] w hs) broadcasts_S1x64_S64x64))
    (mulf (broadcastTo S64x64 (shapeCast S64x1 (multiReduction .add [1] S64
        (mulf (shapeCast S64x64 s shapeCasts_S1x1x64x64_S64x64)
          (broadcastTo S64x64 (subf (broadcast S1x64 (Scalar.ofBits .f32 0x00000000#32 : Ideal .f32)) (extractStridedSlice S1x64 ![0, o] kk hs)) broadcasts_S1x64_S64x64))
        0x00000000#32 reduces_S64x64_S64 (.inl rfl) rfl) shapeCasts_S64_S64x1) broadcasts_S64x1_S64x64)
      (broadcastTo S64x64 (extractStridedSlice S1x64 ![0, o] kka hs) broadcasts_S1x64_S64x64)))
    (mulf (broadcastTo S64x64 (column64 (extractStridedSlice S1x64 ![0, o] v hs)) broadcasts_S64x1_S64x64)
      (broadcastTo S64x64 (extractStridedSlice S1x64 ![0, o] k hs) broadcasts_S1x64_S64x64))) shapeCasts_S64x64_S1x1x64x64

/-- The lane of a head's entry. -/
def lane128 (h : Fin 4) (d : Fin 128) : Fin 512 := ⟨h.val * 128 + d.val, by omega⟩
def lane64 (h : Fin 8) (d : Fin 64) : Fin 512 := ⟨h.val * 64 + d.val, by omega⟩

theorem slice128 (o : ℕ) (hs : S1x512.Slices ![0, o] S1x128) (X : FVec Ideal S1x512 .f32) (h : Fin 4) (ho : o = h.val * 128) (d : Fin 128) :
    extractStridedSlice S1x128 ![0, o] X hs (ix2 0 d) = X (ix2 0 (lane128 h d)) :=
  congrArg X (idx2_same (a := 1) (b := 512) rfl (by subst ho; rfl))
theorem slice64 (o : ℕ) (hs : S1x512.Slices ![0, o] S1x64) (X : FVec Ideal S1x512 .f32) (h : Fin 8) (ho : o = h.val * 64) (d : Fin 64) :
    extractStridedSlice S1x64 ![0, o] X hs (ix2 0 d) = X (ix2 0 (lane64 h d)) :=
  congrArg X (idx2_same (a := 1) (b := 512) rfl (by subst ho; rfl))

theorem hgrnHead_apply (o : ℕ) (hs : S1x512.Slices ![0, o] S1x128) (f k i : FVec Ideal S1x512 .f32) (s : FVec Ideal S1x1x128x128 .f32)
    (h : Fin 4) (ho : o = h.val * 128) (d e : Fin 128) : hgrnHead o hs f k i s (ix4 0 0 d e)
      = s (ix4 0 0 d e) * f (ix2 0 (lane128 h d)) + k (ix2 0 (lane128 h d)) * i (ix2 0 (lane128 h e)) := by
  rw [← slice128 o hs f h ho, ← slice128 o hs k h ho, ← slice128 o hs i h ho, ← column128_apply (extractStridedSlice S1x128 ![0, o] f hs),
    ← column128_apply (extractStridedSlice S1x128 ![0, o] k hs)]
  unfold hgrnHead
  generalize column128 (extractStridedSlice S1x128 ![0, o] f hs) = F
  generalize column128 (extractStridedSlice S1x128 ![0, o] k hs) = K
  generalize extractStridedSlice S1x128 ![0, o] i hs = I
  pointwise

theorem rwkvHead_apply (o : ℕ) (hs : S1x512.Slices ![0, o] S1x64) (w k v kk kka : FVec Ideal S1x512 .f32) (s : FVec Ideal S1x1x64x64 .f32)
    (h : Fin 8) (ho : o = h.val * 64) (a b : Fin 64) : rwkvHead o hs w k v kk kka s (ix4 0 0 a b)
      = s (ix4 0 0 a b) * w (ix2 0 (lane64 h b))
        + (∑ j : Fin 64, s (ix4 0 0 a j) * (0 - kk (ix2 0 (lane64 h j)))) * kka (ix2 0 (lane64 h b))
        + v (ix2 0 (lane64 h a)) * k (ix2 0 (lane64 h b)) := by
  simp only [← slice64 o hs _ h ho]
  rw [← column64_apply (extractStridedSlice S1x64 ![0, o] v hs)]
  unfold rwkvHead
  generalize column64 (extractStridedSlice S1x64 ![0, o] v hs) = V
  generalize extractStridedSlice S1x64 ![0, o] w hs = W
  generalize extractStridedSlice S1x64 ![0, o] k hs = K
  generalize extractStridedSlice S1x64 ![0, o] kk hs = KK
  generalize extractStridedSlice S1x64 ![0, o] kka hs = KA
  pointwise

/-! ## What a point leaves -/

/-- The share of a logit among two. -/
def weight (l l0 l1 : EReal) : EReal := Ideal.div (Ideal.exp (l - max l0 l1)) (Ideal.exp (l0 - max l0 l1) + Ideal.exp (l1 - max l0 l1))
/-- The least a gate may be: the running sum of the two shares, less the first. -/
def bound (l0 l1 : EReal) : EReal := weight l0 l0 l1 + weight l1 l0 l1 - weight l0 l0 l1
/-- The gate: from its bound up to one, by the logistic of its input. -/
def gate (l0 l1 z : EReal) : EReal := bound l0 l1 + (1 - bound l0 l1) * Ideal.logistic z

section Rows
variable (x : Vec Ideal S1x1x512 .f32) (l0 l1 : Vec Ideal S1x512 .f32) (j : Fin 512)
theorem gate_row : k0_pay1 (F := Ideal) x l0 l1 (ix2 0 j) = gate (l0 (ix2 0 j)) (l1 (ix2 0 j)) (x (ix3 0 0 j)) := by
  unfold k0_pay1 gate bound weight
  pointwise
theorem rest_row : k0_pay3 (F := Ideal) x l0 l1 (ix2 0 j) = 1 - gate (l0 (ix2 0 j)) (l1 (ix2 0 j)) (x (ix3 0 0 j)) := by
  rw [← gate_row]
  unfold k0_pay3
  generalize k0_pay1 x l0 l1 = g
  pointwise
theorem input_row : k0_pay4 (F := Ideal) x (ix2 0 j) = x (ix3 0 0 j) := by
  unfold k0_pay4
  pointwise
theorem decay_row : k0_pay31 (F := Ideal) x (ix2 0 j) = Ideal.exp (x (ix3 0 0 j)) := by
  unfold k0_pay31
  pointwise
theorem key_row : k0_pay32 (F := Ideal) x (ix2 0 j) = x (ix3 0 0 j) := by
  unfold k0_pay32
  pointwise
theorem value_row : k0_pay33 (F := Ideal) x (ix2 0 j) = x (ix3 0 0 j) := by
  unfold k0_pay33
  pointwise
theorem removed_row : k0_pay34 (F := Ideal) x (ix2 0 j) = x (ix3 0 0 j) := by
  unfold k0_pay34
  pointwise
theorem gained_row : k0_pay35 (F := Ideal) x (ix2 0 j) = x (ix3 0 0 j) := by
  unfold k0_pay35
  pointwise
end Rows

section Out
variable (x0 x1 x2 x3 x4 x5 x6 x7 x8 x9 x10 x11 : Vec Ideal S1x1x512 .f32) (x12 : Vec Ideal S1x4x128x128 .f32) (x13 : Vec Ideal S1x8x64x64 .f32)
  (x14 : Vec Ideal S2x512 .f32) (x15 : Vec Ideal S1x128 .f32) (x16 : Vec Ideal S8x512 .f32)

/-- The heads of the first recurrence, each the head of its own lanes. -/
abbrev hgrnOf (o : ℕ) (hs : S1x512.Slices ![0, o] S1x128) (s : Vec Ideal S1x1x128x128 .f32) : FVec Ideal S1x1x128x128 .f32 :=
  hgrnHead o hs (k0_pay1 (View.ld x1 r0_0) (View.ld x14 r0_1) (View.ld x14 r0_2)) (k0_pay3 (View.ld x1 r0_0) (View.ld x14 r0_1) (View.ld x14 r0_2))
    (k0_pay4 (View.ld x2 r0_0)) s
theorem out18_heads : out0_18 x0 x1 x2 x3 x4 x5 x6 x7 x8 x9 x10 x11 x12 x13 x14 x15 x16
    = View.canon [⟨r0_7, hgrnOf x1 x2 x14 384 slices_S1x512_o0_384_S1x128 (View.ld x12 r0_7)⟩,
      ⟨r0_6, hgrnOf x1 x2 x14 256 slices_S1x512_o0_256_S1x128 (View.ld x12 r0_6)⟩,
      ⟨r0_5, hgrnOf x1 x2 x14 128 slices_S1x512_o0_128_S1x128 (View.ld x12 r0_5)⟩,
      ⟨r0_3, hgrnOf x1 x2 x14 0 slices_S1x512_o0_0_S1x128 (View.ld x12 r0_3)⟩] := rfl

/-- The heads of the second. -/
abbrev rwkvOf (o : ℕ) (hs : S1x512.Slices ![0, o] S1x64) (s : Vec Ideal S1x1x64x64 .f32) : FVec Ideal S1x1x64x64 .f32 :=
  rwkvHead o hs (k0_pay31 (View.ld x5 r0_0)) (k0_pay32 (View.ld x6 r0_0)) (k0_pay33 (View.ld x7 r0_0)) (k0_pay34 (View.ld x8 r0_0))
    (k0_pay35 (View.ld x9 r0_0)) s
theorem out19_heads : out0_19 x0 x1 x2 x3 x4 x5 x6 x7 x8 x9 x10 x11 x12 x13 x14 x15 x16
    = View.canon [⟨r0_15, rwkvOf x5 x6 x7 x8 x9 448 slices_S1x512_o0_448_S1x64 (View.ld x13 r0_15)⟩,
      ⟨r0_14, rwkvOf x5 x6 x7 x8 x9 384 slices_S1x512_o0_384_S1x64 (View.ld x13 r0_14)⟩,
      ⟨r0_13, rwkvOf x5 x6 x7 x8 x9 320 slices_S1x512_o0_320_S1x64 (View.ld x13 r0_13)⟩,
      ⟨r0_12, rwkvOf x5 x6 x7 x8 x9 256 slices_S1x512_o0_256_S1x64 (View.ld x13 r0_12)⟩,
      ⟨r0_11, rwkvOf x5 x6 x7 x8 x9 192 slices_S1x512_o0_192_S1x64 (View.ld x13 r0_11)⟩,
      ⟨r0_10, rwkvOf x5 x6 x7 x8 x9 128 slices_S1x512_o0_128_S1x64 (View.ld x13 r0_10)⟩,
      ⟨r0_9, rwkvOf x5 x6 x7 x8 x9 64 slices_S1x512_o0_64_S1x64 (View.ld x13 r0_9)⟩,
      ⟨r0_8, rwkvOf x5 x6 x7 x8 x9 0 slices_S1x512_o0_0_S1x64 (View.ld x13 r0_8)⟩] := rfl

theorem load_row (x : Vec Ideal S1x1x512 .f32) (j : Fin 512) : View.ld x r0_0 (ix3 0 0 j) = x (ix3 0 0 j) :=
  congrArg x (idx3_same (a := 1) (b := 1) (c := 512) rfl rfl (by show 0 + 1 * j.val = j.val; omega))
theorem load_first (j : Fin 512) : View.ld x14 r0_1 (ix2 0 j) = x14 (ix2 0 j) :=
  congrArg x14 (idx2_same (a := 2) (b := 512) rfl (by show 0 + 1 * j.val = j.val; omega))
theorem load_second (j : Fin 512) : View.ld x14 r0_2 (ix2 0 j) = x14 (ix2 1 j) :=
  congrArg x14 (idx2_same (a := 2) (b := 512) rfl (by show 0 + 1 * j.val = j.val; omega))

/-- The gate of a lane of the row. -/
abbrev gateOf (j : Fin 512) : EReal := gate (x14 (ix2 0 j)) (x14 (ix2 1 j)) (x1 (ix3 0 0 j))

/-- What a point leaves of the first state: at each place, the old one times the gate and the input times its rest. -/
def hgrnBlock (y : S1x4x128x128.Idx) : EReal :=
  x12 y * gateOf x1 x14 (lane128 (y (1 : Fin 4)) (y (2 : Fin 4)))
    + (1 - gateOf x1 x14 (lane128 (y (1 : Fin 4)) (y (2 : Fin 4)))) * x2 (ix3 0 0 (lane128 (y (1 : Fin 4)) (y (3 : Fin 4))))

/-- And of the second. -/
def rwkvBlock (y : S1x8x64x64.Idx) : EReal :=
  x13 y * Ideal.exp (x5 (ix3 0 0 (lane64 (y (1 : Fin 4)) (y (3 : Fin 4)))))
    + (∑ j : Fin 64, x13 (ix4 0 (y (1 : Fin 4)) (y (2 : Fin 4)) j) * (0 - x8 (ix3 0 0 (lane64 (y (1 : Fin 4)) j))))
        * x9 (ix3 0 0 (lane64 (y (1 : Fin 4)) (y (3 : Fin 4))))
    + x7 (ix3 0 0 (lane64 (y (1 : Fin 4)) (y (2 : Fin 4)))) * x6 (ix3 0 0 (lane64 (y (1 : Fin 4)) (y (3 : Fin 4))))

theorem place4 (h : Fin 4) (inb) (d e : Fin 128) :
    (Rect.unit (s := S1x4x128x128) ![0, h.val, 0, 0] S1x1x128x128.size inb).emb (ix4 0 0 d e) = ix4 0 h d e :=
  idx4_same (a := 1) (b := 4) (c := 128) (d := 128) rfl rfl (by show 0 + 1 * d.val = d.val; omega) (by show 0 + 1 * e.val = e.val; omega)
theorem place8 (h : Fin 8) (inb) (a b : Fin 64) :
    (Rect.unit (s := S1x8x64x64) ![0, h.val, 0, 0] S1x1x64x64.size inb).emb (ix4 0 0 a b) = ix4 0 h a b :=
  idx4_same (a := 1) (b := 8) (c := 64) (d := 64) rfl rfl (by show 0 + 1 * a.val = a.val; omega) (by show 0 + 1 * b.val = b.val; omega)

theorem hgrn_piece (h : Fin 4) (o : ℕ) (ho : o = h.val * 128) (hs) (inb) (y : S1x1x128x128.Idx) :
    hgrnOf x1 x2 x14 o hs (View.ld x12 (Rect.unit (s := S1x4x128x128) ![0, h.val, 0, 0] S1x1x128x128.size inb)) y
      = hgrnBlock x1 x2 x12 x14 ((Rect.unit (s := S1x4x128x128) ![0, h.val, 0, 0] S1x1x128x128.size inb).emb y) := by
  obtain ⟨d, e, rfl⟩ : ∃ d e : Fin 128, y = ix4 0 0 d e := ⟨y (2 : Fin 4), y (3 : Fin 4),
    idx4_same (a := 1) (b := 1) (c := 128) (d := 128) (Nat.lt_one_iff.mp (y (0 : Fin 4)).isLt) (Nat.lt_one_iff.mp (y (1 : Fin 4)).isLt) rfl rfl⟩
  unfold hgrnOf
  rw [place4, hgrnHead_apply o hs _ _ _ _ h ho, gate_row, rest_row, input_row, load_row, load_row, load_first, load_second]
  exact congrArg (fun k => x12 k * _ + _) (place4 h inb d e)

theorem rwkv_piece (h : Fin 8) (o : ℕ) (ho : o = h.val * 64) (hs) (inb) (y : S1x1x64x64.Idx) :
    rwkvOf x5 x6 x7 x8 x9 o hs (View.ld x13 (Rect.unit (s := S1x8x64x64) ![0, h.val, 0, 0] S1x1x64x64.size inb)) y
      = rwkvBlock x5 x6 x7 x8 x9 x13 ((Rect.unit (s := S1x8x64x64) ![0, h.val, 0, 0] S1x1x64x64.size inb).emb y) := by
  obtain ⟨a, b, rfl⟩ : ∃ a b : Fin 64, y = ix4 0 0 a b := ⟨y (2 : Fin 4), y (3 : Fin 4),
    idx4_same (a := 1) (b := 1) (c := 64) (d := 64) (Nat.lt_one_iff.mp (y (0 : Fin 4)).isLt) (Nat.lt_one_iff.mp (y (1 : Fin 4)).isLt) rfl rfl⟩
  have hl : ∀ j : Fin 64, View.ld x13 (Rect.unit (s := S1x8x64x64) ![0, h.val, 0, 0] S1x1x64x64.size inb) (ix4 0 0 a j) = x13 (ix4 0 h a j) :=
    fun j => congrArg x13 (place8 h inb a j)
  unfold rwkvOf
  rw [place8, rwkvHead_apply o hs _ _ _ _ _ _ h ho]
  have h5 : ∀ j, k0_pay31 (F := Ideal) (View.ld x5 r0_0) (ix2 0 j) = Ideal.exp (x5 (ix3 0 0 j)) := fun j =>
    (decay_row _ j).trans (congrArg Ideal.exp (load_row x5 j))
  have h6 : ∀ j, k0_pay32 (F := Ideal) (View.ld x6 r0_0) (ix2 0 j) = x6 (ix3 0 0 j) := fun j => (key_row _ j).trans (load_row x6 j)
  have h7 : ∀ j, k0_pay33 (F := Ideal) (View.ld x7 r0_0) (ix2 0 j) = x7 (ix3 0 0 j) := fun j => (value_row _ j).trans (load_row x7 j)
  have h8 : ∀ j, k0_pay34 (F := Ideal) (View.ld x8 r0_0) (ix2 0 j) = x8 (ix3 0 0 j) := fun j => (removed_row _ j).trans (load_row x8 j)
  have h9 : ∀ j, k0_pay35 (F := Ideal) (View.ld x9 r0_0) (ix2 0 j) = x9 (ix3 0 0 j) := fun j => (gained_row _ j).trans (load_row x9 j)
  simp only [hl, h5, h6, h7, h8, h9]
  rfl

theorem out18_apply (y : S1x4x128x128.Idx) :
    out0_18 x0 x1 x2 x3 x4 x5 x6 x7 x8 x9 x10 x11 x12 x13 x14 x15 x16 y = hgrnBlock x1 x2 x12 x14 y := by
  rw [out18_heads]
  refine View.canon_apply_of_pieces (Val := Elt Ideal) (hgrnBlock x1 x2 x12 x14) _ ?_ y (cover0_18 _ _ _ _ y)
  simp only [List.forall_mem_cons]
  exact ⟨hgrn_piece x1 x2 x12 x14 3 _ rfl _ _, hgrn_piece x1 x2 x12 x14 2 _ rfl _ _, hgrn_piece x1 x2 x12 x14 1 _ rfl _ _,
    hgrn_piece x1 x2 x12 x14 0 _ rfl _ _, fun _ h => absurd h List.not_mem_nil⟩

theorem out19_apply (y : S1x8x64x64.Idx) :
    out0_19 x0 x1 x2 x3 x4 x5 x6 x7 x8 x9 x10 x11 x12 x13 x14 x15 x16 y = rwkvBlock x5 x6 x7 x8 x9 x13 y := by
  rw [out19_heads]
  refine View.canon_apply_of_pieces (Val := Elt Ideal) (rwkvBlock x5 x6 x7 x8 x9 x13) _ ?_ y (cover0_19 _ _ _ _ _ _ _ _ y)
  have piece := rwkv_piece x5 x6 x7 x8 x9 x13
  simp only [List.forall_mem_cons]
  exact ⟨piece 7 _ rfl _ _, piece 6 _ rfl _ _, piece 5 _ rfl _ _, piece 4 _ rfl _ _, piece 3 _ rfl _ _, piece 2 _ rfl _ _, piece 1 _ rfl _ _,
    piece 0 _ rfl _ _, fun _ h => absurd h List.not_mem_nil⟩
end Out

/-! ## The arrays -/

variable (m : (ℓ : Loc nD τ sig) → Buf (Elt Ideal) ℓ) (c : Dev nD)

/-- The first state after the step. -/
def hgrnState (f i : S32x1x512.Idx → EReal) (S : S32x4x128x128.Idx → EReal) (l : S2x512.Idx → EReal) (k : S32x4x128x128.Idx) : EReal :=
  S k * gate (l (ix2 0 (lane128 (k (1 : Fin 4)) (k (2 : Fin 4))))) (l (ix2 1 (lane128 (k (1 : Fin 4)) (k (2 : Fin 4)))))
      (f (ix3 (k (0 : Fin 4)) 0 (lane128 (k (1 : Fin 4)) (k (2 : Fin 4)))))
    + (1 - gate (l (ix2 0 (lane128 (k (1 : Fin 4)) (k (2 : Fin 4))))) (l (ix2 1 (lane128 (k (1 : Fin 4)) (k (2 : Fin 4)))))
        (f (ix3 (k (0 : Fin 4)) 0 (lane128 (k (1 : Fin 4)) (k (2 : Fin 4))))))
      * i (ix3 (k (0 : Fin 4)) 0 (lane128 (k (1 : Fin 4)) (k (3 : Fin 4))))

/-- And the second. -/
def rwkvState (w k v kk kka : S32x1x512.Idx → EReal) (S : S32x8x64x64.Idx → EReal) (y : S32x8x64x64.Idx) : EReal :=
  S y * Ideal.exp (w (ix3 (y (0 : Fin 4)) 0 (lane64 (y (1 : Fin 4)) (y (3 : Fin 4)))))
    + (∑ j : Fin 64, S (ix4 (y (0 : Fin 4)) (y (1 : Fin 4)) (y (2 : Fin 4)) j) * (0 - kk (ix3 (y (0 : Fin 4)) 0 (lane64 (y (1 : Fin 4)) j))))
        * kka (ix3 (y (0 : Fin 4)) 0 (lane64 (y (1 : Fin 4)) (y (3 : Fin 4))))
    + v (ix3 (y (0 : Fin 4)) 0 (lane64 (y (1 : Fin 4)) (y (2 : Fin 4)))) * k (ix3 (y (0 : Fin 4)) 0 (lane64 (y (1 : Fin 4)) (y (3 : Fin 4))))

/-- Rows and states that are a point's own leave the states' own blocks. -/
theorem hgrnBlock_at (x1 x2 : Vec Ideal S1x1x512 .f32) (x12 : Vec Ideal S1x4x128x128 .f32) (x14 : Vec Ideal S2x512 .f32)
    (f i : S32x1x512.Idx → EReal) (S : S32x4x128x128.Idx → EReal) (l : S2x512.Idx → EReal) (n : Fin 32)
    (e1 : ∀ j, x1 (ix3 0 0 j) = f (ix3 n 0 j)) (e2 : ∀ j, x2 (ix3 0 0 j) = i (ix3 n 0 j))
    (e12 : ∀ h d e, x12 (ix4 0 h d e) = S (ix4 n h d e)) (e14 : ∀ r j, x14 (ix2 r j) = l (ix2 r j)) (h : Fin 4) (d e : Fin 128) :
    hgrnBlock x1 x2 x12 x14 (ix4 0 h d e) = hgrnState f i S l (ix4 n h d e) := by
  show x12 (ix4 0 h d e) * gate (x14 (ix2 0 (lane128 h d))) (x14 (ix2 1 (lane128 h d))) (x1 (ix3 0 0 (lane128 h d)))
      + (1 - gate (x14 (ix2 0 (lane128 h d))) (x14 (ix2 1 (lane128 h d))) (x1 (ix3 0 0 (lane128 h d)))) * x2 (ix3 0 0 (lane128 h e)) = _
  rw [e1, e2, e12, e14, e14]
  rfl
theorem rwkvBlock_at (x5 x6 x7 x8 x9 : Vec Ideal S1x1x512 .f32) (x13 : Vec Ideal S1x8x64x64 .f32)
    (w k v kk kka : S32x1x512.Idx → EReal) (S : S32x8x64x64.Idx → EReal) (n : Fin 32)
    (e5 : ∀ j, x5 (ix3 0 0 j) = w (ix3 n 0 j)) (e6 : ∀ j, x6 (ix3 0 0 j) = k (ix3 n 0 j)) (e7 : ∀ j, x7 (ix3 0 0 j) = v (ix3 n 0 j))
    (e8 : ∀ j, x8 (ix3 0 0 j) = kk (ix3 n 0 j)) (e9 : ∀ j, x9 (ix3 0 0 j) = kka (ix3 n 0 j))
    (e13 : ∀ h d e, x13 (ix4 0 h d e) = S (ix4 n h d e)) (h : Fin 8) (a b : Fin 64) :
    rwkvBlock x5 x6 x7 x8 x9 x13 (ix4 0 h a b) = rwkvState w k v kk kka S (ix4 n h a b) := by
  show x13 (ix4 0 h a b) * Ideal.exp (x5 (ix3 0 0 (lane64 h b)))
      + (∑ j : Fin 64, x13 (ix4 0 h a j) * (0 - x8 (ix3 0 0 (lane64 h j)))) * x9 (ix3 0 0 (lane64 h b))
      + x7 (ix3 0 0 (lane64 h a)) * x6 (ix3 0 0 (lane64 h b)) = _
  simp only [e5, e6, e7, e8, e9, e13]
  rfl

abbrev a1 : S32x1x512.Idx → EReal := m ((c : Thread nD τ).loc main_arg1)
abbrev a2 : S32x1x512.Idx → EReal := m ((c : Thread nD τ).loc main_arg2)
abbrev a5 : S32x1x512.Idx → EReal := m ((c : Thread nD τ).loc main_arg5)
abbrev a6 : S32x1x512.Idx → EReal := m ((c : Thread nD τ).loc main_arg6)
abbrev a7 : S32x1x512.Idx → EReal := m ((c : Thread nD τ).loc main_arg7)
abbrev a8 : S32x1x512.Idx → EReal := m ((c : Thread nD τ).loc main_arg8)
abbrev a9 : S32x1x512.Idx → EReal := m ((c : Thread nD τ).loc main_arg9)
abbrev a12 : S32x4x128x128.Idx → EReal := m ((c : Thread nD τ).loc main_arg12)
abbrev a13 : S32x8x64x64.Idx → EReal := m ((c : Thread nD τ).loc main_arg13)
abbrev a14 : S2x512.Idx → EReal := m ((c : Thread nD τ).loc main_arg14)

/-! Each row's window, and each state's, has the point's own. -/

theorem index1 : ∀ t : Fin grid0.N, win0_1.index t = ![(grid0.coords t 0).val, 0, 0] := by decide +kernel
theorem index2 : ∀ t : Fin grid0.N, win0_2.index t = ![(grid0.coords t 0).val, 0, 0] := by decide +kernel
theorem index5 : ∀ t : Fin grid0.N, win0_5.index t = ![(grid0.coords t 0).val, 0, 0] := by decide +kernel
theorem index6 : ∀ t : Fin grid0.N, win0_6.index t = ![(grid0.coords t 0).val, 0, 0] := by decide +kernel
theorem index7 : ∀ t : Fin grid0.N, win0_7.index t = ![(grid0.coords t 0).val, 0, 0] := by decide +kernel
theorem index8 : ∀ t : Fin grid0.N, win0_8.index t = ![(grid0.coords t 0).val, 0, 0] := by decide +kernel
theorem index9 : ∀ t : Fin grid0.N, win0_9.index t = ![(grid0.coords t 0).val, 0, 0] := by decide +kernel
theorem index12 : ∀ t : Fin grid0.N, win0_12.index t = ![(grid0.coords t 0).val, 0, 0, 0] := by decide +kernel
theorem index13 : ∀ t : Fin grid0.N, win0_13.index t = ![(grid0.coords t 0).val, 0, 0, 0] := by decide +kernel
theorem index18 : ∀ t : Fin grid0.N, win0_18.index t = ![(grid0.coords t 0).val, 0, 0, 0] := by decide +kernel
theorem index19 : ∀ t : Fin grid0.N, win0_19.index t = ![(grid0.coords t 0).val, 0, 0, 0] := by decide +kernel
theorem index14 : ∀ t : Fin grid0.N, win0_14.index t = ![0, 0] := by decide +kernel

/-- The coordinates of a row's entry in its array, and of a state's. -/
theorem row_coords (n : ℕ) (j : Fin 512) (k : Fin 32) (h : k.val = n) : ∀ a : Fin 3, (![n, 0, 0] : Fin 3 → ℕ) a * (![1, 1, 512] : Fin 3 → ℕ) a
    + ((ix3 0 0 j : S1x1x512.Idx) a).val = ((ix3 k 0 j : S32x1x512.Idx) a).val
  | 0 => by show n * 1 + 0 = k.val; omega
  | 1 => rfl
  | 2 => Nat.zero_add _

theorem read1 (t : Fin cfg0.N) (j : Fin 512) : iblk m c 1 t (ix3 0 0 j) = a1 m c (ix3 (grid0.coords t 0) 0 j) := by
  unfold iblk
  exact congrArg (a1 m c) (emb_same (cfg0.win 1) t rfl _ (index1 t) (ix3 0 0 j) _ (row_coords _ j _ rfl))
theorem read2 (t : Fin cfg0.N) (j : Fin 512) : iblk m c 2 t (ix3 0 0 j) = a2 m c (ix3 (grid0.coords t 0) 0 j) := by
  unfold iblk
  exact congrArg (a2 m c) (emb_same (cfg0.win 2) t rfl _ (index2 t) (ix3 0 0 j) _ (row_coords _ j _ rfl))
theorem read5 (t : Fin cfg0.N) (j : Fin 512) : iblk m c 5 t (ix3 0 0 j) = a5 m c (ix3 (grid0.coords t 0) 0 j) := by
  unfold iblk
  exact congrArg (a5 m c) (emb_same (cfg0.win 5) t rfl _ (index5 t) (ix3 0 0 j) _ (row_coords _ j _ rfl))
theorem read6 (t : Fin cfg0.N) (j : Fin 512) : iblk m c 6 t (ix3 0 0 j) = a6 m c (ix3 (grid0.coords t 0) 0 j) := by
  unfold iblk
  exact congrArg (a6 m c) (emb_same (cfg0.win 6) t rfl _ (index6 t) (ix3 0 0 j) _ (row_coords _ j _ rfl))
theorem read7 (t : Fin cfg0.N) (j : Fin 512) : iblk m c 7 t (ix3 0 0 j) = a7 m c (ix3 (grid0.coords t 0) 0 j) := by
  unfold iblk
  exact congrArg (a7 m c) (emb_same (cfg0.win 7) t rfl _ (index7 t) (ix3 0 0 j) _ (row_coords _ j _ rfl))
theorem read8 (t : Fin cfg0.N) (j : Fin 512) : iblk m c 8 t (ix3 0 0 j) = a8 m c (ix3 (grid0.coords t 0) 0 j) := by
  unfold iblk
  exact congrArg (a8 m c) (emb_same (cfg0.win 8) t rfl _ (index8 t) (ix3 0 0 j) _ (row_coords _ j _ rfl))
theorem read9 (t : Fin cfg0.N) (j : Fin 512) : iblk m c 9 t (ix3 0 0 j) = a9 m c (ix3 (grid0.coords t 0) 0 j) := by
  unfold iblk
  exact congrArg (a9 m c) (emb_same (cfg0.win 9) t rfl _ (index9 t) (ix3 0 0 j) _ (row_coords _ j _ rfl))
theorem read12 (t : Fin cfg0.N) (h : Fin 4) (d e : Fin 128) : iblk m c 12 t (ix4 0 h d e) = a12 m c (ix4 (grid0.coords t 0) h d e) := by
  unfold iblk
  exact congrArg (a12 m c) (emb_same (cfg0.win 12) t rfl _ (index12 t) (ix4 0 h d e) _
    (all_four (by show (grid0.coords t 0).val * 1 + 0 = _; exact Nat.mul_one _) (Nat.zero_add _) (Nat.zero_add _) (Nat.zero_add _)))
theorem read13 (t : Fin cfg0.N) (h : Fin 8) (d e : Fin 64) : iblk m c 13 t (ix4 0 h d e) = a13 m c (ix4 (grid0.coords t 0) h d e) := by
  unfold iblk
  exact congrArg (a13 m c) (emb_same (cfg0.win 13) t rfl _ (index13 t) (ix4 0 h d e) _
    (all_four (by show (grid0.coords t 0).val * 1 + 0 = _; exact Nat.mul_one _) (Nat.zero_add _) (Nat.zero_add _) (Nat.zero_add _)))
theorem read14 (t : Fin cfg0.N) (r : Fin 2) (j : Fin 512) : iblk m c 14 t (ix2 r j) = a14 m c (ix2 r j) := by
  unfold iblk
  exact congrArg (a14 m c) (emb_same (cfg0.win 14) t rfl _ (index14 t) (ix2 r j) (ix2 r j) (Fin.forall_fin_two.mpr ⟨Nat.zero_add _, Nat.zero_add _⟩))

theorem point18 (t : Fin cfg0.N) (h : Fin 4) (d e : Fin 128) :
    hgrnBlock (iblk m c 1 t) (iblk m c 2 t) (iblk m c 12 t) (iblk m c 14 t) (ix4 0 h d e)
      = hgrnState (a1 m c) (a2 m c) (a12 m c) (a14 m c) (ix4 (grid0.coords t 0) h d e) :=
  hgrnBlock_at _ _ _ _ _ _ _ _ _ (read1 m c t) (read2 m c t) (read12 m c t) (read14 m c t) h d e

theorem point19 (t : Fin cfg0.N) (h : Fin 8) (a b : Fin 64) :
    rwkvBlock (iblk m c 5 t) (iblk m c 6 t) (iblk m c 7 t) (iblk m c 8 t) (iblk m c 9 t) (iblk m c 13 t) (ix4 0 h a b)
      = rwkvState (a5 m c) (a6 m c) (a7 m c) (a8 m c) (a9 m c) (a13 m c) (ix4 (grid0.coords t 0) h a b) :=
  rwkvBlock_at _ _ _ _ _ _ _ _ _ _ _ _ _ (read5 m c t) (read6 m c t) (read7 m c t) (read8 m c t) (read9 m c t) (read13 m c t) h a b

theorem array18 : (dats m 0 c).arrAt 18 cfg0.N = hgrnState (a1 m c) (a2 m c) (a12 m c) (a14 m c) :=
  (dats m 0 c).arrAt_eq_of_covers 18 _ (by decide +kernel) fun t _ y => by
    have e : y = ix4 (0 : Fin 1) (y (1 : Fin 4)) (y (2 : Fin 4)) (y (3 : Fin 4)) :=
      idx4_same (a := 1) (b := 4) (c := 128) (d := 128) (Nat.lt_one_iff.mp (y (0 : Fin 4)).isLt) rfl rfl rfl
    exact ((congrFun (after0_18 m c t) _).trans ((out18_apply _ _ _ _ _ _ _ _ _ _ _ _ _ _ _ _ _ y).trans
      ((congrArg (hgrnBlock _ _ _ _) e).trans (point18 m c t _ _ _)))).trans
      (congrArg (hgrnState (a1 m c) (a2 m c) (a12 m c) (a14 m c)) (emb_same (cfg0.win 18) t rfl _ (index18 t) y _
        (all_four (by show (grid0.coords t 0).val * 1 + (y (0 : Fin 4)).val = (grid0.coords t 0).val; have h := Nat.lt_one_iff.mp (y (0 : Fin 4)).isLt; omega)
          (Nat.zero_add _) (Nat.zero_add _) (Nat.zero_add _))).symm)

theorem array19 : (dats m 0 c).arrAt 19 cfg0.N = rwkvState (a5 m c) (a6 m c) (a7 m c) (a8 m c) (a9 m c) (a13 m c) :=
  (dats m 0 c).arrAt_eq_of_covers 19 _ (by decide +kernel) fun t _ y => by
    have e : y = ix4 (0 : Fin 1) (y (1 : Fin 4)) (y (2 : Fin 4)) (y (3 : Fin 4)) :=
      idx4_same (a := 1) (b := 8) (c := 64) (d := 64) (Nat.lt_one_iff.mp (y (0 : Fin 4)).isLt) rfl rfl rfl
    exact ((congrFun (after0_19 m c t) _).trans ((out19_apply _ _ _ _ _ _ _ _ _ _ _ _ _ _ _ _ _ y).trans
      ((congrArg (rwkvBlock _ _ _ _ _ _) e).trans (point19 m c t _ _ _)))).trans
      (congrArg (rwkvState (a5 m c) (a6 m c) (a7 m c) (a8 m c) (a9 m c) (a13 m c)) (emb_same (cfg0.win 19) t rfl _ (index19 t) y _
        (all_four (by show (grid0.coords t 0).val * 1 + (y (0 : Fin 4)).val = (grid0.coords t 0).val; have h := Nat.lt_one_iff.mp (y (0 : Fin 4)).isLt; omega)
          (Nat.zero_add _) (Nat.zero_add _) (Nat.zero_add _))).symm)

end Cert.Kernel8Ideal.Step

end
-- ==== Proof.Step.Ref.lean ====
/- One step of the two recurrences: its reference's states, and that its kernel's are the same. -/
module

public import proofs.«01_k».proof.Defs
public import proofs.«01_k».proof.Proof.Gen.Reference8Ideal.Run
public import proofs.«01_k».proof.Proof.Step.Value

@[expose] public section

set_option maxRecDepth 16384

noncomputable section

namespace Cert.Reference8Ideal.Step

open Cert.Reference8Ideal Cert.Reference8Ideal.Gen Cert.Proof.Index
open Idealize.ShloMosaic Idealize.ShloMosaic.TcCoe Idealize.SL.Sem
open Cert.Kernel8Ideal.Step (weight bound gate lane128 lane64 hgrnState rwkvState)
open scoped BigOperators

/-! ## The gate's bound -/

/-- The two rows' exponentials, and their shares. -/
abbrev powers (l : FVec Ideal S2x512 .f32) : FVec Ideal S2x512 .f32 :=
  Host.exp (subf l (broadcastInDim S2x512 ![0, 1] bcast_S1x512_S2x512_0_1 (broadcastInDim S1x512 ![1] bcast_S512_S1x512_1
    (maximumf (broadcastInDim S512 ![] bcast_S_S512 (constant S_ .f32 0xFF800000#32)) (Host.reduce FloatOps.maximumf l (constant S_ .f32 0xFF800000#32) reducesTo_S2x512_S512_d0 h_S_)))))
abbrev shares (p : FVec Ideal S2x512 .f32) : FVec Ideal S2x512 .f32 :=
  Host.divf p (broadcastInDim S2x512 ![0, 1] bcast_S1x512_S2x512_0_1 (broadcastInDim S1x512 ![1] bcast_S512_S1x512_1
    (Host.reduceAdd p (constant S_ .f32 0x00000000#32) reducesTo_S2x512_S512_d0 h_S_)))

theorem powers_apply (l : FVec Ideal S2x512 .f32) (r : Fin 2) (j : Fin 512) :
    powers l (ix2 r j) = Ideal.exp (l (ix2 r j) - max (l (ix2 0 j)) (l (ix2 1 j))) := by
  have hb : Ideal.ofBits FTy.f32 4286578688#32 = ⊥ := by simp [Ideal.ofBits, Ideal.ieee]
  have hf : Finset.fold max (⊥ : EReal) (fun x : Fin 2 => l (ix2 x j)) Finset.univ = max (l (ix2 0 j)) (l (ix2 1 j)) := by
    rw [show (Finset.univ : Finset (Fin 2)) = insert 0 {1} from rfl, Finset.fold_insert (by decide), Finset.fold_singleton, max_bot_right]
  unfold powers
  refine Eq.trans ?_ (congrArg (fun v : EReal => Ideal.exp (l (ix2 r j) - v)) ((max_bot_left _).trans hf))
  rw [← hb]
  pointwise
theorem shares_apply (p : FVec Ideal S2x512 .f32) (r : Fin 2) (j : Fin 512) :
    shares p (ix2 r j) = Ideal.div (p (ix2 r j)) (p (ix2 0 j) + p (ix2 1 j)) := by
  rw [← Fin.sum_univ_two (fun x => p (ix2 x j))]
  unfold shares
  pointwise

/-- The shares' running sum. -/
abbrev running (s : FVec Ideal S2x512 .f32) : FVec Ideal S2x512 .f32 :=
  Host.reduceWindowAdd ![2, 1] ![1, 1] ![1, 0] ![0, 0] s (broadcastInDim S_ ![] bcast_S_S_ (constant S_ .f32 0x00000000#32)) reduceWindows_S2x512_S2x512_w2s1p1_0_w1s1p0_0 h_S_
theorem running_apply (s : FVec Ideal S2x512 .f32) (j : Fin 512) : running s (ix2 1 j) = s (ix2 0 j) + s (ix2 1 j) := by
  have hz : (broadcastInDim S_ ![] bcast_S_S_ (constant S_ .f32 0x00000000#32) : FVec Ideal S_ .f32) (Shape.Idx.first h_S_) = (0 : EReal) := by
    pointwise
  unfold running Host.reduceWindowAdd
  rw [hz]
  show Host.reduceWindow (s := S2x512) (t := S2x512) (fun a b : EReal => a + b) ![2, 1] ![1, 1] ![1, 0] ![0, 0] s (fun _ : (⟨0, ![]⟩ : Shape).Idx => (0 : EReal))
    reduceWindows_S2x512_S2x512_w2s1p1_0_w1s1p0_0 (by decide) (ix2 1 j) = _
  unfold Host.reduceWindow
  dsimp only
  have hl : List.finRange (Shape.numel ⟨2, ![2, 1]⟩) = [⟨0, by decide⟩, ⟨1, by decide⟩] := by decide
  erw [hl]
  simp only [List.foldl]
  have c0 : ((⟨2, ![2, 1]⟩ : Shape).rowMajor.symm ⟨0, by decide⟩ 0).val = 0 := by decide +kernel
  have c1 : ((⟨2, ![2, 1]⟩ : Shape).rowMajor.symm ⟨1, by decide⟩ 0).val = 1 := by decide +kernel
  have d : ∀ n, ((⟨2, ![2, 1]⟩ : Shape).rowMajor.symm n 1).val = 0 := fun n => Nat.lt_one_iff.mp ((⟨2, ![2, 1]⟩ : Shape).rowMajor.symm n 1).isLt
  rw [dif_pos, dif_pos, zero_add]
  · refine congrArg₂ (fun x y : EReal => x + y) (congrArg s (idx2_same (a := 2) (b := 512) ?_ ?_)) (congrArg s (idx2_same (a := 2) (b := 512) ?_ ?_))
    · show 1 * 1 + _ - 1 = 0
      rw [c0]
    · show j.val * 1 + _ - 0 = j.val
      rw [d]
      omega
    · show 1 * 1 + _ - 1 = 1
      rw [c1]
    · show j.val * 1 + _ - 0 = j.val
      rw [d]
      omega
  · refine Fin.forall_fin_two.mpr ⟨?_, ?_⟩
    · show 1 ≤ 1 * 1 + _ ∧ 1 * 1 + _ - 1 < 2
      rw [c1]
      omega
    · show 0 ≤ j.val * 1 + _ ∧ j.val * 1 + _ - 0 < 512
      rw [d]
      omega
  · refine Fin.forall_fin_two.mpr ⟨?_, ?_⟩
    · show 1 ≤ 1 * 1 + _ ∧ 1 * 1 + _ - 1 < 2
      rw [c0]
      omega
    · show 0 ≤ j.val * 1 + _ ∧ j.val * 1 + _ - 0 < 512
      rw [d]
      omega

/-- A lane's bound. -/
abbrev bounds (s : FVec Ideal S2x512 .f32) : FVec Ideal S512 .f32 :=
  shapeCast S512 (extractStridedSlice S1x512 ![1, 0] (subf (running s) (broadcastInDim S2x512 ![0, 1] bcast_S1x512_S2x512_0_1
    (broadcastInDim S1x512 ![1] bcast_S512_S1x512_1 (shapeCast S512 (extractStridedSlice S1x512 ![0, 0] s slices_S2x512_S1x512_0_0) shapeCasts_S1x512_S512))))
    slices_S2x512_S1x512_1_0) shapeCasts_S1x512_S512

theorem bounds_apply (l : FVec Ideal S2x512 .f32) (j : Fin 512) : bounds (shares (powers l)) (ix1 j) = bound (l (ix2 0 j)) (l (ix2 1 j)) := by
  unfold bound weight
  rw [← powers_apply, ← powers_apply, ← shares_apply, ← shares_apply, ← running_apply]
  unfold bounds
  generalize running (shares (powers l)) = R
  generalize shares (powers l) = s
  pointwise

/-! ## The gates and the states -/

/-- The gates of the rows, by head. -/
abbrev gates (B : FVec Ideal S512 .f32) (z : FVec Ideal S32x1x512 .f32) : FVec Ideal S32x1x512 .f32 :=
  addf (broadcastInDim S32x1x512 ![0, 1, 2] bcast_S1x1x512_S32x1x512_0_1_2 (broadcastInDim S1x1x512 ![2] bcast_S512_S1x1x512_2 B))
    (mulf (broadcastInDim S32x1x512 ![0, 1, 2] bcast_S1x1x512_S32x1x512_0_1_2 (broadcastInDim S1x1x512 ![2] bcast_S512_S1x1x512_2
        (subf (broadcastInDim S512 ![] bcast_S_S512 (constant S_ .f32 0x3F800000#32)) B)))
      (Host.divf (broadcastInDim S32x1x512 ![] bcast_S_S32x1x512 (constant S_ .f32 0x3F800000#32))
        (addf (broadcastInDim S32x1x512 ![] bcast_S_S32x1x512 (constant S_ .f32 0x3F800000#32)) (Host.exp (Host.negf z)))))

theorem gates_apply (B : FVec Ideal S512 .f32) (z : FVec Ideal S32x1x512 .f32) (n : Fin 32) (j : Fin 512) :
    gates B z (ix3 n 0 j) = B (ix1 j) + (1 - B (ix1 j)) * Ideal.logistic (z (ix3 n 0 j)) := by
  unfold gates Ideal.logistic
  pointwise

/-- A row's lanes by head, read at one of them. -/
theorem heads4 (X : FVec Ideal S32x1x512 .f32) (n : Fin 32) (h : Fin 4) (d : Fin 128) :
    shapeCast S32x4x128 X shapeCasts_S32x1x512_S32x4x128 (ix3 n h d) = X (ix3 n 0 (lane128 h d)) := by
  unfold lane128
  pointwise
theorem heads8 (X : FVec Ideal S32x1x512 .f32) (n : Fin 32) (h : Fin 8) (d : Fin 64) :
    shapeCast S32x8x64 X shapeCasts_S32x1x512_S32x8x64 (ix3 n h d) = X (ix3 n 0 (lane64 h d)) := by
  unfold lane64
  pointwise

/-- The first state, from the gates and inputs by head. -/
abbrev hgrnNew (S : FVec Ideal S32x4x128x128 .f32) (f i : FVec Ideal S32x4x128 .f32) : FVec Ideal S32x4x128x128 .f32 :=
  addf (mulf S (broadcastInDim S32x4x128x128 ![0, 1, 2, 3] bcast_S32x4x128x1_S32x4x128x128_0_1_2_3
      (broadcastInDim S32x4x128x1 ![0, 1, 2] bcast_S32x4x128_S32x4x128x1_0_1_2 f)))
    (mulf (broadcastInDim S32x4x128x128 ![0, 1, 2, 3] bcast_S32x4x128x1_S32x4x128x128_0_1_2_3
        (broadcastInDim S32x4x128x1 ![0, 1, 2] bcast_S32x4x128_S32x4x128x1_0_1_2
          (subf (broadcastInDim S32x4x128 ![] bcast_S_S32x4x128 (constant S_ .f32 0x3F800000#32)) f)))
      (broadcastInDim S32x4x128x128 ![0, 1, 2, 3] bcast_S32x4x1x128_S32x4x128x128_0_1_2_3
        (broadcastInDim S32x4x1x128 ![0, 1, 3] bcast_S32x4x128_S32x4x1x128_0_1_3 i)))
theorem hgrnNew_apply (S : FVec Ideal S32x4x128x128 .f32) (f i : FVec Ideal S32x4x128 .f32) (n : Fin 32) (h : Fin 4) (d e : Fin 128) :
    hgrnNew S f i (ix4 n h d e) = S (ix4 n h d e) * f (ix3 n h d) + (1 - f (ix3 n h d)) * i (ix3 n h e) := by
  unfold hgrnNew
  pointwise

/-- The second. -/
abbrev rwkvNew (S : FVec Ideal S32x8x64x64 .f32) (w k v kk kka : FVec Ideal S32x8x64 .f32) : FVec Ideal S32x8x64x64 .f32 :=
  addf (addf (mulf S (broadcastInDim S32x8x64x64 ![0, 1, 2, 3] bcast_S32x8x1x64_S32x8x64x64_0_1_2_3
        (broadcastInDim S32x8x1x64 ![0, 1, 3] bcast_S32x8x64_S32x8x1x64_0_1_3 w)))
      (mulf (broadcastInDim S32x8x64x64 ![0, 1, 2, 3] bcast_S32x8x64x1_S32x8x64x64_0_1_2_3 (broadcastInDim S32x8x64x1 ![0, 1, 2] bcast_S32x8x64_S32x8x64x1_0_1_2
          (Host.dotGeneral dot_S32x8x64x64_S32x8x64_S32x8x64_3_2_2_n_01_01 none S (Host.negf kk))))
        (broadcastInDim S32x8x64x64 ![0, 1, 2, 3] bcast_S32x8x1x64_S32x8x64x64_0_1_2_3
          (broadcastInDim S32x8x1x64 ![0, 1, 3] bcast_S32x8x64_S32x8x1x64_0_1_3 kka))))
    (mulf (broadcastInDim S32x8x64x64 ![0, 1, 2, 3] bcast_S32x8x64x1_S32x8x64x64_0_1_2_3 (broadcastInDim S32x8x64x1 ![0, 1, 2] bcast_S32x8x64_S32x8x64x1_0_1_2 v))
      (broadcastInDim S32x8x64x64 ![0, 1, 2, 3] bcast_S32x8x1x64_S32x8x64x64_0_1_2_3 (broadcastInDim S32x8x1x64 ![0, 1, 3] bcast_S32x8x64_S32x8x1x64_0_1_3 k)))
theorem rwkvNew_apply (S : FVec Ideal S32x8x64x64 .f32) (w k v kk kka : FVec Ideal S32x8x64 .f32) (n : Fin 32) (h : Fin 8) (a b : Fin 64) :
    rwkvNew S w k v kk kka (ix4 n h a b) = S (ix4 n h a b) * w (ix3 n h b)
      + (∑ j : Fin 64, S (ix4 n h a j) * (0 - kk (ix3 n h j))) * kka (ix3 n h b) + v (ix3 n h a) * k (ix3 n h b) := by
  simp only [zero_sub]
  unfold rwkvNew
  pointwise [dot_S32x8x64x64_S32x8x64_S32x8x64_3_2_2_n_01_01]

theorem hgrn_at (f i : FVec Ideal S32x1x512 .f32) (S : FVec Ideal S32x4x128x128 .f32) (l : FVec Ideal S2x512 .f32) (n : Fin 32) (h : Fin 4) (d e : Fin 128) :
    hgrnNew S (shapeCast S32x4x128 (gates (bounds (shares (powers l))) f) shapeCasts_S32x1x512_S32x4x128)
      (shapeCast S32x4x128 i shapeCasts_S32x1x512_S32x4x128) (ix4 n h d e) = hgrnState f i S l (ix4 n h d e) := by
  rw [hgrnNew_apply, heads4, heads4, gates_apply, bounds_apply]
  rfl
theorem hgrn_eq (f i : FVec Ideal S32x1x512 .f32) (S : FVec Ideal S32x4x128x128 .f32) (l : FVec Ideal S2x512 .f32) :
    hgrnNew S (shapeCast S32x4x128 (gates (bounds (shares (powers l))) f) shapeCasts_S32x1x512_S32x4x128)
      (shapeCast S32x4x128 i shapeCasts_S32x1x512_S32x4x128) = hgrnState f i S l := by
  funext k
  have e : k = ix4 (k (0 : Fin 4)) (k (1 : Fin 4)) (k (2 : Fin 4)) (k (3 : Fin 4)) := idx4_same (a := 32) (b := 4) (c := 128) (d := 128) rfl rfl rfl rfl
  exact (congrArg _ e).trans ((hgrn_at f i S l _ _ _ _).trans (congrArg _ e.symm))

theorem rwkv_at (w k v kk kka : FVec Ideal S32x1x512 .f32) (S : FVec Ideal S32x8x64x64 .f32) (n : Fin 32) (h : Fin 8) (a b : Fin 64) :
    rwkvNew S (shapeCast S32x8x64 (Host.exp w) shapeCasts_S32x1x512_S32x8x64) (shapeCast S32x8x64 k shapeCasts_S32x1x512_S32x8x64)
      (shapeCast S32x8x64 v shapeCasts_S32x1x512_S32x8x64) (shapeCast S32x8x64 kk shapeCasts_S32x1x512_S32x8x64)
      (shapeCast S32x8x64 kka shapeCasts_S32x1x512_S32x8x64) (ix4 n h a b) = rwkvState w k v kk kka S (ix4 n h a b) := by
  rw [rwkvNew_apply]
  simp only [heads8]
  rfl
theorem rwkv_eq (w k v kk kka : FVec Ideal S32x1x512 .f32) (S : FVec Ideal S32x8x64x64 .f32) :
    rwkvNew S (shapeCast S32x8x64 (Host.exp w) shapeCasts_S32x1x512_S32x8x64) (shapeCast S32x8x64 k shapeCasts_S32x1x512_S32x8x64)
      (shapeCast S32x8x64 v shapeCasts_S32x1x512_S32x8x64) (shapeCast S32x8x64 kk shapeCasts_S32x1x512_S32x8x64)
      (shapeCast S32x8x64 kka shapeCasts_S32x1x512_S32x8x64) = rwkvState w k v kk kka S := by
  funext y
  have e : y = ix4 (y (0 : Fin 4)) (y (1 : Fin 4)) (y (2 : Fin 4)) (y (3 : Fin 4)) := idx4_same (a := 32) (b := 8) (c := 64) (d := 64) rfl rfl rfl rfl
  exact (congrArg _ e).trans ((rwkv_at w k v kk kka S _ _ _ _).trans (congrArg _ e.symm))

variable (m : (ℓ : Loc nD τ sig) → Buf (Elt Ideal) ℓ) (c : Dev nD)

/-- The reference's first state is that. -/
theorem first_eq : Value.res_main_v45 m c = hgrnState (m ((c.tc : Thread nD τ).loc main_arg1)) (m ((c.tc : Thread nD τ).loc main_arg2))
    (m ((c.tc : Thread nD τ).loc main_arg12)) (m ((c.tc : Thread nD τ).loc main_arg14)) :=
  Eq.trans rfl (hgrn_eq (m ((c.tc : Thread nD τ).loc main_arg1)) (m ((c.tc : Thread nD τ).loc main_arg2)) (m ((c.tc : Thread nD τ).loc main_arg12))
    (m ((c.tc : Thread nD τ).loc main_arg14)))

end Cert.Reference8Ideal.Step

namespace Cert.Proof.Step

open Idealize.ShloMosaic Idealize.SL.Sem

/-- The equation of the step. -/
theorem equation_step : Cert.algebraic_Kernel8Ideal_Reference8Ideal (hKernel8Ideal := Cert.Kernel8Ideal.Gen.facts)
    (hReference8Ideal := Cert.Reference8Ideal.Gen.facts) := by
  intro m g m' g' hpre hargs
  refine ⟨_, _, (θ_run Cert.Kernel8Ideal.defs _ _).mono (fun r hr c => ⟨(hr c).2.1.trans (Cert.Kernel8Ideal.Step.array18 m c),
    (hr c).2.2.1.trans (Cert.Kernel8Ideal.Step.array19 m c), (hr c).2.2.2⟩) (Cert.Kernel8Ideal.Value.run_blocks m g), ?_⟩
  refine (θ_run Cert.Reference8Ideal.defs _ _).mono (fun r hr c => ?_) (Cert.Reference8Ideal.Value.run m' g')
  obtain ⟨e0, e1, e2, e3, e4, e5, e6, e7, e8, e9, e10, e11, e12, e13, e14, e15, e16⟩ := hargs c
  have h1 := (hr c).1.trans (Cert.Reference8Ideal.Step.first_eq m' c)
  have h2 := (hr c).2.1.trans (Cert.Reference8Ideal.Step.rwkv_eq _ _ _ _ _ _)
  rw [e1, e2, e12, e14] at h1
  rw [e5, e6, e7, e8, e9, e13] at h2
  exact ⟨h1, h2, (hr c).2.2⟩

end Cert.Proof.Step

end
-- ==== Proof.lean ====
/- The claims about the experts, the four input projections, the feed-forward, the second output projection, the position bias and the step of the recurrences, assembled from the modules that prove each. -/
module

public import proofs.«01_k».proof.Defs
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Pre_tables_in_range
public import proofs.«01_k».proof.Proof.Experts.Same
public import proofs.«01_k».proof.Proof.Experts.Equation
public import proofs.«01_k».proof.Proof.Rows.Sample
public import proofs.«01_k».proof.Proof.Rows.Prompt
public import proofs.«01_k».proof.Proof.Ffn.Ref
public import proofs.«01_k».proof.Proof.Ffn.Residual
public import proofs.«01_k».proof.Proof.Shift.Ref
public import proofs.«01_k».proof.Proof.Shift.SampleRef
public import proofs.«01_k».proof.Proof.Bias.Ref
public import proofs.«01_k».proof.Proof.Step.Ref

@[expose] public section

namespace Cert.Proof

open Idealize.ShloMosaic Idealize.SL.Sem

/-- The experts' ideal program ends, with its arguments unchanged and its counters at zero, from tables in range. -/
theorem frame_experts_ideal : Cert.quiescent_KernelIdeal (hKernelIdeal := Cert.KernelIdeal.Gen.facts)
    (hPre_tables_in_range := Cert.Pre_tables_in_range.Gen.facts) :=
  fun m ρ h => Cert.KernelIdeal.Experts.frame m ρ
    (Cert.KernelIdeal.Experts.ok_of_words m (Cert.KernelIdeal.Experts.words_of_pre _ _ _ _ _ _ (h 0).1 (h 0).2))

/-- The reference of the experts ends with its arguments unchanged; it has no counters. -/
theorem frame_reference : Cert.quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.ReferenceIdeal.Value.run (F := Ideal) m ρ)

/-- So do the reference of the sample rows' projection, -/
theorem frame_reference2 : Cert.quiescent_Reference2Ideal (hReference2Ideal := Cert.Reference2Ideal.Gen.facts) := fun m ρ _ =>
  (θ_run Cert.Reference2Ideal.defs _ _).mono (fun r h => And.intro (fun c => (h c).2.2.2.2.2.2) (sem_eq_zero_of_no_sems (by decide) r.2))
    (Cert.Reference2Ideal.Value.run (F := Ideal) m ρ)

/-- that of the prompt rows', -/
theorem frame_reference3 : Cert.quiescent_Reference3Ideal (hReference3Ideal := Cert.Reference3Ideal.Gen.facts) := fun m ρ _ =>
  (θ_run Cert.Reference3Ideal.defs _ _).mono (fun r h => And.intro (fun c => (h c).2.2.2.2.2.2.2.2.2) (sem_eq_zero_of_no_sems (by decide) r.2))
    (Cert.Reference3Ideal.Value.run (F := Ideal) m ρ)

/-- that of the feed-forward, -/
theorem frame_reference4 : Cert.quiescent_Reference4Ideal (hReference4Ideal := Cert.Reference4Ideal.Gen.facts) := fun m ρ _ =>
  (θ_run Cert.Reference4Ideal.defs _ _).mono (fun r h => And.intro (fun c => (h c).2) (sem_eq_zero_of_no_sems (by decide) r.2))
    (Cert.Reference4Ideal.Value.run (F := Ideal) m ρ)

/-- that of the second layer's output projection, -/
theorem frame_reference5 : Cert.quiescent_Reference5Ideal (hReference5Ideal := Cert.Reference5Ideal.Gen.facts) := fun m ρ _ =>
  (θ_run Cert.Reference5Ideal.defs _ _).mono (fun r h => And.intro (fun c => (h c).2) (sem_eq_zero_of_no_sems (by decide) r.2))
    (Cert.Reference5Ideal.Value.run (F := Ideal) m ρ)

/-- that of its input projection, -/
theorem frame_reference6 : Cert.quiescent_Reference6Ideal (hReference6Ideal := Cert.Reference6Ideal.Gen.facts) := fun m ρ _ =>
  (θ_run Cert.Reference6Ideal.defs _ _).mono (fun r h => And.intro (fun c => (h c).2.2.2.2.2.2.2.2.2) (sem_eq_zero_of_no_sems (by decide) r.2))
    (Cert.Reference6Ideal.Value.run (F := Ideal) m ρ)

/-- that of the position bias -/
theorem frame_reference7 : Cert.quiescent_Reference7Ideal (hReference7Ideal := Cert.Reference7Ideal.Gen.facts) := fun m ρ _ =>
  (θ_run Cert.Reference7Ideal.defs _ _).mono (fun r h => And.intro (fun c => (h c).2) (sem_eq_zero_of_no_sems (by decide) r.2))
    (Cert.Reference7Ideal.Value.run (F := Ideal) m ρ)

/-- that of the recurrences' step -/
theorem frame_reference8 : Cert.quiescent_Reference8Ideal (hReference8Ideal := Cert.Reference8Ideal.Gen.facts) := fun m ρ _ =>
  (θ_run Cert.Reference8Ideal.defs _ _).mono (fun r h => And.intro (fun c => (h c).2.2) (sem_eq_zero_of_no_sems (by decide) r.2))
    (Cert.Reference8Ideal.Value.run (F := Ideal) m ρ)

/-- and that of the sample's second projection. -/
theorem frame_reference9 : Cert.quiescent_Reference9Ideal (hReference9Ideal := Cert.Reference9Ideal.Gen.facts) := fun m ρ _ =>
  (θ_run Cert.Reference9Ideal.defs _ _).mono (fun r h => And.intro (fun c => (h c).2.2.2.2.2.2.2.2.2) (sem_eq_zero_of_no_sems (by decide) r.2))
    (Cert.Reference9Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_tables_in_range.Gen.facts,
  Cert.Proof.Experts.frame_kernel, frame_experts_ideal, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  trivial, Cert.Proof.Experts.equation, trivial, Cert.Proof.Rows.equation_sample, trivial, Cert.Proof.Rows.equation_prompt, trivial, Cert.Proof.Ffn.equation_ffn,
  trivial, Cert.Proof.Ffn.equation_residual, trivial, Cert.Proof.Shift.equation_shift, trivial, Cert.Proof.Bias.equation_bias,
  trivial, Cert.Proof.Step.equation_step, trivial, Cert.Proof.Shift.equation_sample⟩

end Cert.Proof

end
